-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ffn [hPre_tables_ok : Cert.Pre_tables_ok.Facts] (m : (ℓ : Loc Cert.Ffn.nD Cert.Ffn.τ Cert.Ffn.sig) → Buf (Elt Bits) ℓ) : Prop :=
  ∀ c : Dev Cert.Ffn.nD,
    (Cert.Pre_tables_ok.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_tables_ok : Cert.Pre_tables_ok.Facts] (m : (ℓ : Loc Cert.FfnIdeal.nD Cert.FfnIdeal.τ Cert.FfnIdeal.sig) → Buf (Elt Ideal) ℓ) : Prop :=
  ∀ c : Dev Cert.FfnIdeal.nD,
    (Cert.Pre_tables_ok.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tables_ok [hPre_tables_ok : Cert.Pre_tables_ok.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tables_ok.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] [hPre_tables_ok : Cert.Pre_tables_ok.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_tables_ok : Cert.Pre_tables_ok.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_tables_ok [hFfnRefIdeal : Cert.FfnRefIdeal.Facts] [hPre_tables_ok : Cert.Pre_tables_ok.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tables_ok m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] [hPre_tables_ok : Cert.Pre_tables_ok.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v76_0)) (v1 : (c : Dev Cert.ProjIdeal.nD) → Buf (Elt Ideal) ((c.tc : Thread Cert.ProjIdeal.nD Cert.ProjIdeal.τ).loc Cert.ProjIdeal.main_v76_1)) (v2 : (c : Dev Cert.ProjIdeal.nD) → Buf (Elt Ideal) ((c.tc : Thread Cert.ProjIdeal.nD Cert.ProjIdeal.τ).loc Cert.ProjIdeal.main_v76_2)) (v3 : (c : Dev Cert.ProjIdeal.nD) → Buf (Elt Ideal) ((c.tc : Thread Cert.ProjIdeal.nD Cert.ProjIdeal.τ).loc Cert.ProjIdeal.main_v76_3)) (v4 : (c : Dev Cert.ProjIdeal.nD) → Buf (Elt Ideal) ((c.tc : Thread Cert.ProjIdeal.nD Cert.ProjIdeal.τ).loc Cert.ProjIdeal.main_v76_4)) (v5 : (c : Dev Cert.ProjIdeal.nD) → Buf (Elt Ideal) ((c.tc : Thread Cert.ProjIdeal.nD Cert.ProjIdeal.τ).loc Cert.ProjIdeal.main_v76_5)) (v6 : (c : Dev Cert.ProjIdeal.nD) → Buf (Elt Ideal) ((c.tc : Thread Cert.ProjIdeal.nD Cert.ProjIdeal.τ).loc Cert.ProjIdeal.main_v76_6)) (v7 : (c : Dev Cert.ProjIdeal.nD) → Buf (Elt Ideal) ((c.tc : Thread Cert.ProjIdeal.nD Cert.ProjIdeal.τ).loc Cert.ProjIdeal.main_v76_7)) (v8 : (c : Dev Cert.ProjIdeal.nD) → Buf (Elt Ideal) ((c.tc : Thread Cert.ProjIdeal.nD Cert.ProjIdeal.τ).loc Cert.ProjIdeal.main_v76_8)) (v9 : (c : Dev Cert.ProjIdeal.nD) → Buf (Elt Ideal) ((c.tc : Thread Cert.ProjIdeal.nD Cert.ProjIdeal.τ).loc Cert.ProjIdeal.main_v76_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v76_0) = v0 c
          ∧ r.2.mem ((c.tc : Thread Cert.ProjIdeal.nD Cert.ProjIdeal.τ).loc Cert.ProjIdeal.main_v76_1) = v1 c
          ∧ r.2.mem ((c.tc : Thread Cert.ProjIdeal.nD Cert.ProjIdeal.τ).loc Cert.ProjIdeal.main_v76_2) = v2 c
          ∧ r.2.mem ((c.tc : Thread Cert.ProjIdeal.nD Cert.ProjIdeal.τ).loc Cert.ProjIdeal.main_v76_3) = v3 c
          ∧ r.2.mem ((c.tc : Thread Cert.ProjIdeal.nD Cert.ProjIdeal.τ).loc Cert.ProjIdeal.main_v76_4) = v4 c
          ∧ r.2.mem ((c.tc : Thread Cert.ProjIdeal.nD Cert.ProjIdeal.τ).loc Cert.ProjIdeal.main_v76_5) = v5 c
          ∧ r.2.mem ((c.tc : Thread Cert.ProjIdeal.nD Cert.ProjIdeal.τ).loc Cert.ProjIdeal.main_v76_6) = v6 c
          ∧ r.2.mem ((c.tc : Thread Cert.ProjIdeal.nD Cert.ProjIdeal.τ).loc Cert.ProjIdeal.main_v76_7) = v7 c
          ∧ r.2.mem ((c.tc : Thread Cert.ProjIdeal.nD Cert.ProjIdeal.τ).loc Cert.ProjIdeal.main_v76_8) = v8 c
          ∧ r.2.mem ((c.tc : Thread Cert.ProjIdeal.nD Cert.ProjIdeal.τ).loc Cert.ProjIdeal.main_v76_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v114) = v0 c
          ∧ r.2.mem ((c.tc : Thread Cert.ProjRefIdeal.nD Cert.ProjRefIdeal.τ).loc Cert.ProjRefIdeal.main_v115) = v1 c
          ∧ r.2.mem ((c.tc : Thread Cert.ProjRefIdeal.nD Cert.ProjRefIdeal.τ).loc Cert.ProjRefIdeal.main_v116) = v2 c
          ∧ r.2.mem ((c.tc : Thread Cert.ProjRefIdeal.nD Cert.ProjRefIdeal.τ).loc Cert.ProjRefIdeal.main_v119) = v3 c
          ∧ r.2.mem ((c.tc : Thread Cert.ProjRefIdeal.nD Cert.ProjRefIdeal.τ).loc Cert.ProjRefIdeal.main_v120) = v4 c
          ∧ r.2.mem ((c.tc : Thread Cert.ProjRefIdeal.nD Cert.ProjRefIdeal.τ).loc Cert.ProjRefIdeal.main_v121) = v5 c
          ∧ r.2.mem ((c.tc : Thread Cert.ProjRefIdeal.nD Cert.ProjRefIdeal.τ).loc Cert.ProjRefIdeal.main_v122) = v6 c
          ∧ r.2.mem ((c.tc : Thread Cert.ProjRefIdeal.nD Cert.ProjRefIdeal.τ).loc Cert.ProjRefIdeal.main_v123) = v7 c
          ∧ r.2.mem ((c.tc : Thread Cert.ProjRefIdeal.nD Cert.ProjRefIdeal.τ).loc Cert.ProjRefIdeal.main_v125) = v8 c
          ∧ r.2.mem ((c.tc : Thread Cert.ProjRefIdeal.nD Cert.ProjRefIdeal.τ).loc Cert.ProjRefIdeal.main_v127) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_scores_finite : Cert.Pre_scores_finite.Facts) (hPre_tables_ok : Cert.Pre_tables_ok.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn) (hPre_tables_ok := hPre_tables_ok)
    ∧ quiescent_FfnIdeal (hFfnIdeal := hFfnIdeal) (hPre_tables_ok := hPre_tables_ok)
    ∧ quiescent_FfnRefIdeal (hFfnRefIdeal := hFfnRefIdeal)
    ∧ quiescent_FfnRefIdeal_pre_tables_ok (hFfnRefIdeal := hFfnRefIdeal) (hPre_tables_ok := hPre_tables_ok)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal) (hPre_tables_ok := hPre_tables_ok)
    ∧ preserves_Proj_ProjIdeal
    ∧ algebraic_ProjIdeal_ProjRefIdeal (hProjIdeal := hProjIdeal) (hProjRefIdeal := hProjRefIdeal)
-- ==== Pre_scores_finite.lean ====
abbrev S8x4096x512 : Shape := ⟨3, ![8, 4096, 512]⟩
abbrev S8x4096x128 : Shape := ⟨3, ![8, 4096, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x512 .bf16) (main_arg1 : FVec F S8x4096x128 .bf16) (main_arg2 : FVec F S8x4096x128 .bf16) : IVec S_ 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x128 .bf16 := Host.absf main_arg1
  let main_cst_0 : FVec F S_ .bf16 := constant S_ .bf16 0x7F80#16
  let main_v5 : FVec F S8x4096x128 .bf16 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Pre_tables_ok.lean ====
abbrev S288 : Shape := ⟨1, ![288]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S287 : Shape := ⟨1, ![287]⟩

class Facts : Prop where
  bcast_S_S288 : S_.BroadcastsInDim S288 (![] : Fin 0 → Fin S288.rank)
  reducesTo_S288_S_d0 : S288.ReducesTo [0] S_
  h_S_ : 0 < S_.numel
  slices_S288_S287_1 : S288.Slices ![1] S287
  slices_S288_S287_0 : S288.Slices ![0] S287
  bcast_S_S287 : S_.BroadcastsInDim S287 (![] : Fin 0 → Fin S287.rank)
  reducesTo_S287_S_d0 : S287.ReducesTo [0] S_

variable [Facts]

def fn_part1 {F : FTy → Type} [FloatOps F] (main_v9 : IVec S_ 1) (main_v16 : IVec S287 1) (main_v17 : IVec S287 32) : IVec S_ 1 :=
  let main_c_5 : IVec S_ 32 := constantI S_ 32 0#32
  let main_v18 : IVec S287 32 := broadcastInDim S287 ![] bcast_S_S287 main_c_5
  let main_v19 : IVec S287 1 := cmpi .sgt main_v17 main_v18
  let main_v20 : IVec S287 1 := ori main_v16 main_v19
  let main_c_6 : IVec S_ 1 := constantI S_ 1 1#1
  let main_v21 : IVec S_ 1 := (fun x v => Host.reduce IntOp.andi x v reducesTo_S287_S_d0 h_S_) main_v20 main_c_6
  let main_v22 : IVec S_ 1 := andi main_v9 main_v21
  main_v22

def fn {F : FTy → Type} [FloatOps F] (main_arg0 : IVec S288 32) (main_arg1 : IVec S288 32) (main_arg2 : FVec F S147456x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 0#32
  let main_v6 : IVec S288 32 := broadcastInDim S288 ![] bcast_S_S288 main_c_2
  let main_v7 : IVec S288 1 := cmpi .sge main_arg1 main_v6
  let main_c_3 : IVec S_ 1 := constantI S_ 1 1#1
  let main_v8 : IVec S_ 1 := (fun x v => Host.reduce IntOp.andi x v reducesTo_S288_S_d0 h_S_) main_v7 main_c_3
  let main_v9 : IVec S_ 1 := andi main_v5 main_v8
  let main_v10 : IVec S287 32 := (extractStridedSlice S287 ![1] · slices_S288_S287_1) main_arg0
  let main_v11 : IVec S287 32 := (extractStridedSlice S287 ![0] · slices_S288_S287_0) main_arg0
  let main_v12 : IVec S287 1 := cmpi .ne main_v10 main_v11
  let main_v13 : IVec S287 32 := (extractStridedSlice S287 ![1] · slices_S288_S287_1) main_arg1
  let main_c_4 : IVec S_ 32 := constantI S_ 32 0#32
  let main_v14 : IVec S287 32 := broadcastInDim S287 ![] bcast_S_S287 main_c_4
  let main_v15 : IVec S287 1 := cmpi .eq main_v13 main_v14
  let main_v16 : IVec S287 1 := ori main_v12 main_v15
  let main_v17 : IVec S287 32 := (extractStridedSlice S287 ![0] · slices_S288_S287_0) main_arg1
  fn_part1 (F := F) main_v9 main_v16 main_v17
-- ==== Attn.lean ====
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x256 : Shape := ⟨3, ![8, 4096, 256]⟩
abbrev S_ : Shape := ⟨0, ![]⟩
abbrev S8x4096x1 : Shape := ⟨3, ![8, 4096, 1]⟩
abbrev S8x4096x63 : Shape := ⟨3, ![8, 4096, 63]⟩
abbrev S1x256x256 : Shape := ⟨3, ![1, 256, 256]⟩
abbrev S1x4096x128 : Shape := ⟨3, ![1, 4096, 128]⟩
abbrev S1x4096x256 : Shape := ⟨3, ![1, 4096, 256]⟩
abbrev S4096x128 : Shape := ⟨2, ![4096, 128]⟩
abbrev S1x128 : Shape := ⟨2, ![1, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S8x4096x64, .bf16⟩
  | .hbm, ⟨4, _⟩ => ⟨S8x4096x64, .bf16⟩
  | .hbm, ⟨5, _⟩ => ⟨S8x4096x64, .bf16⟩
  | .hbm, ⟨6, _⟩ => ⟨S8x4096x64, .bf16⟩
  | .hbm, ⟨7, _⟩ => ⟨S8x4096x256, .bf16⟩
  | .hbm, ⟨8, _⟩ => ⟨S_, .bf16⟩
  | .hbm, ⟨9, _⟩ => ⟨S8x4096x1, .bf16⟩
  | .hbm, ⟨10, _⟩ => ⟨S_, .bf16⟩
  | .hbm, ⟨11, _⟩ => ⟨S8x4096x63, .bf16⟩
  | .hbm, ⟨12, _⟩ => ⟨S8x4096x512, .bf16⟩
  | .hbm, ⟨13, _⟩ => ⟨S8x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x4096x512 : Shape := ⟨3, ![8, 4096, 512]⟩
abbrev S8x4096x128 : Shape := ⟨3, ![8, 4096, 128]⟩
abbrev S8x4096x2x4x64 : Shape := ⟨5, ![8, 4096, 2, 4, 64]⟩
abbrev S8x2x4x4096x64 : Shape := ⟨5, ![8, 2, 4, 4096, 64]⟩
abbrev S8x4096x2x64 : Shape := ⟨4, ![8, 4096, 2, 64]⟩
abbrev S8x2x4096x64 : Shape := ⟨4, ![8, 2, 4096, 64]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x128, .bf16⟩
  | .hbm, ⟨2, _⟩ => ⟨S8x4096x128, .bf16⟩
  | .hbm, ⟨3, _⟩ => ⟨S8x4096x512, .f32⟩
  | .hbm, ⟨4, _⟩ => ⟨S8x4096x128, .f32⟩
  | .hbm, ⟨5, _⟩ => ⟨S8x4096x128, .f32⟩
  | .hbm, ⟨6, _⟩ => ⟨S8x4096x2x4x64, .f32⟩
  | .hbm, ⟨7, _⟩ => ⟨S8x2x4x4096x64, .f32⟩
  | .hbm, ⟨8, _⟩ => ⟨S8x4096x2x64, .f32⟩
  | .hbm, ⟨9, _⟩ => ⟨S8x2x4096x64, .f32⟩
  | .hbm, ⟨10, _⟩ => ⟨S8x4096x2x64, .f32⟩
  | .hbm, ⟨11, _⟩ => ⟨S8x2x4096x64, .f32⟩
  | .hbm, ⟨12, _⟩ => ⟨S8x2x4x4096x4096, .f32⟩
  | .hbm, ⟨13, _⟩ => ⟨S_, .f32⟩
  | .hbm, ⟨14, _⟩ => ⟨S8x2x4x4096, .f32⟩
  | .hbm, ⟨15, _⟩ => ⟨S_, .f32⟩
  | .hbm, ⟨16, _⟩ => ⟨S8x2x4x4096, .f32⟩
  | .hbm, ⟨17, _⟩ => ⟨S8x2x4x4096, .f32⟩
  | .hbm, ⟨18, _⟩ => ⟨S8x2x4x4096x1, .f32⟩
  | .hbm, ⟨19, _⟩ => ⟨S8x2x4x4096x4096, .f32⟩
  | .hbm, ⟨20, _⟩ => ⟨S8x2x4x4096x4096, .f32⟩
  | .hbm, ⟨21, _⟩ => ⟨S8x2x4x4096x4096, .f32⟩
  | .hbm, ⟨22, _⟩ => ⟨S_, .f32⟩
  | .hbm, ⟨23, _⟩ => ⟨S8x2x4x4096, .f32⟩
  | .hbm, ⟨24, _⟩ => ⟨S8x2x4x4096x1, .f32⟩
  | .hbm, ⟨25, _⟩ => ⟨S8x2x4x4096x4096, .f32⟩
  | .hbm, ⟨26, _⟩ => ⟨S8x2x4x4096x4096, .f32⟩
  | .hbm, ⟨27, _⟩ => ⟨S8x2x4x4096x64, .f32⟩
  | .hbm, ⟨28, _⟩ => ⟨S8x4096x2x4x64, .f32⟩
  | .hbm, ⟨29, _⟩ => ⟨S8x4096x512, .f32⟩
  | .hbm, ⟨30, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Ffn.lean ====
abbrev S288 : Shape := ⟨1, ![288]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (v1 : BitVec 32) : BitVec 1 :=
  let c0_i32_3 : BitVec 32 := 0#32
  let v15 : BitVec 1 := Scalar.cmpi .sgt v1 c0_i32_3
  let v16 : BitVec 32 := Scalar.extui v15
  let c0_i32_4 : BitVec 32 := 0#32
  let v17 : BitVec 1 := Scalar.cmpi .ne v16 c0_i32_4
  v17

def k0_cond3 (v1 : BitVec 32) : BitVec 1 :=
  let c0_i32_5 : BitVec 32 := 0#32
  let v18 : BitVec 1 := Scalar.cmpi .eq v1 c0_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S288 : Shape := ⟨1, ![288]⟩
abbrev S147456x1024 : Shape := ⟨2, ![147456, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x1 : Shape := ⟨2, ![288, 1]⟩
abbrev S32 : Shape := ⟨1, ![32]⟩
abbrev S1x32 : Shape := ⟨2, ![1, 32]⟩
abbrev S288x32 : Shape := ⟨2, ![288, 32]⟩
abbrev S_ : Shape := ⟨0, ![]⟩
abbrev S288x512x32 : Shape := ⟨3, ![288, 512, 32]⟩
abbrev S147456x32 : Shape := ⟨2, ![147456, 32]⟩
abbrev S32x2048x147456 : Shape := ⟨3, ![32, 2048, 147456]⟩
abbrev S32x147456x2048 : Shape := ⟨3, ![32, 147456, 2048]⟩
abbrev S32x147456x1024 : Shape := ⟨3, ![32, 147456, 1024]⟩
abbrev S32x147456 : Shape := ⟨2, ![32, 147456]⟩
abbrev S32x147456x1 : Shape := ⟨3, ![32, 147456, 1]⟩

abbrev nBuf : Space → Nat
  | .hbm => 64
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S147456x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S288x1, .i32⟩
  | .hbm, ⟨8, _⟩ => ⟨S32, .i32⟩
  | .hbm, ⟨9, _⟩ => ⟨S1x32, .i32⟩
  | .hbm, ⟨10, _⟩ => ⟨S288x32, .i32⟩
  | .hbm, ⟨11, _⟩ => ⟨S288x32, .i32⟩
  | .hbm, ⟨12, _⟩ => ⟨S288x32, .i1⟩
  | .hbm, ⟨13, _⟩ => ⟨S288x1, .i32⟩
  | .hbm, ⟨14, _⟩ => ⟨S_, .i32⟩
  | .hbm, ⟨15, _⟩ => ⟨S288x1, .i32⟩
  | .hbm, ⟨16, _⟩ => ⟨S288x1, .i1⟩
  | .hbm, ⟨17, _⟩ => ⟨S288x32, .i1⟩
  | .hbm, ⟨18, _⟩ => ⟨S288x32, .i1⟩
  | .hbm, ⟨19, _⟩ => ⟨S288x32, .f32⟩
  | .hbm, ⟨20, _⟩ => ⟨S288x512x32, .f32⟩
  | .hbm, ⟨21, _⟩ => ⟨S147456x32, .f32⟩
  | .hbm, ⟨22, _⟩ => ⟨S32x2048x147456, .f32⟩
  | .hbm, ⟨23, _⟩ => ⟨S32x147456x2048, .f32⟩
  | .hbm, ⟨24, _⟩ => ⟨S32x147456x2048, .f32⟩
  | .hbm, ⟨25, _⟩ => ⟨S32x147456x2048, .f32⟩
  | .hbm, ⟨26, _⟩ => ⟨S32x147456x1024, .f32⟩
  | .hbm, ⟨27, _⟩ => ⟨S_, .f32⟩
  | .hbm, ⟨28, _⟩ => ⟨S32x147456x1024, .f32⟩
  | .hbm, ⟨29, _⟩ => ⟨S32x147456x1024, .f32⟩
  | .hbm, ⟨30, _⟩ => ⟨S32x147456x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x147456x1024, .f32⟩
  | .hbm, ⟨35, _⟩ => ⟨S32x147456x1024, .f32⟩
  | .hbm, ⟨36, _⟩ => ⟨S_, .f32⟩
  | .hbm, ⟨37, _⟩ => ⟨S32x147456x1024, .f32⟩
  | .hbm, ⟨38, _⟩ => ⟨S32x147456x1024, .f32⟩
  | .hbm, ⟨39, _⟩ => ⟨S_, .f32⟩
  | .hbm, ⟨40, _⟩ => ⟨S32x147456x1024, .f32⟩
  | .hbm, ⟨41, _⟩ => ⟨S32x147456x1024, .f32⟩
  | .hbm, ⟨42, _⟩ => ⟨S_, .f32⟩
  | .hbm, ⟨43, _⟩ => ⟨S32x147456x1024, .f32⟩
  | .hbm, ⟨44, _⟩ => ⟨S32x147456x1024, .f32⟩
  | .hbm, ⟨45, _⟩ => ⟨S32x147456x1024, .f32⟩
  | .hbm, ⟨46, _⟩ => ⟨S32x147456x1024, .f32⟩
  | .hbm, ⟨47, _⟩ => ⟨S_, .f32⟩
  | .hbm, ⟨48, _⟩ => ⟨S32x147456x1024, .f32⟩
  | .hbm, ⟨49, _⟩ => ⟨S32x147456x1024, .f32⟩
  | .hbm, ⟨50, _⟩ => ⟨S_, .f32⟩
  | .hbm, ⟨51, _⟩ => ⟨S32x147456x1024, .f32⟩
  | .hbm, ⟨52, _⟩ => ⟨S32x147456x1024, .f32⟩
  | .hbm, ⟨53, _⟩ => ⟨S32x147456x1024, .f32⟩
  | .hbm, ⟨54, _⟩ => ⟨S32x147456x1024, .f32⟩
  | .hbm, ⟨55, _⟩ => ⟨S32x147456x1024, .f32⟩
  | .hbm, ⟨56, _⟩ => ⟨S32x147456x1024, .f32⟩
  | .hbm, ⟨57, _⟩ => ⟨S32x147456x1024, .f32⟩
  | .hbm, ⟨58, _⟩ => ⟨S32x147456, .f32⟩
  | .hbm, ⟨59, _⟩ => ⟨S32x147456x1, .f32⟩
  | .hbm, ⟨60, _⟩ => ⟨S32x147456x1024, .f32⟩
  | .hbm, ⟨61, _⟩ => ⟨S32x147456x1024, .f32⟩
  | .hbm, ⟨62, _⟩ => ⟨S_, .f32⟩
  | .hbm, ⟨63, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Proj.lean ====
abbrev S32768x1024 : Shape := ⟨2, ![32768, 1024]⟩
abbrev S1024x1824 : Shape := ⟨2, ![1024, 1824]⟩
abbrev S4096x2x16 : Shape := ⟨3, ![4096, 2, 16]⟩
abbrev S1x64 : Shape := ⟨2, ![1, 64]⟩
abbrev S2x16x128 : Shape := ⟨3, ![2, 16, 128]⟩
abbrev S2x128 : Shape := ⟨2, ![2, 128]⟩
abbrev S64x64 : Shape := ⟨2, ![64, 64]⟩
abbrev S4096x1x16 : Shape := ⟨3, ![4096, 1, 16]⟩
abbrev S4096x16 : Shape := ⟨2, ![4096, 16]⟩
abbrev S4096x128 : Shape := ⟨2, ![4096, 128]⟩
abbrev S1x128 : Shape := ⟨2, ![1, 128]⟩
abbrev S_ : Shape := ⟨0, ![]⟩
abbrev S1x1 : Shape := ⟨2, ![1, 1]⟩
abbrev S1x63 : Shape := ⟨2, ![1, 63]⟩
abbrev S1x512 : Shape := ⟨2, ![1, 512]⟩
abbrev S64x128 : Shape := ⟨2, ![64, 128]⟩
abbrev S128x128 : Shape := ⟨2, ![128, 128]⟩
abbrev S1x16x128 : Shape := ⟨3, ![1, 16, 128]⟩
abbrev S16x128 : Shape := ⟨2, ![16, 128]⟩
abbrev S16x256 : Shape := ⟨2, ![16, 256]⟩
abbrev S32x256 : Shape := ⟨2, ![32, 256]⟩
abbrev S96x256 : Shape := ⟨2, ![96, 256]⟩
abbrev S128x256 : Shape := ⟨2, ![128, 256]⟩
abbrev S64x256 : Shape := ⟨2, ![64, 256]⟩
abbrev S256x256 : Shape := ⟨2, ![256, 256]⟩
abbrev S1x256 : Shape := ⟨2, ![1, 256]⟩
abbrev S1024x512 : Shape := ⟨2, ![1024, 512]⟩
abbrev S1024x128 : Shape := ⟨2, ![1024, 128]⟩
abbrev S1024x256 : Shape := ⟨2, ![1024, 256]⟩
abbrev S1024x32 : Shape := ⟨2, ![1024, 32]⟩
abbrev S1024x64 : Shape := ⟨2, ![1024, 64]⟩
abbrev S1024x96 : Shape := ⟨2, ![1024, 96]⟩
abbrev S1024x1792 : Shape := ⟨2, ![1024, 1792]⟩
abbrev S1024x640 : Shape := ⟨2, ![1024, 640]⟩
abbrev S1024x2432 : Shape := ⟨2, ![1024, 2432]⟩
abbrev S32768x512 : Shape := ⟨2, ![32768, 512]⟩
abbrev S32768x256 : Shape := ⟨2, ![32768, 256]⟩
abbrev S32768x128 : Shape := ⟨2, ![32768, 128]⟩
abbrev S4096x2048 : Shape := ⟨2, ![4096, 2048]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x2432 : Shape := ⟨2, ![512, 2432]⟩

abbrev nBuf : Space → Nat
  | .hbm => 113
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1024x1824, .f32⟩
  | .hbm, ⟨2, _⟩ => ⟨S4096x2x16, .f32⟩
  | .hbm, ⟨3, _⟩ => ⟨S4096x2x16, .f32⟩
  | .hbm, ⟨4, _⟩ => ⟨S1x64, .f32⟩
  | .hbm, ⟨5, _⟩ => ⟨S1x64, .f32⟩
  | .hbm, ⟨6, _⟩ => ⟨S2x16x128, .f32⟩
  | .hbm, ⟨7, _⟩ => ⟨S2x128, .f32⟩
  | .hbm, ⟨8, _⟩ => ⟨S64x64, .f32⟩
  | .hbm, ⟨9, _⟩ => ⟨S64x64, .f32⟩
  | .hbm, ⟨10, _⟩ => ⟨S4096x1x16, .f32⟩
  | .hbm, ⟨11, _⟩ => ⟨S4096x16, .f32⟩
  | .hbm, ⟨12, _⟩ => ⟨S4096x1x16, .f32⟩
  | .hbm, ⟨13, _⟩ => ⟨S4096x16, .f32⟩
  | .hbm, ⟨14, _⟩ => ⟨S4096x1x16, .f32⟩
  | .hbm, ⟨15, _⟩ => ⟨S4096x16, .f32⟩
  | .hbm, ⟨16, _⟩ => ⟨S4096x1x16, .f32⟩
  | .hbm, ⟨17, _⟩ => ⟨S4096x16, .f32⟩
  | .hbm, ⟨18, _⟩ => ⟨S4096x128, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S1x64, .f32⟩
  | .hbm, ⟨30, _⟩ => ⟨S_, .f32⟩
  | .hbm, ⟨31, _⟩ => ⟨S1x63, .f32⟩
  | .hbm, ⟨32, _⟩ => ⟨S_, .f32⟩
  | .hbm, ⟨33, _⟩ => ⟨S1x63, .f32⟩
  | .hbm, ⟨34, _⟩ => ⟨S_, .f32⟩
  | .hbm, ⟨35, _⟩ => ⟨S1x64, .f32⟩
  | .hbm, ⟨36, _⟩ => ⟨S_, .f32⟩
  | .hbm, ⟨37, _⟩ => ⟨S1x64, .f32⟩
  | .hbm, ⟨38, _⟩ => ⟨S_, .f32⟩
  | .hbm, ⟨39, _⟩ => ⟨S1x63, .f32⟩
  | .hbm, ⟨40, _⟩ => ⟨S_, .f32⟩
  | .hbm, ⟨41, _⟩ => ⟨S1x63, .f32⟩
  | .hbm, ⟨42, _⟩ => ⟨S_, .f32⟩
  | .hbm, ⟨43, _⟩ => ⟨S1x64, .f32⟩
  | .hbm, ⟨44, _⟩ => ⟨S1x512, .f32⟩
  | .hbm, ⟨45, _⟩ => ⟨S_, .bf16⟩
  | .hbm, ⟨46, _⟩ => ⟨S64x64, .bf16⟩
  | .hbm, ⟨47, _⟩ => ⟨S_, .bf16⟩
  | .hbm, ⟨48, _⟩ => ⟨S64x64, .bf16⟩
  | .hbm, ⟨49, _⟩ => ⟨S64x128, .bf16⟩
  | .hbm, ⟨50, _⟩ => ⟨S64x128, .bf16⟩
  | .hbm, ⟨51, _⟩ => ⟨S128x128, .bf16⟩
  | .hbm, ⟨52, _⟩ => ⟨S1x16x128, .f32⟩
  | .hbm, ⟨53, _⟩ => ⟨S16x128, .f32⟩
  | .hbm, ⟨54, _⟩ => ⟨S1x16x128, .f32⟩
  | .hbm, ⟨55, _⟩ => ⟨S16x128, .f32⟩
  | .hbm, ⟨56, _⟩ => ⟨S_, .f32⟩
  | .hbm, ⟨57, _⟩ => ⟨S16x128, .f32⟩
  | .hbm, ⟨58, _⟩ => ⟨S16x256, .f32⟩
  | .hbm, ⟨59, _⟩ => ⟨S16x256, .f32⟩
  | .hbm, ⟨60, _⟩ => ⟨S32x256, .f32⟩
  | .hbm, ⟨61, _⟩ => ⟨S_, .f32⟩
  | .hbm, ⟨62, _⟩ => ⟨S96x256, .f32⟩
  | .hbm, ⟨63, _⟩ => ⟨S128x256, .f32⟩
  | .hbm, ⟨64, _⟩ => ⟨S128x256, .bf16⟩
  | .hbm, ⟨65, _⟩ => ⟨S64x64, .bf16⟩
  | .hbm, ⟨66, _⟩ => ⟨S_, .bf16⟩
  | .hbm, ⟨67, _⟩ => ⟨S64x64, .bf16⟩
  | .hbm, ⟨68, _⟩ => ⟨S64x256, .bf16⟩
  | .hbm, ⟨69, _⟩ => ⟨S64x256, .bf16⟩
  | .hbm, ⟨70, _⟩ => ⟨S64x256, .bf16⟩
  | .hbm, ⟨71, _⟩ => ⟨S64x256, .bf16⟩
  | .hbm, ⟨72, _⟩ => ⟨S256x256, .bf16⟩
  | .hbm, ⟨73, _⟩ => ⟨S64x64, .bf16⟩
  | .hbm, ⟨74, _⟩ => ⟨S_, .bf16⟩
  | .hbm, ⟨75, _⟩ => ⟨S64x64, .bf16⟩
  | .hbm, ⟨76, _⟩ => ⟨S64x256, .bf16⟩
  | .hbm, ⟨77, _⟩ => ⟨S64x256, .bf16⟩
  | .hbm, ⟨78, _⟩ => ⟨S64x256, .bf16⟩
  | .hbm, ⟨79, _⟩ => ⟨S64x256, .bf16⟩
  | .hbm, ⟨80, _⟩ => ⟨S256x256, .bf16⟩
  | .hbm, ⟨81, _⟩ => ⟨S1x256, .f32⟩
  | .hbm, ⟨82, _⟩ => ⟨S1024x512, .f32⟩
  | .hbm, ⟨83, _⟩ => ⟨S1024x128, .f32⟩
  | .hbm, ⟨84, _⟩ => ⟨S1024x128, .f32⟩
  | .hbm, ⟨85, _⟩ => ⟨S1024x128, .f32⟩
  | .hbm, ⟨86, _⟩ => ⟨S1024x128, .f32⟩
  | .hbm, ⟨87, _⟩ => ⟨S1024x256, .f32⟩
  | .hbm, ⟨88, _⟩ => ⟨S1024x256, .f32⟩
  | .hbm, ⟨89, _⟩ => ⟨S1024x32, .f32⟩
  | .hbm, ⟨90, _⟩ => ⟨S1024x256, .f32⟩
  | .hbm, ⟨91, _⟩ => ⟨S1024x64, .f32⟩
  | .hbm, ⟨92, _⟩ => ⟨S1024x64, .f32⟩
  | .hbm, ⟨93, _⟩ => ⟨S1024x64, .f32⟩
  | .hbm, ⟨94, _⟩ => ⟨S1024x64, .f32⟩
  | .hbm, ⟨95, _⟩ => ⟨S_, .f32⟩
  | .hbm, ⟨96, _⟩ => ⟨S1024x64, .f32⟩
  | .hbm, ⟨97, _⟩ => ⟨S_, .f32⟩
  | .hbm, ⟨98, _⟩ => ⟨S1024x96, .f32⟩
  | .hbm, ⟨99, _⟩ => ⟨S1024x1792, .f32⟩
  | .hbm, ⟨100, _⟩ => ⟨S1024x640, .f32⟩
  | .hbm, ⟨101, _⟩ => ⟨S1024x2432, .f32⟩
  | .hbm, ⟨102, _⟩ => ⟨S1024x2432, .bf16⟩
  | .hbm, ⟨103, _⟩ => ⟨S32768x512, .bf16⟩
  | .hbm, ⟨104, _⟩ => ⟨S32768x256, .bf16⟩
  | .hbm, ⟨105, _⟩ => ⟨S32768x512, .bf16⟩
  | .hbm, ⟨106, _⟩ => ⟨S32768x128, .bf16⟩
  | .hbm, ⟨107, _⟩ => ⟨S32768x128, .bf16⟩
  | .hbm, ⟨108, _⟩ => ⟨S32768x256, .bf16⟩
  | .hbm, ⟨109, _⟩ => ⟨S32768x256, .bf16⟩
  | .hbm, ⟨110, _⟩ => ⟨S32768x256, .f32⟩
  | .hbm, ⟨111, _⟩ => ⟨S4096x2048, .bf16⟩
  | .hbm, ⟨112, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S1x512, .f32⟩
  | .local _ .vmem, ⟨10, _⟩ => ⟨S128x128, .bf16⟩
  | .local _ .vmem, ⟨11, _⟩ => ⟨S128x256, .bf16⟩
  | .local _ .vmem, ⟨12, _⟩ => ⟨S1x256, .f32⟩
  | .local _ .vmem, ⟨13, _⟩ => ⟨S256x256, .bf16⟩
  | .local _ .vmem, ⟨14, _⟩ => ⟨S256x256, .bf16⟩
  | .local _ .vmem, ⟨15, _⟩ => ⟨S512x512, .bf16⟩
  | .local _ .vmem, ⟨16, _⟩ => ⟨S512x512, .bf16⟩
  | .local _ .vmem, ⟨17, _⟩ => ⟨S512x256, .bf16⟩
  | .local _ .vmem, ⟨18, _⟩ => ⟨S512x256, .bf16⟩
  | .local _ .vmem, ⟨19, _⟩ => ⟨S512x512, .bf16⟩
  | .local _ .vmem, ⟨20, _⟩ => ⟨S512x512, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .f32⟩
  | .local _ .vmem, ⟨30, _⟩ => ⟨S512x256, .f32⟩
  | .local _ .vmem, ⟨31, _⟩ => ⟨S512x256, .bf16⟩
  | .local _ .vmem, ⟨32, _⟩ => ⟨S512x256, .bf16⟩
  | .local _ .vmem, ⟨33, _⟩ => ⟨S512x256, .bf16⟩
  | .local _ .vmem, ⟨34, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76_0 : Ref sig .tc := ⟨.hbm, 103, rfl⟩
abbrev main_v76_1 : Ref sig .tc := ⟨.hbm, 104, rfl⟩
abbrev main_v76_2 : Ref sig .tc := ⟨.hbm, 105, rfl⟩
abbrev main_v76_3 : Ref sig .tc := ⟨.hbm, 106, rfl⟩
abbrev main_v76_4 : Ref sig .tc := ⟨.hbm, 107, rfl⟩
abbrev main_v76_5 : Ref sig .tc := ⟨.hbm, 108, rfl⟩
abbrev main_v76_6 : Ref sig .tc := ⟨.hbm, 109, rfl⟩
abbrev main_v76_7 : Ref sig .tc := ⟨.hbm, 110, rfl⟩
abbrev main_v76_8 : Ref sig .tc := ⟨.hbm, 111, rfl⟩
abbrev main_v76_9 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_21 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjRefIdeal.lean ====
abbrev S32768x1024 : Shape := ⟨2, ![32768, 1024]⟩
abbrev S1024x1824 : Shape := ⟨2, ![1024, 1824]⟩
abbrev S4096x2x16 : Shape := ⟨3, ![4096, 2, 16]⟩
abbrev S1x64 : Shape := ⟨2, ![1, 64]⟩
abbrev S2x16x128 : Shape := ⟨3, ![2, 16, 128]⟩
abbrev S2x128 : Shape := ⟨2, ![2, 128]⟩
abbrev S64x64 : Shape := ⟨2, ![64, 64]⟩
abbrev S32768x1824 : Shape := ⟨2, ![32768, 1824]⟩
abbrev S32768x512 : Shape := ⟨2, ![32768, 512]⟩
abbrev S32768x128 : Shape := ⟨2, ![32768, 128]⟩
abbrev S32768x256 : Shape := ⟨2, ![32768, 256]⟩
abbrev S32768x32 : Shape := ⟨2, ![32768, 32]⟩
abbrev S4096x1x2x16 : Shape := ⟨4, ![4096, 1, 2, 16]⟩
abbrev S8x4096x8x64 : Shape := ⟨4, ![8, 4096, 8, 64]⟩
abbrev S64 : Shape := ⟨1, ![64]⟩
abbrev S_ : Shape := ⟨0, ![]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S1x4096x1x2x16 : Shape := ⟨5, ![1, 4096, 1, 2, 16]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S32768x2x16 : Shape := ⟨3, ![32768, 2, 16]⟩
abbrev S2x128x32768 : Shape := ⟨3, ![2, 128, 32768]⟩
abbrev S32768x2x128 : Shape := ⟨3, ![32768, 2, 128]⟩
abbrev S1x2x128 : Shape := ⟨3, ![1, 2, 128]⟩
abbrev S8x4096x4x64 : Shape := ⟨4, ![8, 4096, 4, 64]⟩
abbrev S64x8x4096x4 : Shape := ⟨4, ![64, 8, 4096, 4]⟩
abbrev S4096x8x4x64 : Shape := ⟨4, ![4096, 8, 4, 64]⟩
abbrev S32768x64 : Shape := ⟨2, ![32768, 64]⟩
abbrev S32768x1 : Shape := ⟨2, ![32768, 1]⟩
abbrev S32768x63 : Shape := ⟨2, ![32768, 63]⟩
abbrev S4096x2048 : Shape := ⟨2, ![4096, 2048]⟩

abbrev nBuf : Space → Nat
  | .hbm => 164
  | .vmem => 0
  | .smem => 0
  | _ => 0

abbrev hbmTy0_0 (i : Nat) : BufTy := match i % 128 with
  | 0 => ⟨S32768x1024, .f32⟩
  | 1 => ⟨S1024x1824, .f32⟩
  | 2 => ⟨S4096x2x16, .f32⟩
  | 3 => ⟨S4096x2x16, .f32⟩
  | 4 => ⟨S1x64, .f32⟩
  | 5 => ⟨S1x64, .f32⟩
  | 6 => ⟨S2x16x128, .f32⟩
  | 7 => ⟨S2x128, .f32⟩
  | 8 => ⟨S64x64, .f32⟩
  | 9 => ⟨S64x64, .f32⟩
  | 10 => ⟨S32768x1824, .f32⟩
  | 11 => ⟨S32768x512, .f32⟩
  | 12 => ⟨S32768x128, .f32⟩
  | 13 => ⟨S32768x128, .f32⟩
  | 14 => ⟨S32768x128, .f32⟩
  | 15 => ⟨S32768x128, .f32⟩
  | 16 => ⟨S32768x256, .f32⟩
  | 17 => ⟨S32768x256, .f32⟩
  | 18 => ⟨S32768x32, .f32⟩
  | 19 => ⟨S32768x256, .f32⟩
  | 20 => ⟨S4096x1x2x16, .f32⟩
  | 21 => ⟨S4096x1x2x16, .f32⟩
  | 22 => ⟨S8x4096x8x64, .f32⟩
  | 23 => ⟨S64, .f32⟩
  | 24 => ⟨S8x4096x8x64, .f32⟩
  | 25 => ⟨S_, .f32⟩
  | 26 => ⟨S8x4096x8, .f32⟩
  | 27 => ⟨S8x4096x8x1, .f32⟩
  | 28 => ⟨S_, .f32⟩
  | 29 => ⟨S8x4096x8x1, .f32⟩
  | 30 => ⟨S8x4096x8x1, .f32⟩
  | 31 => ⟨S_, .f32⟩
  | 32 => ⟨S8x4096x8x1, .f32⟩
  | 33 => ⟨S8x4096x8x1, .f32⟩
  | 34 => ⟨S8x4096x8x1, .f32⟩
  | 35 => ⟨S8x4096x8x64, .f32⟩
  | 36 => ⟨S8x4096x8x64, .f32⟩
  | 37 => ⟨S1x1x1x64, .f32⟩
  | 38 => ⟨S8x4096x8x64, .f32⟩
  | 39 => ⟨S8x4096x8x64, .f32⟩
  | 40 => ⟨S8x4096x8x2x2x16, .f32⟩
  | 41 => ⟨S8x4096x8x2x1x16, .f32⟩
  | 42 => ⟨S8x4096x8x2x16, .f32⟩
  | 43 => ⟨S8x4096x8x2x1x16, .f32⟩
  | 44 => ⟨S8x4096x8x2x16, .f32⟩
  | 45 => ⟨S1x4096x1x2x16, .f32⟩
  | 46 => ⟨S8x4096x8x2x16, .f32⟩
  | 47 => ⟨S8x4096x8x2x16, .f32⟩
  | 48 => ⟨S1x4096x1x2x16, .f32⟩
  | 49 => ⟨S8x4096x8x2x16, .f32⟩
  | 50 => ⟨S8x4096x8x2x16, .f32⟩
  | 51 => ⟨S8x4096x8x2x16, .f32⟩
  | 52 => ⟨S1x4096x1x2x16, .f32⟩
  | 53 => ⟨S8x4096x8x2x16, .f32⟩
  | 54 => ⟨S8x4096x8x2x16, .f32⟩
  | 55 => ⟨S1x4096x1x2x16, .f32⟩
  | 56 => ⟨S8x4096x8x2x16, .f32⟩
  | 57 => ⟨S8x4096x8x2x16, .f32⟩
  | 58 => ⟨S8x4096x8x2x16, .f32⟩
  | 59 => ⟨S8x4096x8x2x1x16, .f32⟩
  | 60 => ⟨S8x4096x8x2x1x16, .f32⟩
  | 61 => ⟨S8x4096x8x2x2x16, .f32⟩
  | 62 => ⟨S8x4096x8x64, .f32⟩
  | 63 => ⟨S_, .f32⟩
  | 64 => ⟨S8x4096x8x64, .f32⟩
  | 65 => ⟨S8x4096x8x64, .f32⟩
  | 66 => ⟨S8x4096x2x64, .f32⟩
  | 67 => ⟨S64, .f32⟩
  | 68 => ⟨S8x4096x2x64, .f32⟩
  | 69 => ⟨S_, .f32⟩
  | 70 => ⟨S8x4096x2, .f32⟩
  | 71 => ⟨S8x4096x2x1, .f32⟩
  | 72 => ⟨S_, .f32⟩
  | 73 => ⟨S8x4096x2x1, .f32⟩
  | 74 => ⟨S8x4096x2x1, .f32⟩
  | 75 => ⟨S_, .f32⟩
  | 76 => ⟨S8x4096x2x1, .f32⟩
  | 77 => ⟨S8x4096x2x1, .f32⟩
  | 78 => ⟨S8x4096x2x1, .f32⟩
  | 79 => ⟨S8x4096x2x64, .f32⟩
  | 80 => ⟨S8x4096x2x64, .f32⟩
  | 81 => ⟨S1x1x1x64, .f32⟩
  | 82 => ⟨S8x4096x2x64, .f32⟩
  | 83 => ⟨S8x4096x2x64, .f32⟩
  | 84 => ⟨S8x4096x2x2x2x16, .f32⟩
  | 85 => ⟨S8x4096x2x2x1x16, .f32⟩
  | 86 => ⟨S8x4096x2x2x16, .f32⟩
  | 87 => ⟨S8x4096x2x2x1x16, .f32⟩
  | 88 => ⟨S8x4096x2x2x16, .f32⟩
  | 89 => ⟨S1x4096x1x2x16, .f32⟩
  | 90 => ⟨S8x4096x2x2x16, .f32⟩
  | 91 => ⟨S8x4096x2x2x16, .f32⟩
  | 92 => ⟨S1x4096x1x2x16, .f32⟩
  | 93 => ⟨S8x4096x2x2x16, .f32⟩
  | 94 => ⟨S8x4096x2x2x16, .f32⟩
  | 95 => ⟨S8x4096x2x2x16, .f32⟩
  | 96 => ⟨S1x4096x1x2x16, .f32⟩
  | 97 => ⟨S8x4096x2x2x16, .f32⟩
  | 98 => ⟨S8x4096x2x2x16, .f32⟩
  | 99 => ⟨S1x4096x1x2x16, .f32⟩
  | 100 => ⟨S8x4096x2x2x16, .f32⟩
  | 101 => ⟨S8x4096x2x2x16, .f32⟩
  | 102 => ⟨S8x4096x2x2x16, .f32⟩
  | 103 => ⟨S8x4096x2x2x1x16, .f32⟩
  | 104 => ⟨S8x4096x2x2x1x16, .f32⟩
  | 105 => ⟨S8x4096x2x2x2x16, .f32⟩
  | 106 => ⟨S8x4096x2x64, .f32⟩
  | 107 => ⟨S32768x2x16, .f32⟩
  | 108 => ⟨S2x128x32768, .f32⟩
  | 109 => ⟨S32768x2x128, .f32⟩
  | 110 => ⟨S1x2x128, .f32⟩
  | 111 => ⟨S32768x2x128, .f32⟩
  | 112 => ⟨S32768x2x128, .f32⟩
  | 113 => ⟨S32768x2x128, .f32⟩
  | 114 => ⟨S_, .f32⟩
  | 115 => ⟨S32768x2x128, .f32⟩
  | 116 => ⟨S32768x2x128, .f32⟩
  | 117 => ⟨S32768x2x128, .f32⟩
  | 118 => ⟨S32768x2x128, .f32⟩
  | 119 => ⟨S32768x2x128, .i1⟩
  | 120 => ⟨S32768x2x128, .f32⟩
  | 121 => ⟨S32768x2x128, .f32⟩
  | 122 => ⟨S32768x2x128, .f32⟩
  | 123 => ⟨S32768x2x128, .f32⟩
  | 124 => ⟨S32768x2x128, .f32⟩
  | 125 => ⟨S32768x2x128, .f32⟩
  | 126 => ⟨S32768x2x128, .f32⟩
  | 127 => ⟨S32768x2x128, .f32⟩
  | _ => ⟨S32768x1024, .f32⟩

abbrev hbmTy0_1 (i : Nat) : BufTy := match i % 128 with
  | 0 => ⟨S32768x2x128, .f32⟩
  | 1 => ⟨S_, .f32⟩
  | 2 => ⟨S32768x2x128, .f32⟩
  | 3 => ⟨S32768x2x128, .f32⟩
  | 4 => ⟨S8x4096x4x64, .f32⟩
  | 5 => ⟨S64x8x4096x4, .f32⟩
  | 6 => ⟨S4096x8x4x64, .f32⟩
  | 7 => ⟨S64x8x4096x4, .f32⟩
  | 8 => ⟨S4096x8x4x64, .f32⟩
  | 9 => ⟨S32768x128, .f32⟩
  | 10 => ⟨S32768x64, .f32⟩
  | 11 => ⟨S32768x64, .f32⟩
  | 12 => ⟨S32768x64, .f32⟩
  | 13 => ⟨S32768x64, .f32⟩
  | 14 => ⟨S_, .f32⟩
  | 15 => ⟨S32768x1, .f32⟩
  | 16 => ⟨S_, .f32⟩
  | 17 => ⟨S32768x63, .f32⟩
  | 18 => ⟨S32768x256, .f32⟩
  | 19 => ⟨S32768x512, .f32⟩
  | 20 => ⟨S32768x512, .f32⟩
  | 21 => ⟨S32768x512, .bf16⟩
  | 22 => ⟨S32768x256, .bf16⟩
  | 23 => ⟨S32768x512, .bf16⟩
  | 24 => ⟨S_, .f32⟩
  | 25 => ⟨S32768x128, .f32⟩
  | 26 => ⟨S32768x128, .f32⟩
  | 27 => ⟨S32768x128, .bf16⟩
  | 28 => ⟨S32768x128, .bf16⟩
  | 29 => ⟨S32768x256, .bf16⟩
  | 30 => ⟨S32768x256, .bf16⟩
  | 31 => ⟨S32768x256, .f32⟩
  | 32 => ⟨S4096x2048, .f32⟩
  | 33 => ⟨S4096x2048, .bf16⟩
  | 34 => ⟨S4096x2048, .f32⟩
  | 35 => ⟨S4096x2048, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_call0_v0 : Ref sig .tc := ⟨.hbm, 113, rfl⟩
abbrev main_call0_call0_cst : Ref sig .tc := ⟨.hbm, 114, rfl⟩
abbrev main_call0_call0_v0 : Ref sig .tc := ⟨.hbm, 115, rfl⟩
abbrev main_call0_call0_v1 : Ref sig .tc := ⟨.hbm, 116, rfl⟩
abbrev main_call0_call0_v2 : Ref sig .tc := ⟨.hbm, 117, rfl⟩
abbrev main_call0_call0_v3 : Ref sig .tc := ⟨.hbm, 118, rfl⟩
abbrev main_call0_call0_v4 : Ref sig .tc := ⟨.hbm, 119, rfl⟩
abbrev main_call0_call0_v5 : Ref sig .tc := ⟨.hbm, 120, rfl⟩
abbrev main_call0_call0_v6 : Ref sig .tc := ⟨.hbm, 121, rfl⟩
abbrev main_call0_call0_v7 : Ref sig .tc := ⟨.hbm, 122, rfl⟩
abbrev main_call0_call0_v8 : Ref sig .tc := ⟨.hbm, 123, rfl⟩
abbrev main_call0_call0_v9 : Ref sig .tc := ⟨.hbm, 124, rfl⟩
abbrev main_call0_call0_v10 : Ref sig .tc := ⟨.hbm, 125, rfl⟩
abbrev main_call0_call0_v11 : Ref sig .tc := ⟨.hbm, 126, rfl⟩
abbrev main_call0_v1 : Ref sig .tc := ⟨.hbm, 127, rfl⟩
abbrev main_v96 : Ref sig .tc := ⟨.hbm, 128, rfl⟩
abbrev main_cst_6 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_7 : Ref sig .tc := ⟨.hbm, 142, rfl⟩
abbrev main_v109 : Ref sig .tc := ⟨.hbm, 143, rfl⟩
abbrev main_cst_8 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_9 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Proof.Attention.lean ====
/-
  Grouped-query attention as a function of its queries, keys and values over the extended reals, and the one law the
  two programs differ by: dividing every weight by the row's total before the weighted sum, or dividing the weighted
  sum by the total once.
-/
module

public import Idealize.ShloMosaic.Lib.ValueIdx
public import Idealize.ShloMosaic.PureOps.Ideal.Laws

@[expose] public section

noncomputable section

namespace Cert.Attention

open Idealize.ShloMosaic Idealize.ShloMosaic.ValueIdx

/-- A query array (and a result array): batch, position, and 8 heads of 64 lanes. -/
abbrev QShape : Shape := ⟨3, ![8, 4096, 512]⟩

/-- A key or value array: batch, position, and 2 heads of 64 lanes. -/
abbrev KShape : Shape := ⟨3, ![8, 4096, 128]⟩

/-- Lane `x` of query head `h`. -/
def qLane (h : Fin 8) (x : Fin 64) : Fin 512 := ⟨h.val * 64 + x.val, by omega⟩

/-- Lane `x` of the key head that query head `h` reads: four query heads share one. -/
def kLane (h : Fin 8) (x : Fin 64) : Fin 128 := ⟨h.val / 4 * 64 + x.val, by omega⟩

variable (q : QShape.Idx → EReal) (k v : KShape.Idx → EReal)

/-- The score of key position `j` for the query at position `n` of head `h`. -/
def score (b : Fin 8) (n : Fin 4096) (h : Fin 8) (j : Fin 4096) : EReal :=
  ∑ x : Fin 64, q (ix3 b n (qLane h x)) * k (ix3 b j (kLane h x))

/-- The row's largest score. -/
def top (b : Fin 8) (n : Fin 4096) (h : Fin 8) : EReal :=
  (Finset.univ : Finset (Fin 4096)).fold max ⊥ (score q k b n h)

/-- The unnormalised softmax weight of key position `j`. -/
def weight (b : Fin 8) (n : Fin 4096) (h : Fin 8) (j : Fin 4096) : EReal :=
  Ideal.exp (score q k b n h j - top q k b n h)

/-- The attention at batch `b`, position `n`, head `h`, lane `x`: the weighted sum of the values over the sum of the
    weights. -/
def attnAt (b : Fin 8) (n : Fin 4096) (h : Fin 8) (x : Fin 64) : EReal :=
  Ideal.div (∑ j : Fin 4096, weight q k b n h j * v (ix3 b j (kLane h x))) (∑ j : Fin 4096, weight q k b n h j)

/-- The head of lane `c` of a result row, and the lane within the head. -/
def headOf (c : Fin 512) : Fin 8 := ⟨c.val / 64, by omega⟩
def laneOf (c : Fin 512) : Fin 64 := ⟨c.val % 64, by omega⟩

/-- The attention as a whole array. -/
def attn : QShape.Idx → EReal := fun i => attnAt q k v (i 0) (i 1) (headOf (i 2)) (laneOf (i 2))

/-! ## Finite queries and keys give finite positive weights -/

/-- An extended real that is neither infinity. -/
def Finite (x : EReal) : Prop := x ≠ ⊥ ∧ x ≠ ⊤

theorem Finite.coe {x : EReal} (h : Finite x) : ((x.toReal : ℝ) : EReal) = x := EReal.coe_toReal h.2 h.1

/-- The extended real of a finite real sum is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem finite_sum {ι : Type} (s : Finset ι) (f : ι → EReal) (h : ∀ i ∈ s, Finite (f i)) : Finite (∑ i ∈ s, f i) := by
  have e : ∑ i ∈ s, f i = ((∑ i ∈ s, (f i).toReal : ℝ) : EReal) := by
    rw [coe_sum]
    exact Finset.sum_congr rfl fun i hi => (h i hi).coe.symm
  rw [e]; exact ⟨EReal.coe_ne_bot _, EReal.coe_ne_top _⟩

theorem finite_mul {x y : EReal} (hx : Finite x) (hy : Finite y) : Finite (x * y) := by
  rw [← hx.coe, ← hy.coe, ← EReal.coe_mul]; exact ⟨EReal.coe_ne_bot _, EReal.coe_ne_top _⟩

/-- The maximum of finitely many finite scores, at least one, is finite. -/
theorem finite_fold {n : ℕ} (f : Fin (n + 1) → EReal) (h : ∀ i, Finite (f i)) :
    Finite ((Finset.univ : Finset (Fin (n + 1))).fold max ⊥ f) := by
  constructor
  · refine ne_of_gt ?_
    rw [Finset.lt_fold_max]
    exact Or.inr ⟨0, Finset.mem_univ _, bot_lt_iff_ne_bot.mpr (h 0).1⟩
  · refine ne_of_lt ?_
    rw [Finset.fold_max_lt]
    exact ⟨bot_lt_top, fun i _ => lt_top_iff_ne_top.mpr (h i).2⟩

/-- The exponential of a finite difference is a positive real. -/
theorem exp_sub_pos {x y : EReal} (hx : Finite x) (hy : Finite y) : ∃ r : ℝ, 0 < r ∧ Ideal.exp (x - y) = (r : EReal) := by
  refine ⟨Real.exp (x.toReal - y.toReal), Real.exp_pos _, ?_⟩
  conv_lhs => rw [← hx.coe, ← hy.coe, ← EReal.coe_sub]
  exact Ideal.exp_coe _

theorem weight_pos (hq : ∀ i, Finite (q i)) (hk : ∀ i, Finite (k i)) (b : Fin 8) (n : Fin 4096) (h : Fin 8) (j : Fin 4096) :
    ∃ r : ℝ, 0 < r ∧ weight q k b n h j = (r : EReal) := by
  have hs : ∀ j, Finite (score q k b n h j) := fun j => finite_sum _ _ fun x _ => finite_mul (hq _) (hk _)
  exact exp_sub_pos (hs j) (finite_fold (n := 4095) (score q k b n h) hs)

/-! ## The law: one division after the sum, or one per weight before it -/

/-- Multiplying a finite sum of extended reals by a nonnegative real is multiplying each term. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top _) _ _

/-- With positive real weights the normalised weighted sum is the weighted sum over the total, whatever the values. -/
theorem sum_div_mul {n : ℕ} (w v : Fin (n + 1) → EReal) (hw : ∀ j, ∃ r : ℝ, 0 < r ∧ w j = (r : EReal)) :
    ∑ j, Ideal.div (w j) (∑ i, w i) * v j = Ideal.div (∑ j, w j * v j) (∑ i, w i) := by
  choose r hr hwr using hw
  have e : ∑ i, w i = ((∑ i, r i : ℝ) : EReal) := by
    rw [coe_sum]; exact Finset.sum_congr rfl fun i _ => hwr i
  have hp : 0 < ∑ i, r i := Finset.sum_pos (fun i _ => hr i) ⟨0, Finset.mem_univ _⟩
  have h0 : ((∑ i, r i : ℝ) : EReal) ≠ 0 := fun h => hp.ne' (EReal.coe_eq_zero.mp h)
  rw [e]
  unfold Ideal.div
  simp only [if_neg h0]
  rw [← EReal.coe_inv, sum_mul_coe _ _ (inv_nonneg.mpr hp.le)]
  exact Finset.sum_congr rfl fun j _ => by rw [mul_right_comm]

/-- A row's attention, each weight normalised before the sum. -/
theorem attnAt_eq_normalised (hq : ∀ i, Finite (q i)) (hk : ∀ i, Finite (k i)) (b : Fin 8) (n : Fin 4096) (h : Fin 8) (x : Fin 64) :
    ∑ j : Fin 4096, Ideal.div (weight q k b n h j) (∑ i : Fin 4096, weight q k b n h i) * v (ix3 b j (kLane h x))
      = attnAt q k v b n h x :=
  sum_div_mul (n := 4095) (weight q k b n h) (fun j => v (ix3 b j (kLane h x))) (weight_pos q k hq hk b n h)

/-- The pattern of minus infinity. -/
theorem ofBits_neg_inf : Ideal.ofBits .f32 0xFF800000#32 = ⊥ := by simp [Ideal.ofBits, Ideal.ieee]

end Cert.Attention

end
-- ==== Proof.AttentionBody.lean ====
/-
  What the attention kernel's body computes from its blocks of queries, keys and values, read index by index: each half
  of a lane block is one query head, whose scores are the products over that half's 64 lanes (the other half masked to
  zero), whose weights are the exponentials of the scores less the row's largest, and whose result is the weighted sum of
  the values over the same sum taken in the value block's column of ones.
-/
module

public import proofs.«01_k».proof.Proof.Attention
public import proofs.«01_k».proof.Proof.Gen.AttnIdeal.Value

@[expose] public section

set_option maxRecDepth 16384

noncomputable section

namespace Cert.AttnIdeal.Body

open Cert.AttnIdeal Cert.AttnIdeal.Gen Idealize.ShloMosaic Idealize.ShloMosaic.ValueIdx
open Cert.Attention

/-! ## One head of a block -/

/-- Lane `x` of half `hh` of a 128-lane block. -/
def half (hh : Fin 2) (x : Fin 64) : Fin 128 := ⟨hh.val * 64 + x.val, by omega⟩

/-- The value block's column of ones: lane 64 of the low head's block, lane 0 of the high head's. -/
def ones (hh : Fin 2) : Fin 128 := ⟨(1 - hh.val) * 64, by omega⟩

variable (Q : S1x256x128.Idx → EReal) (K V : S1x4096x128.Idx → EReal)

def bscore (hh : Fin 2) (r : Fin 256) (j : Fin 4096) : EReal :=
  ∑ x : Fin 64, Q (ix3 0 r (half hh x)) * K (ix3 0 j (half hh x))

def btop (hh : Fin 2) (r : Fin 256) : EReal := (Finset.univ : Finset (Fin 4096)).fold max ⊥ (bscore Q K hh r)

def bweight (hh : Fin 2) (r : Fin 256) (j : Fin 4096) : EReal := Ideal.exp (bscore Q K hh r j - btop Q K hh r)

def bout (hh : Fin 2) (r : Fin 256) (l : Fin 128) : EReal :=
  Ideal.div (∑ j : Fin 4096, bweight Q K hh r j * V (ix3 0 j l)) (∑ j : Fin 4096, bweight Q K hh r j * V (ix3 0 j (ones hh)))

/-! ## The two products at an index -/

abbrev dotScore := dot_S256x128_S4096x128_S256x4096_1_1_0_0_n_n
abbrev dotOut := dot_S256x4096_S4096x128_S256x128_1_0_0_1_n_n

theorem dotScore_apply (A : FVec Ideal S256x128 .bf16) (B : FVec Ideal S4096x128 .bf16) (r : Fin 256) (j : Fin 4096) :
    matmul dotScore none A B (constant S256x4096 .f32 0x00000000#32) (ix2 r j)
      = ∑ x : Fin 128, A (ix2 r x) * B (ix2 j x) := by
  refine (Ideal.matmul_constant_zero_apply dotScore none A B (ix2 r j)).trans ?_
  refine (Fintype.sum_equiv (contrEquiv1 dotScore 128 rfl rfl) _ _ fun k => ?_)
  have hl : dotScore.lhsIdx (ix2 r j) k = ix2 r (contrEquiv1 dotScore 128 rfl rfl k) := by
    funext a
    match a with
    | ⟨0, _⟩ => rfl
    | ⟨1, _⟩ => exact Fin.ext (dotScore.lhsIdx_val_of_single (cl := (1 : Fin 2)) rfl (ix2 r j) k)
  have hr : dotScore.rhsIdx (ix2 r j) k = ix2 j (contrEquiv1 dotScore 128 rfl rfl k) := by
    funext a
    match a with
    | ⟨0, _⟩ => rfl
    | ⟨1, _⟩ => exact Fin.ext (dotScore.rhsIdx_val_of_single (cr := (1 : Fin 2)) rfl (ix2 r j) k)
  rw [hl, hr]

theorem dotOut_apply (A : FVec Ideal S256x4096 .bf16) (B : FVec Ideal S4096x128 .bf16) (r : Fin 256) (l : Fin 128) :
    matmul dotOut none A B (constant S256x128 .f32 0x00000000#32) (ix2 r l)
      = ∑ j : Fin 4096, A (ix2 r j) * B (ix2 j l) := by
  refine (Ideal.matmul_constant_zero_apply dotOut none A B (ix2 r l)).trans ?_
  refine (Fintype.sum_equiv (contrEquiv1 dotOut 4096 rfl rfl) _ _ fun k => ?_)
  have hl : dotOut.lhsIdx (ix2 r l) k = ix2 r (contrEquiv1 dotOut 4096 rfl rfl k) := by
    funext a
    match a with
    | ⟨0, _⟩ => rfl
    | ⟨1, _⟩ => exact Fin.ext (dotOut.lhsIdx_val_of_single (cl := (1 : Fin 2)) rfl (ix2 r l) k)
  have hr : dotOut.rhsIdx (ix2 r l) k = ix2 (contrEquiv1 dotOut 4096 rfl rfl k) l := by
    funext a
    match a with
    | ⟨0, _⟩ => exact Fin.ext (dotOut.rhsIdx_val_of_single (cr := (0 : Fin 2)) rfl (ix2 r l) k)
    | ⟨1, _⟩ => rfl
  rw [hl, hr]

/-! ## Layout -/

theorem drop256_apply (x : S1x256x128.Idx → EReal) (h : S1x256x128.ShapeCasts S256x128) (r : Fin 256) (l : Fin 128) :
    shapeCast S256x128 x h (ix2 r l) = x (ix3 0 r l) := by
  refine (shapeCast_dropUnit_apply ![256, 128] x h (ix2 r l)).trans (congrArg x (funext fun a => ?_))
  match a with
  | ⟨0, _⟩ => rfl
  | ⟨1, _⟩ => rfl
  | ⟨2, _⟩ => rfl

theorem drop4096_apply (x : S1x4096x128.Idx → EReal) (h : S1x4096x128.ShapeCasts S4096x128) (j : Fin 4096) (l : Fin 128) :
    shapeCast S4096x128 x h (ix2 j l) = x (ix3 0 j l) := by
  refine (shapeCast_dropUnit_apply ![4096, 128] x h (ix2 j l)).trans (congrArg x (funext fun a => ?_))
  match a with
  | ⟨0, _⟩ => rfl
  | ⟨1, _⟩ => rfl
  | ⟨2, _⟩ => rfl

/-- A lane mask spread over the rows. -/
abbrev spread (M : IVec S1x128 1) : IVec S256x128 1 :=
  broadcastTo S256x128 (shapeCast S1x128 M shapeCasts_S1x128_S1x128) broadcasts_S1x128_S256x128

theorem spread_apply (M : IVec S1x128 1) (r : Fin 256) (l : Fin 128) : spread M (ix2 r l) = M (ix2 0 l) := by
  unfold spread
  rw [shapeCast_self]
  refine broadcastTo_apply M _ (ix2 r l) (ix2 0 l) fun a => ?_
  match a with
  | ⟨0, _⟩ => rfl
  | ⟨1, _⟩ => rfl

/-- A row statistic spread over the columns. -/
theorem column_apply {n : Nat} (x : S256.Idx → EReal) (h : S256.ShapeCasts S256x1) (h' : S256x1.Broadcasts ⟨2, ![256, n]⟩)
    (r : Fin 256) (j : Fin n) :
    broadcastTo ⟨2, ![256, n]⟩ (shapeCast S256x1 x h) h' (ix2 r j) = x (ix1 r) := by
  refine (broadcastTo_apply _ h' (ix2 r j) (ix2 r 0) fun a => ?_).trans ?_
  · match a with
    | ⟨0, _⟩ => rfl
    | ⟨1, _⟩ => rfl
  · refine shapeCast_apply x h (ix2 r 0) (ix1 r) ?_
    rw [Shape.rowMajor_val_one, Shape.rowMajor_val_two]
    show r.val = r.val * 1 + 0
    omega

/-! ## The masks -/

/-- A mask that picks half `hh` of the lanes. -/
def Picks (M : IVec S1x128 1) (hh : Fin 2) : Prop := ∀ l : Fin 128, M (ix2 0 l) = if l.val / 64 = hh.val then 1#1 else 0#1

theorem picks_low : Picks k0_pay3 0 := by
  intro l
  have key : ∀ n < 128, IntOp.cmpi .slt (BitVec.ofNat 32 n) 64#32 = if n / 64 = 0 then 1#1 else 0#1 := by decide
  refine Eq.trans ?_ (key l.val l.isLt)
  show IntOp.cmpi .slt (iota .tc S1x128 32 [1] iota_S1x128_d1_w32 (ix2 0 l)) 64#32 = _
  rw [iota_single_apply]

theorem picks_high : Picks (xori k0_pay3 (constantI S1x128 1 1#1)) 1 := by
  intro l
  show IntOp.xori (k0_pay3 (ix2 0 l)) 1#1 = _
  rw [picks_low l]
  have h := l.isLt
  by_cases h0 : l.val / 64 = 0
  · rw [if_pos (by simpa using h0), if_neg (by show ¬ l.val / 64 = 1; omega)]; rfl
  · rw [if_neg (by simpa using h0), if_pos (by show l.val / 64 = 1; omega)]; rfl

/-! ## Scores, weights, and one head's result -/

/-- The scores as the body computes them, for a lane mask `M`. -/
abbrev scoresOf (M : IVec S1x128 1) (K1 : FVec Ideal S4096x128 .bf16) : FVec Ideal S256x4096 .f32 :=
  matmul dotScore none (select (spread M) (shapeCast S256x128 Q shapeCasts_S1x256x128_S256x128 : FVec Ideal S256x128 .bf16)
    (broadcast S256x128 (Scalar.ofBits (F := Ideal) .bf16 0x0000#16))) K1 (constant S256x4096 .f32 0x00000000#32)

/-- A sum over 128 lanes of which one half counts. -/
theorem sum_half (f : Fin 128 → EReal) (hh : Fin 2) :
    ∑ x : Fin 128, (if x.val / 64 = hh.val then f x else 0) = ∑ x : Fin 64, f (half hh x) := by
  rw [← Finset.sum_filter]
  refine (Finset.sum_nbij' (fun x => half hh x) (fun x => ⟨x.val % 64, by omega⟩) ?_ ?_ ?_ ?_ ?_).symm
  · intro x _
    simp only [Finset.mem_filter, Finset.mem_univ, true_and]
    show (hh.val * 64 + x.val) / 64 = hh.val
    omega
  · intro x _; exact Finset.mem_univ _
  · intro x _
    refine Fin.ext ?_
    show (hh.val * 64 + x.val) % 64 = x.val
    omega
  · intro x hx
    simp only [Finset.mem_filter, Finset.mem_univ, true_and] at hx
    refine Fin.ext ?_
    show hh.val * 64 + x.val % 64 = x.val
    omega
  · intro x _; rfl

theorem scoresOf_apply (M : IVec S1x128 1) (hh : Fin 2) (hM : Picks M hh) (r : Fin 256) (j : Fin 4096) :
    scoresOf Q M (k0_pay2 (F := Ideal) K) (ix2 r j) = bscore Q K hh r j := by
  unfold scoresOf
  rw [dotScore_apply]
  unfold bscore
  rw [← sum_half (fun x => Q (ix3 0 r x) * K (ix3 0 j x)) hh]
  refine Finset.sum_congr rfl fun x _ => ?_
  have hk : k0_pay2 (F := Ideal) K (ix2 j x) = K (ix3 0 j x) := drop4096_apply K _ j x
  rw [hk, select_apply, spread_apply, hM x]
  by_cases h : x.val / 64 = hh.val
  · rw [if_pos h, if_pos h, select_one, drop256_apply]
  · rw [if_neg h, if_neg h, select_zero]
    show Ideal.ofBits .bf16 0x0000#16 * _ = _
    rw [show Ideal.ofBits .bf16 0x0000#16 = 0 by simp [Ideal.ofBits, Ideal.ieee]]
    exact zero_mul _

/-- The row maxima spread over the columns. -/
abbrev topsOf (S : FVec Ideal S256x4096 .f32) : FVec Ideal S256x4096 .f32 :=
  broadcastTo S256x4096 (shapeCast S256x1
    (multiReduction .maximumf [1] S256 S 0xFF800000#32 reduces_S256x4096_S256 (.inl rfl) rfl) shapeCasts_S256_S256x1)
    broadcasts_S256x1_S256x4096

theorem topsOf_apply (S : FVec Ideal S256x4096 .f32) (r : Fin 256) (j : Fin 4096) :
    topsOf S (ix2 r j) = (Finset.univ : Finset (Fin 4096)).fold max ⊥ fun i => S (ix2 r i) := by
  refine (column_apply (n := 4096) _ shapeCasts_S256_S256x1 broadcasts_S256x1_S256x4096 r j).trans ?_
  refine (Ideal.multiReduction_maximumf_single S 0xFF800000#32 reduces_S256x4096_S256 (.inl rfl) rfl (ix1 r)).trans ?_
  show (Finset.univ : Finset (Fin 4096)).fold max (Ideal.ofBits .f32 0xFF800000#32) _ = _
  rw [ofBits_neg_inf]
  refine congrArg (fun f => (Finset.univ : Finset (Fin 4096)).fold max ⊥ f) (funext fun i => ?_)
  refine congrArg S (funext fun a => ?_)
  match a with
  | ⟨0, _⟩ => rfl
  | ⟨1, _⟩ => rfl

/-- The weights. -/
abbrev weightsOf (S T : FVec Ideal S256x4096 .f32) : FVec Ideal S256x4096 .bf16 :=
  truncf .bf16 (exp (subf S T)) bitsLt_bf16_f32

theorem weightsOf_apply (M : IVec S1x128 1) (hh : Fin 2) (hM : Picks M hh) (r : Fin 256) (j : Fin 4096) :
    weightsOf (scoresOf Q M (k0_pay2 (F := Ideal) K)) (topsOf (scoresOf Q M (k0_pay2 (F := Ideal) K))) (ix2 r j)
      = bweight Q K hh r j := by
  show Ideal.exp (scoresOf Q M (k0_pay2 (F := Ideal) K) (ix2 r j) - topsOf (scoresOf Q M (k0_pay2 (F := Ideal) K)) (ix2 r j)) = _
  rw [topsOf_apply, scoresOf_apply Q K M hh hM]
  unfold bweight btop
  refine congrArg (fun f => Ideal.exp (bscore Q K hh r j - (Finset.univ : Finset (Fin 4096)).fold max ⊥ f)) (funext fun i => ?_)
  exact scoresOf_apply Q K M hh hM r i

/-- The weighted sums of the value block's columns. -/
abbrev sumsOf (W : FVec Ideal S256x4096 .bf16) : FVec Ideal S256x128 .f32 :=
  matmul dotOut none W (shapeCast S4096x128 V shapeCasts_S1x4096x128_S4096x128 : FVec Ideal S4096x128 .bf16)
    (constant S256x128 .f32 0x00000000#32)

theorem sumsOf_apply (W : FVec Ideal S256x4096 .bf16) (r : Fin 256) (l : Fin 128) :
    sumsOf V W (ix2 r l) = ∑ j : Fin 4096, W (ix2 r j) * V (ix3 0 j l) := by
  unfold sumsOf
  rw [dotOut_apply]
  exact Finset.sum_congr rfl fun j _ => by rw [drop4096_apply]

/-- One head's result: the weighted sums over those in the column of ones, whichever column that is. -/
theorem quotient_apply (W : FVec Ideal S256x4096 .bf16) (hh : Fin 2) (hW : ∀ r j, W (ix2 r j) = bweight Q K hh r j)
    (off : Fin 2 → Nat) (h : S256x128.Slices off S256x1) (ho : off = ![0, (ones hh).val]) (r : Fin 256) (l : Fin 128) :
    divf (sumsOf V W) (broadcastTo S256x128 (extractStridedSlice S256x1 off (sumsOf V W) h) broadcasts_S256x1_S256x128) (ix2 r l)
      = bout Q K V hh r l := by
  subst ho
  rw [divf_apply]
  have hb : broadcastTo S256x128 (extractStridedSlice S256x1 ![0, (ones hh).val] (sumsOf V W) h) broadcasts_S256x1_S256x128 (ix2 r l)
      = sumsOf V W (ix2 r (ones hh)) := by
    refine (broadcastTo_apply _ _ (ix2 r l) (ix2 r 0) fun a => ?_).trans ?_
    · match a with
      | ⟨0, _⟩ => rfl
      | ⟨1, _⟩ => rfl
    · refine extractStridedSlice_apply _ _ h (ix2 r 0) (ix2 r (ones hh)) fun a => ?_
      match a with
      | ⟨0, _⟩ => exact (Nat.zero_add r.val).symm
      | ⟨1, _⟩ => rfl
  rw [hb, sumsOf_apply, sumsOf_apply]
  unfold bout
  simp only [hW]

/-- The result block joined from the two heads, low lanes from the first and high lanes from the second. -/
theorem joined_apply (O0 O1 : FVec Ideal S256x128 .f32) (z : Fin 1) (r : Fin 256) (l : Fin 128) :
    shapeCast S1x256x128 (truncf .bf16 (select (spread k0_pay3) O0 O1) bitsLt_bf16_f32 : FVec Ideal S256x128 .bf16)
        shapeCasts_S256x128_S1x256x128 (ix3 z r l)
      = if l.val / 64 = 0 then O0 (ix2 r l) else O1 (ix2 r l) := by
  refine (shapeCast_addUnit_apply ![256, 128] _ _ (ix3 z r l)).trans ?_
  have e : (fun a : Fin 2 => (ix3 z r l : S1x256x128.Idx) a.succ) = (ix2 r l : S256x128.Idx) := by
    funext a
    match a with
    | ⟨0, _⟩ => rfl
    | ⟨1, _⟩ => rfl
  refine (congrArg (select (spread k0_pay3) O0 O1) e).trans ?_
  rw [select_apply, spread_apply, picks_low]
  by_cases h : l.val / 64 = 0
  · rw [if_pos (by simpa using h), if_pos h, select_one]
  · rw [if_neg (by simpa using h), if_neg h, select_zero]

/-- What a lane block of the result holds: at lane `l`, the head of the half `l` is in. -/
def block (V0 V1 : S1x4096x128.Idx → EReal) (r : Fin 256) (l : Fin 128) : EReal :=
  if l.val / 64 = 0 then bout Q K V0 0 r l else bout Q K V1 1 r l

theorem first_apply (V0 V1 : S1x4096x128.Idx → EReal) (z : Fin 1) (r : Fin 256) (l : Fin 128) :
    k0_pay7 (F := Ideal) k0_pay3 (k0_pay5 K Q V0) (k0_pay6 K Q) V1 (ix3 z r l) = block Q K V0 V1 r l := by
  refine (joined_apply (k0_pay5 (F := Ideal) K Q V0) _ z r l).trans ?_
  unfold block
  refine if_congr Iff.rfl ?_ ?_
  · exact quotient_apply Q K V0 _ 0 (fun r j => weightsOf_apply Q K k0_pay3 0 picks_low r j) _ _ rfl r l
  · exact quotient_apply Q K V1 _ 1 (fun r j => weightsOf_apply Q K _ 1 picks_high r j) _ _ rfl r l

theorem second_apply (V0 V1 : S1x4096x128.Idx → EReal) (z : Fin 1) (r : Fin 256) (l : Fin 128) :
    k0_pay1 (F := Ideal) k0_pay3 (k0_pay9 (k0_pay2 K) k0_pay3 Q V0) (k0_pay10 (k0_pay2 K) k0_pay3 Q)
        (k0_pay11 (k0_pay2 K) k0_pay3 Q) V1 (ix3 z r l) = block Q K V0 V1 r l := by
  refine (joined_apply (k0_pay9 (F := Ideal) (k0_pay2 K) k0_pay3 Q V0) _ z r l).trans ?_
  unfold block
  refine if_congr Iff.rfl ?_ ?_
  · exact quotient_apply Q K V0 _ 0 (fun r j => weightsOf_apply Q K k0_pay3 0 picks_low r j) _ _ rfl r l
  · exact quotient_apply Q K V1 _ 1 (fun r j => weightsOf_apply Q K _ 1 picks_high r j) _ _ rfl r l

end Cert.AttnIdeal.Body

end
-- ==== Proof.AttentionHost.lean ====
/-
  The two arrays the host lays out for the attention kernel, read index by index: each key head twice side by side, and
  each value head twice with a column of ones beside it.
-/
module

public import proofs.«01_k».proof.Proof.Attention
public import proofs.«01_k».proof.Proof.Gen.AttnIdeal.Value
public import Idealize.ShloMosaic.Lib.StableHlo.RunRead

@[expose] public section

set_option maxRecDepth 16384

noncomputable section

namespace Cert.AttnIdeal.Host

open Cert.AttnIdeal Cert.AttnIdeal.Gen Idealize.ShloMosaic Idealize.ShloMosaic.TcCoe Idealize.ShloMosaic.ValueIdx
open Cert.Attention

variable (k v : KShape.Idx → EReal)

/-- The lanes of key or value head `g`. -/
abbrev headLo : FVec Ideal S8x4096x64 .bf16 := extractStridedSlice S8x4096x64 ![0, 0, 0] k slices_S8x4096x128_S8x4096x64_0_0_0
abbrev headHi : FVec Ideal S8x4096x64 .bf16 := extractStridedSlice S8x4096x64 ![0, 0, 64] k slices_S8x4096x128_S8x4096x64_0_0_64

/-- Lane `x` of head `g` of a key or value array. -/
def lane (g : Fin 2) (x : Fin 64) : Fin 128 := ⟨g.val * 64 + x.val, by omega⟩

theorem headLo_apply (b : Fin 8) (j : Fin 4096) (x : Fin 64) : headLo k (ix3 b j x) = k (ix3 b j (lane 0 x)) := by
  refine extractStridedSlice_apply _ _ _ (ix3 b j x) (ix3 b j (lane 0 x)) fun a => ?_
  match a with
  | ⟨0, _⟩ => exact (Nat.zero_add _).symm
  | ⟨1, _⟩ => exact (Nat.zero_add _).symm
  | ⟨2, _⟩ => show 0 * 64 + x.val = 0 + x.val; omega

theorem headHi_apply (b : Fin 8) (j : Fin 4096) (x : Fin 64) : headHi k (ix3 b j x) = k (ix3 b j (lane 1 x)) := by
  refine extractStridedSlice_apply _ _ _ (ix3 b j x) (ix3 b j (lane 1 x)) fun a => ?_
  match a with
  | ⟨0, _⟩ => exact (Nat.zero_add _).symm
  | ⟨1, _⟩ => exact (Nat.zero_add _).symm
  | ⟨2, _⟩ => show 1 * 64 + x.val = 64 + x.val; omega

/-- A concatenation along the lanes read in its piece `n`, which begins at lane `pre`. -/
theorem piece {N w : Nat} (xs : List ((s : Shape) × (s.Idx → EReal)))
    (h : Shape.Concatenates (xs.map (·.1)) ⟨3, ![8, 4096, N]⟩ 2) (n : Nat) (hn : n < xs.length)
    (y : (⟨3, ![8, 4096, w]⟩ : Shape).Idx → EReal) (hy : xs[n] = ⟨⟨3, ![8, 4096, w]⟩, y⟩) (pre : Nat)
    (hpre : (((xs.take n).map (·.1)).map fun s =>
      if h : s.rank = (⟨3, ![8, 4096, N]⟩ : Shape).rank then s.size ((2 : Fin 3).cast h.symm) else 0).sum = pre)
    (b : Fin 8) (j : Fin 4096) (x : Fin w) (l : Fin N) (hl : pre + x.val = l.val) :
    concatenate ⟨3, ![8, 4096, N]⟩ 2 xs h (ix3 b j l) = y (ix3 b j x) := by
  refine concatenate_apply_piece (t := ⟨3, ![8, 4096, N]⟩) 2 xs h (ix3 b j l) n hn ⟨3, ![8, 4096, w]⟩ y hy rfl pre hpre (ix3 b j x) (fun a ha => ?_) hl
  match a with
  | ⟨0, _⟩ => rfl
  | ⟨1, _⟩ => rfl
  | ⟨2, _⟩ => exact absurd rfl ha

/-- The keys laid out: head 0 twice, head 1 twice. -/
abbrev keyPieces : List ((s : Shape) × (s.Idx → EReal)) :=
  [⟨S8x4096x64, headLo k⟩, ⟨S8x4096x64, headLo k⟩, ⟨S8x4096x64, headHi k⟩, ⟨S8x4096x64, headHi k⟩]

abbrev keys : S8x4096x256.Idx → EReal :=
  concatenate S8x4096x256 2 (keyPieces k)
    concatenates_S8x4096x64_S8x4096x64_S8x4096x64_S8x4096x64_S8x4096x256_d2

/-- Lane `l` of head `g`'s block of the laid-out keys. -/
theorem keys_apply (b : Fin 8) (j : Fin 4096) (g : Fin 2) (l : Fin 128) :
    keys k (ix3 b j ⟨g.val * 128 + l.val, by omega⟩) = k (ix3 b j (lane g ⟨l.val % 64, by omega⟩)) := by
  have hl := l.isLt
  by_cases hlo : l.val < 64
  · match g with
    | ⟨0, _⟩ =>
      refine Eq.trans ?_ (headLo_apply k b j ⟨l.val % 64, by omega⟩)
      refine piece (keyPieces k) _ 0 (by show 0 < 4; decide) (headLo k) rfl 0 rfl b j _ _ ?_
      show 0 + l.val % 64 = 0 * 128 + l.val
      omega
    | ⟨1, _⟩ =>
      refine Eq.trans ?_ (headHi_apply k b j ⟨l.val % 64, by omega⟩)
      refine piece (keyPieces k) _ 2 (by show 2 < 4; decide) (headHi k) rfl 128 rfl b j _ _ ?_
      show 128 + l.val % 64 = 1 * 128 + l.val
      omega
  · match g with
    | ⟨0, _⟩ =>
      refine Eq.trans ?_ (headLo_apply k b j ⟨l.val % 64, by omega⟩)
      refine piece (keyPieces k) _ 1 (by show 1 < 4; decide) (headLo k) rfl 64 rfl b j _ _ ?_
      show 64 + l.val % 64 = 0 * 128 + l.val
      omega
    | ⟨1, _⟩ =>
      refine Eq.trans ?_ (headHi_apply k b j ⟨l.val % 64, by omega⟩)
      refine piece (keyPieces k) _ 3 (by show 3 < 4; decide) (headHi k) rfl 192 rfl b j _ _ ?_
      show 192 + l.val % 64 = 1 * 128 + l.val
      omega

/-- A column of ones, and the zeros that fill a half block up. -/
abbrev oneCol : FVec Ideal S8x4096x1 .bf16 := broadcastInDim S8x4096x1 ![] bcast_S_S8x4096x1 (constant (F := Ideal) S_ .bf16 0x3F80#16)
abbrev zeroCols : FVec Ideal S8x4096x63 .bf16 := broadcastInDim S8x4096x63 ![] bcast_S_S8x4096x63 (constant (F := Ideal) S_ .bf16 0x0000#16)

theorem ofBits_one_bf16 : Ideal.ofBits .bf16 0x3F80#16 = 1 := by
  simp [Ideal.ofBits, Ideal.ieee]
  rw [← EReal.coe_mul]
  norm_num

theorem oneCol_apply (i : S8x4096x1.Idx) : oneCol i = 1 := ofBits_one_bf16

/-- The values laid out: per head a block with the head's lanes low and the ones at lane 64, then a block with the ones
    at lane 0 and the head's lanes high. -/
abbrev valuePieces : List ((s : Shape) × (s.Idx → EReal)) :=
  [⟨S8x4096x64, headLo v⟩, ⟨S8x4096x1, oneCol⟩, ⟨S8x4096x63, zeroCols⟩, ⟨S8x4096x1, oneCol⟩,
      ⟨S8x4096x63, zeroCols⟩, ⟨S8x4096x64, headLo v⟩, ⟨S8x4096x64, headHi v⟩, ⟨S8x4096x1, oneCol⟩, ⟨S8x4096x63, zeroCols⟩,
      ⟨S8x4096x1, oneCol⟩, ⟨S8x4096x63, zeroCols⟩, ⟨S8x4096x64, headHi v⟩]

abbrev values : S8x4096x512.Idx → EReal :=
  concatenate S8x4096x512 2 (valuePieces v)
    concatenates_S8x4096x64_S8x4096x1_S8x4096x63_S8x4096x1_S8x4096x63_S8x4096x64_S8x4096x64_S8x4096x1_S8x4096x63_S8x4096x1_S8x4096x63_S8x4096x64_S8x4096x512_d2

section Values

variable (b : Fin 8) (j : Fin 4096)

/-- The value lanes of half block `hh`: low in the first, high in the second. -/
theorem values_apply (g hh : Fin 2) (x : Fin 64) :
    values v (ix3 b j ⟨g.val * 256 + hh.val * 128 + (hh.val * 64 + x.val), by omega⟩) = v (ix3 b j (lane g x)) := by
  match g, hh with
  | ⟨0, _⟩, ⟨0, _⟩ =>
    refine Eq.trans ?_ (headLo_apply v b j x)
    refine piece (valuePieces v) _ 0 (by show 0 < 12; decide) (headLo v) rfl 0 rfl b j _ _ ?_
    show 0 + x.val = 0 * 256 + 0 * 128 + (0 * 64 + x.val)
    omega
  | ⟨0, _⟩, ⟨1, _⟩ =>
    refine Eq.trans ?_ (headLo_apply v b j x)
    refine piece (valuePieces v) _ 5 (by show 5 < 12; decide) (headLo v) rfl 192 rfl b j _ _ ?_
    show 192 + x.val = 0 * 256 + 1 * 128 + (1 * 64 + x.val)
    omega
  | ⟨1, _⟩, ⟨0, _⟩ =>
    refine Eq.trans ?_ (headHi_apply v b j x)
    refine piece (valuePieces v) _ 6 (by show 6 < 12; decide) (headHi v) rfl 256 rfl b j _ _ ?_
    show 256 + x.val = 1 * 256 + 0 * 128 + (0 * 64 + x.val)
    omega
  | ⟨1, _⟩, ⟨1, _⟩ =>
    refine Eq.trans ?_ (headHi_apply v b j x)
    refine piece (valuePieces v) _ 11 (by show 11 < 12; decide) (headHi v) rfl 448 rfl b j _ _ ?_
    show 448 + x.val = 1 * 256 + 1 * 128 + (1 * 64 + x.val)
    omega

/-- The ones of half block `hh`. -/
theorem ones_apply (g hh : Fin 2) :
    values v (ix3 b j ⟨g.val * 256 + hh.val * 128 + (1 - hh.val) * 64, by omega⟩) = 1 := by
  match g, hh with
  | ⟨0, _⟩, ⟨0, _⟩ =>
    refine Eq.trans ?_ (oneCol_apply (ix3 b j 0))
    exact piece (valuePieces v) _ 1 (by show 1 < 12; decide) oneCol rfl 64 rfl b j _ _ rfl
  | ⟨0, _⟩, ⟨1, _⟩ =>
    refine Eq.trans ?_ (oneCol_apply (ix3 b j 0))
    exact piece (valuePieces v) _ 3 (by show 3 < 12; decide) oneCol rfl 128 rfl b j _ _ rfl
  | ⟨1, _⟩, ⟨0, _⟩ =>
    refine Eq.trans ?_ (oneCol_apply (ix3 b j 0))
    exact piece (valuePieces v) _ 7 (by show 7 < 12; decide) oneCol rfl 320 rfl b j _ _ rfl
  | ⟨1, _⟩, ⟨1, _⟩ =>
    refine Eq.trans ?_ (oneCol_apply (ix3 b j 0))
    exact piece (valuePieces v) _ 9 (by show 9 < 12; decide) oneCol rfl 384 rfl b j _ _ rfl

end Values

/-! ## What the region finds in the two arrays -/

variable (m : (ℓ : Loc nD τ sig) → Buf (Elt Ideal) ℓ) (c : Dev nD)

theorem V_keys : (V m c main_v4 : S8x4096x256.Idx → EReal) = keys (m ((c : Thread nD τ).loc main_arg1)) := by
  unfold V
  after_reads_simp
  rfl

theorem V_values : (V m c main_v7 : S8x4096x512.Idx → EReal) = values (m ((c : Thread nD τ).loc main_arg2)) := by
  unfold V
  after_reads_simp
  rfl

end Cert.AttnIdeal.Host

end
-- ==== Proof.AttentionKernel.lean ====
/-
  The attention kernel's result array: every grid point writes its block of `Attention.attn` of the arguments, and the
  blocks tile the array.
-/
module

public import proofs.«01_k».proof.Proof.AttentionBody
public import proofs.«01_k».proof.Proof.AttentionHost
public import Idealize.ShloMosaic.Lib.Pipeline.Covers

@[expose] public section

set_option maxRecDepth 16384

noncomputable section

namespace Cert.AttnIdeal.RefValue

open Cert.AttnIdeal Cert.AttnIdeal.Gen Cert.AttnIdeal.Body Cert.AttnIdeal.Host
open Idealize.ShloMosaic Idealize.ShloMosaic.TcCoe Idealize.ShloMosaic.ValueIdx Idealize.SL.Sem
open Idealize.ShloMosaic.Pipeline (Dat)
open Cert.Attention

/-! ## One lane block against the attention -/

variable (q : QShape.Idx → EReal) (k v : KShape.Idx → EReal)

/-- The position a block's row `r` stands for, at block row `qi`. -/
def pos (qi : Fin 16) (r : Fin 256) : Fin 4096 := ⟨qi.val * 256 + r.val, by omega⟩

/-- The query head of half `hh` of lane block `p` of key head `g`. -/
def head (g p hh : Fin 2) : Fin 8 := ⟨g.val * 4 + p.val * 2 + hh.val, by omega⟩

/-- Where lane block `p`'s queries, the laid-out keys and the laid-out values are those of the arguments, a half's
    result is the attention of its head. -/
theorem bout_eq (Q : S1x256x128.Idx → EReal) (K W : S1x4096x128.Idx → EReal) (b : Fin 8) (g p hh : Fin 2) (qi : Fin 16)
    (hQ : ∀ r x, Q (ix3 0 r (half hh x)) = q (ix3 b (pos qi r) (qLane (head g p hh) x)))
    (hK : ∀ j x, K (ix3 0 j (half hh x)) = k (ix3 b j (kLane (head g p hh) x)))
    (hW : ∀ j x, W (ix3 0 j (half hh x)) = v (ix3 b j (kLane (head g p hh) x)))
    (h1 : ∀ j, W (ix3 0 j (ones hh)) = 1) (r : Fin 256) (x : Fin 64) :
    bout Q K W hh r (half hh x) = attnAt q k v b (pos qi r) (head g p hh) x := by
  have hs : ∀ j, bscore Q K hh r j = score q k b (pos qi r) (head g p hh) j := fun j => by
    unfold bscore score
    exact Finset.sum_congr rfl fun x _ => by rw [hQ, hK]
  have hw : ∀ j, bweight Q K hh r j = weight q k b (pos qi r) (head g p hh) j := fun j => by
    unfold bweight weight btop top
    rw [hs, show bscore Q K hh r = score q k b (pos qi r) (head g p hh) from funext hs]
  unfold bout attnAt
  simp only [hw, hW, h1, mul_one]

/-- A lane block of the result, at its lane `l`. -/
theorem block_eq (Q : S1x256x128.Idx → EReal) (K W0 W1 : S1x4096x128.Idx → EReal) (b : Fin 8) (g p : Fin 2) (qi : Fin 16)
    (hQ : ∀ hh r x, Q (ix3 0 r (half hh x)) = q (ix3 b (pos qi r) (qLane (head g p hh) x)))
    (hK : ∀ hh j x, K (ix3 0 j (half hh x)) = k (ix3 b j (kLane (head g p hh) x)))
    (hW0 : ∀ j x, W0 (ix3 0 j (half 0 x)) = v (ix3 b j (kLane (head g p 0) x)))
    (hW1 : ∀ j x, W1 (ix3 0 j (half 1 x)) = v (ix3 b j (kLane (head g p 1) x)))
    (h0 : ∀ j, W0 (ix3 0 j (ones 0)) = 1) (h1 : ∀ j, W1 (ix3 0 j (ones 1)) = 1) (r : Fin 256) (l : Fin 128) :
    block Q K W0 W1 r l = attn q k v (ix3 b (pos qi r) ⟨g.val * 256 + p.val * 128 + l.val, by omega⟩) := by
  have hl := l.isLt
  have main : ∀ hh : Fin 2, l.val / 64 = hh.val →
      attn q k v (ix3 b (pos qi r) ⟨g.val * 256 + p.val * 128 + l.val, by omega⟩)
        = attnAt q k v b (pos qi r) (head g p hh) ⟨l.val % 64, by omega⟩ := fun hh e => by
    show attnAt q k v b (pos qi r) (headOf ⟨g.val * 256 + p.val * 128 + l.val, _⟩) (laneOf ⟨g.val * 256 + p.val * 128 + l.val, _⟩) = _
    refine congrArg₂ (attnAt q k v b (pos qi r)) (Fin.ext ?_) (Fin.ext ?_)
    · show (g.val * 256 + p.val * 128 + l.val) / 64 = g.val * 4 + p.val * 2 + hh.val
      omega
    · show (g.val * 256 + p.val * 128 + l.val) % 64 = l.val % 64
      omega
  have lane : ∀ hh : Fin 2, l.val / 64 = hh.val → l = half hh ⟨l.val % 64, by omega⟩ := fun hh e => Fin.ext (by
    show l.val = hh.val * 64 + l.val % 64
    omega)
  unfold block
  by_cases h : l.val / 64 = 0
  · rw [if_pos h, main 0 h]
    exact (congrArg (bout Q K W0 0 r) (lane 0 h)).trans (bout_eq q k v Q K W0 b g p 0 qi (hQ 0) (hK 0) hW0 h0 r _)
  · have h' : l.val / 64 = 1 := by omega
    rw [if_neg h, main 1 h']
    exact (congrArg (bout Q K W1 1 r) (lane 1 h')).trans (bout_eq q k v Q K W1 b g p 1 qi (hQ 1) (hK 1) hW1 h1 r _)

/-! ## The windows' blocks -/

variable (m : (ℓ : Loc nD τ sig) → Buf (Elt Ideal) ℓ) (ρ : Dev nD → PrngReg) (c : Dev nD) (t : Fin cfg0.N)

/-- The point's batch, key head and block of positions. -/
def bat : Fin 8 := grid0.coords t 0
def kvh : Fin 2 := grid0.coords t 1
def qbl : Fin 16 := grid0.coords t 2

theorem toNat_small {n : Nat} (h : n < 16) : (BitVec.ofNat 32 n).toNat = n := by
  rw [BitVec.toNat_ofNat]; omega

theorem emb_q (t : Fin cfg0.N) (r cc : Fin 256) :
    (win0_0.rect t).emb (ix3 0 r cc) = (ix3 (bat t) (pos (qbl t) r) ⟨(kvh t).val * 256 + cc.val, by omega⟩ : QShape.Idx) := by
  have hb := (bat t).isLt
  have hg := (kvh t).isLt
  have hq := (qbl t).isLt
  funext a
  refine Fin.ext ((win0_0.rect_emb_val t _ a).trans ?_)
  match a with
  | ⟨0, _⟩ =>
    show (BitVec.ofNat 32 (bat t).val).toNat * 1 + 0 = (bat t).val
    rw [toNat_small (by omega)]; omega
  | ⟨1, _⟩ =>
    show (BitVec.ofNat 32 (qbl t).val).toNat * 256 + r.val = (qbl t).val * 256 + r.val
    rw [toNat_small (by omega)]
  | ⟨2, _⟩ =>
    show (BitVec.ofNat 32 (kvh t).val).toNat * 256 + cc.val = (kvh t).val * 256 + cc.val
    rw [toNat_small (by omega)]

theorem emb_o (t : Fin cfg0.N) (r cc : Fin 256) :
    (win0_3.rect t).emb (ix3 0 r cc) = (ix3 (bat t) (pos (qbl t) r) ⟨(kvh t).val * 256 + cc.val, by omega⟩ : QShape.Idx) := by
  have hb := (bat t).isLt
  have hg := (kvh t).isLt
  have hq := (qbl t).isLt
  funext a
  refine Fin.ext ((win0_3.rect_emb_val t _ a).trans ?_)
  match a with
  | ⟨0, _⟩ =>
    show (BitVec.ofNat 32 (bat t).val).toNat * 1 + 0 = (bat t).val
    rw [toNat_small (by omega)]; omega
  | ⟨1, _⟩ =>
    show (BitVec.ofNat 32 (qbl t).val).toNat * 256 + r.val = (qbl t).val * 256 + r.val
    rw [toNat_small (by omega)]
  | ⟨2, _⟩ =>
    show (BitVec.ofNat 32 (kvh t).val).toNat * 256 + cc.val = (kvh t).val * 256 + cc.val
    rw [toNat_small (by omega)]

theorem emb_k (t : Fin cfg0.N) (j : Fin 4096) (l : Fin 128) :
    (win0_1.rect t).emb (ix3 0 j l) = (ix3 (bat t) j ⟨(kvh t).val * 128 + l.val, by omega⟩ : S8x4096x256.Idx) := by
  have hb := (bat t).isLt
  have hg := (kvh t).isLt
  funext a
  refine Fin.ext ((win0_1.rect_emb_val t _ a).trans ?_)
  match a with
  | ⟨0, _⟩ =>
    show (BitVec.ofNat 32 (bat t).val).toNat * 1 + 0 = (bat t).val
    rw [toNat_small (by omega)]; omega
  | ⟨1, _⟩ =>
    show 0 * 4096 + j.val = j.val
    omega
  | ⟨2, _⟩ =>
    show (BitVec.ofNat 32 (kvh t).val).toNat * 128 + l.val = (kvh t).val * 128 + l.val
    rw [toNat_small (by omega)]

theorem emb_v (t : Fin cfg0.N) (j : Fin 4096) (l : Fin 256) :
    (win0_2.rect t).emb (ix3 0 j l) = (ix3 (bat t) j ⟨(kvh t).val * 256 + l.val, by omega⟩ : S8x4096x512.Idx) := by
  have hb := (bat t).isLt
  have hg := (kvh t).isLt
  funext a
  refine Fin.ext ((win0_2.rect_emb_val t _ a).trans ?_)
  match a with
  | ⟨0, _⟩ =>
    show (BitVec.ofNat 32 (bat t).val).toNat * 1 + 0 = (bat t).val
    rw [toNat_small (by omega)]; omega
  | ⟨1, _⟩ =>
    show 0 * 4096 + j.val = j.val
    omega
  | ⟨2, _⟩ =>
    show (BitVec.ofNat 32 (kvh t).val).toNat * 256 + l.val = (kvh t).val * 256 + l.val
    rw [toNat_small (by omega)]

abbrev argQ : QShape.Idx → EReal := m ((c : Thread nD τ).loc main_arg0)
abbrev argK : KShape.Idx → EReal := m ((c : Thread nD τ).loc main_arg1)
abbrev argV : KShape.Idx → EReal := m ((c : Thread nD τ).loc main_arg2)

/-- The three input windows' blocks. -/
abbrev blkQ : S1x256x256.Idx → EReal := iblk m c 0 t
abbrev blkK : S1x4096x128.Idx → EReal := iblk m c 1 t
abbrev blkV : S1x4096x256.Idx → EReal := iblk m c 2 t

theorem blockQ_apply (r cc : Fin 256) :
    blkQ m c t (ix3 0 r cc)
      = argQ m c (ix3 (bat t) (pos (qbl t) r) ⟨(kvh t).val * 256 + cc.val, by omega⟩) := by
  show V m c main_arg0 ((win0_0.rect t).emb (ix3 0 r cc)) = _
  rw [V_main_arg0, emb_q]

theorem blockK_apply (j : Fin 4096) (l : Fin 128) :
    blkK m c t (ix3 0 j l)
      = argK m c (ix3 (bat t) j (lane (kvh t) ⟨l.val % 64, by omega⟩)) := by
  show (V m c main_v4 : S8x4096x256.Idx → EReal) ((win0_1.rect t).emb (ix3 0 j l)) = _
  rw [V_keys, emb_k]
  exact keys_apply (argK m c) (bat t) j (kvh t) l

theorem blockV_apply (j : Fin 4096) (hh : Fin 2) (x : Fin 64) :
    blkV m c t (ix3 0 j ⟨hh.val * 128 + (hh.val * 64 + x.val), by omega⟩)
      = argV m c (ix3 (bat t) j (lane (kvh t) x)) := by
  show (V m c main_v7 : S8x4096x512.Idx → EReal) ((win0_2.rect t).emb (ix3 0 j _)) = _
  rw [V_values, emb_v, ← values_apply (argV m c) (bat t) j (kvh t) hh x]
  refine congrArg (fun l => values (argV m c) (ix3 (bat t) j l)) (Fin.ext ?_)
  show (kvh t).val * 256 + (hh.val * 128 + (hh.val * 64 + x.val)) = (kvh t).val * 256 + hh.val * 128 + (hh.val * 64 + x.val)
  omega

theorem blockV_ones (j : Fin 4096) (hh : Fin 2) :
    blkV m c t (ix3 0 j ⟨hh.val * 128 + (1 - hh.val) * 64, by omega⟩) = 1 := by
  show (V m c main_v7 : S8x4096x512.Idx → EReal) ((win0_2.rect t).emb (ix3 0 j _)) = _
  rw [V_values, emb_v, ← ones_apply (argV m c) (bat t) j (kvh t) hh]
  refine congrArg (fun l => values (argV m c) (ix3 (bat t) j l)) (Fin.ext ?_)
  show (kvh t).val * 256 + (hh.val * 128 + (1 - hh.val) * 64) = (kvh t).val * 256 + hh.val * 128 + (1 - hh.val) * 64
  omega

/-! ## The loads -/

theorem hz3 : (![0, 0, 0] : Fin 3 → Nat) = fun _ => 0 := funext fun a => by fin_cases a <;> rfl

theorem ldQ_low (x : S1x256x256.Idx → EReal) (r : Fin 256) (l : Fin 128) :
    View.ld (Val := Elt Ideal) (e' := .bf16) x r0_1 (ix3 0 r l) = x (ix3 0 r ⟨0 * 128 + l.val, by omega⟩) := by
  refine congrArg x (funext fun a => ?_)
  match a with
  | ⟨0, _⟩ => rfl
  | ⟨1, _⟩ => exact Fin.ext (by show 0 + 1 * r.val = r.val; omega)
  | ⟨2, _⟩ => exact Fin.ext (by show 0 + 1 * l.val = 0 * 128 + l.val; omega)

theorem ldQ_high (x : S1x256x256.Idx → EReal) (r : Fin 256) (l : Fin 128) :
    View.ld (Val := Elt Ideal) (e' := .bf16) x r0_4 (ix3 0 r l) = x (ix3 0 r ⟨1 * 128 + l.val, by omega⟩) := by
  refine congrArg x (funext fun a => ?_)
  match a with
  | ⟨0, _⟩ => rfl
  | ⟨1, _⟩ => exact Fin.ext (by show 0 + 1 * r.val = r.val; omega)
  | ⟨2, _⟩ => exact Fin.ext (by show 128 + 1 * l.val = 1 * 128 + l.val; omega)

theorem ldV_low (x : S1x4096x256.Idx → EReal) (j : Fin 4096) (l : Fin 128) :
    View.ld (Val := Elt Ideal) (e' := .bf16) x r0_2 (ix3 0 j l) = x (ix3 0 j ⟨0 * 128 + l.val, by omega⟩) := by
  refine congrArg x (funext fun a => ?_)
  match a with
  | ⟨0, _⟩ => rfl
  | ⟨1, _⟩ => exact Fin.ext (by show 0 + 1 * j.val = j.val; omega)
  | ⟨2, _⟩ => exact Fin.ext (by show 0 + 1 * l.val = 0 * 128 + l.val; omega)

theorem ldV_high (x : S1x4096x256.Idx → EReal) (j : Fin 4096) (l : Fin 128) :
    View.ld (Val := Elt Ideal) (e' := .bf16) x r0_3 (ix3 0 j l) = x (ix3 0 j ⟨1 * 128 + l.val, by omega⟩) := by
  refine congrArg x (funext fun a => ?_)
  match a with
  | ⟨0, _⟩ => rfl
  | ⟨1, _⟩ => exact Fin.ext (by show 0 + 1 * j.val = j.val; omega)
  | ⟨2, _⟩ => exact Fin.ext (by show 128 + 1 * l.val = 1 * 128 + l.val; omega)

theorem ldK (x : S1x4096x128.Idx → EReal) : View.ld (Val := Elt Ideal) (e' := .bf16) x r0_0 = x :=
  View.ld_unit_zero (Val := Elt Ideal) (e := .bf16) (S := S1x4096x128) hz3 inb_S1x4096x128_S1x4096x128_0_0_0 x

/-! ## One point's block of the result -/

/-- The attention of the arguments. -/
abbrev result : QShape.Idx → EReal := attn (argQ m c) (argK m c) (argV m c)

/-- The block of the attention at point `t`. -/
def resultBlock : S1x256x256.Idx → EReal := fun y =>
  result m c (ix3 (bat t) (pos (qbl t) (y 1)) ⟨(kvh t).val * 256 + (y 2).val, by
    have h2 : (y 2).val < 256 := (y 2).isLt
    have := (kvh t).isLt; omega⟩)

/-- A lane block's hypotheses, from the windows' blocks. -/
theorem lanes_eq (p : Fin 2) (Q : S1x256x128.Idx → EReal)
    (hQ : ∀ r l, Q (ix3 0 r l) = blkQ m c t (ix3 0 r ⟨p.val * 128 + l.val, by omega⟩))
    (r : Fin 256) (l : Fin 128) :
    block Q (blkK m c t) (View.ld (Val := Elt Ideal) (e' := .bf16) (blkV m c t) r0_2)
        (View.ld (Val := Elt Ideal) (e' := .bf16) (blkV m c t) r0_3) r l
      = result m c (ix3 (bat t) (pos (qbl t) r) ⟨(kvh t).val * 256 + p.val * 128 + l.val, by omega⟩) := by
  refine block_eq (argQ m c) (argK m c) (argV m c) Q _ _ _ (bat t) (kvh t) p (qbl t) ?_ ?_ ?_ ?_ ?_ ?_ r l
  · intro hh r x
    rw [hQ, blockQ_apply]
    refine congrArg (fun l => argQ m c (ix3 (bat t) (pos (qbl t) r) l)) (Fin.ext ?_)
    show (kvh t).val * 256 + (p.val * 128 + (hh.val * 64 + x.val)) = ((kvh t).val * 4 + p.val * 2 + hh.val) * 64 + x.val
    omega
  · intro hh j x
    rw [blockK_apply]
    refine congrArg (fun l => argK m c (ix3 (bat t) j l)) (Fin.ext ?_)
    show (kvh t).val * 64 + (hh.val * 64 + x.val) % 64 = ((kvh t).val * 4 + p.val * 2 + hh.val) / 4 * 64 + x.val
    omega
  · intro j x
    refine (ldV_low _ j (half 0 x)).trans ((blockV_apply m c t j 0 x).trans ?_)
    refine congrArg (fun l => argV m c (ix3 (bat t) j l)) (Fin.ext ?_)
    show (kvh t).val * 64 + x.val = ((kvh t).val * 4 + p.val * 2 + 0) / 4 * 64 + x.val
    omega
  · intro j x
    refine (ldV_high _ j (half 1 x)).trans ((blockV_apply m c t j 1 x).trans ?_)
    refine congrArg (fun l => argV m c (ix3 (bat t) j l)) (Fin.ext ?_)
    show (kvh t).val * 64 + x.val = ((kvh t).val * 4 + p.val * 2 + 1) / 4 * 64 + x.val
    omega
  · intro j
    exact (ldV_low _ j (ones 0)).trans (blockV_ones m c t j 0)
  · intro j
    exact (ldV_high _ j (ones 1)).trans (blockV_ones m c t j 1)

/-- The body's two stores are the two lane blocks of the attention's block. -/
theorem out_eq : out0_3 (F := Ideal) (iblk m c 0 t) (iblk m c 1 t) (iblk m c 2 t) = resultBlock m c t := by
  funext y
  unfold out0_3
  refine View.canon_apply_of_pieces (Val := Elt Ideal) (resultBlock m c t) _ ?_ y (cover0_3 _ _ y)
  intro pc hp z
  simp only [List.mem_cons, List.not_mem_nil, or_false] at hp
  rcases hp with rfl | rfl
  · obtain ⟨z0, r, l, rfl⟩ : ∃ (z0 : Fin 1) (r : Fin 256) (l : Fin 128), z = ix3 z0 r l := ⟨z 0, z 1, z 2, eq_ix3 z⟩
    refine Eq.trans ?_ ((lanes_eq m c t 1 (View.ld (Val := Elt Ideal) (e' := .bf16) (blkQ m c t) r0_4)
      (fun r l => ldQ_high _ r l) r l).trans ?_)
    · refine Eq.trans ?_ (second_apply _ _ _ _ z0 r l)
      unfold k0_pay12 k0_pay13
      rw [ldK]
    · refine congrArg (result m c) (funext fun a => ?_)
      match a with
      | ⟨0, _⟩ => rfl
      | ⟨1, _⟩ => exact Fin.ext (by
          show (qbl t).val * 256 + r.val = (qbl t).val * 256 + (0 + 1 * r.val); omega)
      | ⟨2, _⟩ => exact Fin.ext (by
          show (kvh t).val * 256 + 1 * 128 + l.val = (kvh t).val * 256 + (128 + 1 * l.val); omega)
  · obtain ⟨z0, r, l, rfl⟩ : ∃ (z0 : Fin 1) (r : Fin 256) (l : Fin 128), z = ix3 z0 r l := ⟨z 0, z 1, z 2, eq_ix3 z⟩
    refine Eq.trans ?_ ((lanes_eq m c t 0 (View.ld (Val := Elt Ideal) (e' := .bf16) (blkQ m c t) r0_1)
      (fun r l => ldQ_low _ r l) r l).trans ?_)
    · refine Eq.trans ?_ (first_apply _ _ _ _ z0 r l)
      unfold k0_pay13
      rw [ldK]
    · refine congrArg (result m c) (funext fun a => ?_)
      match a with
      | ⟨0, _⟩ => rfl
      | ⟨1, _⟩ => exact Fin.ext (by
          show (qbl t).val * 256 + r.val = (qbl t).val * 256 + (0 + 1 * r.val); omega)
      | ⟨2, _⟩ => exact Fin.ext (by
          show (kvh t).val * 256 + 0 * 128 + l.val = (kvh t).val * 256 + (0 + 1 * l.val); omega)

/-- What point `t` writes back is its block of the attention. -/
theorem flushed_eq : (dats m 0 c).flushed 3 t = ((cfg0.win 3).blk t).view.read (Elt Ideal) (result m c) := by
  rw [Value.flushed3, out_eq]
  funext y
  obtain ⟨z0, r, l, rfl⟩ : ∃ (z0 : Fin 1) (r : Fin 256) (l : Fin 256), y = ix3 z0 r l := ⟨y 0, y 1, y 2, eq_ix3 y⟩
  obtain rfl : z0 = 0 := Subsingleton.elim _ _
  show resultBlock m c t (ix3 0 r l) = result m c ((win0_3.rect t).emb (ix3 0 r l))
  rw [emb_o]
  rfl

/-- The blocks tile the result. -/
theorem cover (i : QShape.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 512 := (i 2).isLt
  obtain ⟨t, ht⟩ := grid0.coords_surjective (fun a => match a with
    | ⟨0, _⟩ => (⟨(i 0).val, h0⟩ : Fin 8)
    | ⟨1, _⟩ => (⟨(i 2).val / 256, by omega⟩ : Fin 2)
    | ⟨2, _⟩ => (⟨(i 1).val / 256, by omega⟩ : Fin 16))
  have eb : (bat t).val = (i 0).val := congrArg (fun f : grid0.Coords => (f 0).val) ht
  have eg : (kvh t).val = (i 2).val / 256 := congrArg (fun f : grid0.Coords => (f 1).val) ht
  have eq : (qbl t).val = (i 1).val / 256 := congrArg (fun f : grid0.Coords => (f 2).val) ht
  refine ⟨t, flush0_3 t, ?_⟩
  show i ∈ ((View.whole main_v8).slice (win0_3.rect t)).set
  rw [View.set_slice_whole]
  have e : (win0_3.rect t).emb (ix3 0 ⟨(i 1).val % 256, by omega⟩ ⟨(i 2).val % 256, by omega⟩ : S1x256x256.Idx) = i := by
    rw [emb_o]
    funext a
    match a with
    | ⟨0, _⟩ => exact Fin.ext eb
    | ⟨1, _⟩ => exact Fin.ext (by show (qbl t).val * 256 + (i 1).val % 256 = (i 1).val; omega)
    | ⟨2, _⟩ => exact Fin.ext (by show (kvh t).val * 256 + (i 2).val % 256 = (i 2).val; omega)
  rw [← e, ← Rect.map_emb_univ]
  exact Finset.mem_map_of_mem _ (Finset.mem_univ _)

/-- The result array after the run. -/
theorem final : (dats m 0 c).arrAt 3 cfg0.N = result m c :=
  (dats m 0 c).arrAt_eq_of_cover 3 (result m c) (fun t _ => flushed_eq m c t) cover

/-- The run: the result array holds the attention of the arguments, which are unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AttnIdeal.RefValue

end
-- ==== Proof.AttentionRef.lean ====
/-
  The reference's attention read index by index: `Attention.attn` of the arguments, for finite queries and keys.
-/
module

public import proofs.«01_k».proof.Proof.Attention
public import proofs.«01_k».proof.Proof.Gen.AttnRefIdeal.Read

@[expose] public section

set_option maxRecDepth 16384

noncomputable section

namespace Cert.AttnRefIdeal.RefValue

open Cert.AttnRefIdeal Cert.AttnRefIdeal.Gen Cert.AttnRefIdeal.Read Idealize.ShloMosaic Idealize.ShloMosaic.ValueIdx
open Cert.Attention

variable (q : QShape.Idx → EReal) (k v : KShape.Idx → EReal)

/-- The query head number of key head `g` and group member `r`. -/
def headNo (g : Fin 2) (r : Fin 4) : Fin 8 := ⟨g.val * 4 + r.val, by omega⟩

/-- The head-split queries. -/
theorem queries_apply (i : S8x2x4x4096x64.Idx) :
    val_main_v4 (F := Ideal) q i = q (ix3 (i 0) (i 3) (qLane (headNo (i 1) (i 2)) (i 4))) := by
  rw [val_main_v4_apply, val_main_v3_apply, val_main_v0_apply]
  refine congrArg q ?_
  have h0 : (i 0).val < 8 := (i 0).isLt
  have h1 : (i 1).val < 2 := (i 1).isLt
  have h2 : (i 2).val < 4 := (i 2).isLt
  have h3 : (i 3).val < 4096 := (i 3).isLt
  have h4 : (i 4).val < 64 := (i 4).isLt
  funext a
  match a with
  | ⟨0, _⟩ => exact Fin.ext (by
      show (((((i 0).val * 4096 + (i 3).val) * 2 + (i 1).val) * 4 + (i 2).val) * 64 + (i 4).val) / 2097152 = (i 0).val
      omega)
  | ⟨1, _⟩ => exact Fin.ext (by
      show (((((i 0).val * 4096 + (i 3).val) * 2 + (i 1).val) * 4 + (i 2).val) * 64 + (i 4).val) / 512 % 4096 = (i 3).val
      omega)
  | ⟨2, _⟩ => exact Fin.ext (by
      show (((((i 0).val * 4096 + (i 3).val) * 2 + (i 1).val) * 4 + (i 2).val) * 64 + (i 4).val) % 512
        = ((i 1).val * 4 + (i 2).val) * 64 + (i 4).val
      omega)

theorem kv_index (g : Fin 2) (r : Fin 4) (i : S8x2x4096x64.Idx) (hg : g.val = (i 1).val) :
    idx_main_v5 (idx_main_v6 i) = ix3 (i 0) (i 2) (kLane (headNo g r) (i 3)) := by
  have h0 : (i 0).val < 8 := (i 0).isLt
  have h1 : (i 1).val < 2 := (i 1).isLt
  have h2 : (i 2).val < 4096 := (i 2).isLt
  have h3 : (i 3).val < 64 := (i 3).isLt
  have hr : r.val < 4 := r.isLt
  funext a
  match a with
  | ⟨0, _⟩ => exact Fin.ext (by
      show ((((i 0).val * 4096 + (i 2).val) * 2 + (i 1).val) * 64 + (i 3).val) / 524288 = (i 0).val
      omega)
  | ⟨1, _⟩ => exact Fin.ext (by
      show ((((i 0).val * 4096 + (i 2).val) * 2 + (i 1).val) * 64 + (i 3).val) / 128 % 4096 = (i 2).val
      omega)
  | ⟨2, _⟩ => exact Fin.ext (by
      show ((((i 0).val * 4096 + (i 2).val) * 2 + (i 1).val) * 64 + (i 3).val) % 128
        = (g.val * 4 + r.val) / 4 * 64 + (i 3).val
      omega)

/-- The head-split keys, read for any query head of the key head's group. -/
theorem keys_apply (g : Fin 2) (r : Fin 4) (i : S8x2x4096x64.Idx) (hg : g.val = (i 1).val) :
    val_main_v6 (F := Ideal) k i = k (ix3 (i 0) (i 2) (kLane (headNo g r) (i 3))) := by
  rw [val_main_v6_apply, val_main_v5_apply, val_main_v1_apply]
  exact congrArg k (kv_index g r i hg)

/-- The head-split values likewise. -/
theorem values_apply (g : Fin 2) (r : Fin 4) (i : S8x2x4096x64.Idx) (hg : g.val = (i 1).val) :
    val_main_v8 (F := Ideal) v i = v (ix3 (i 0) (i 2) (kLane (headNo g r) (i 3))) := by
  rw [val_main_v8_apply, val_main_v7_apply, val_main_v2_apply]
  exact congrArg v (kv_index g r i hg)

/-- The scores. -/
theorem scores_apply (i : S8x2x4x4096x4096.Idx) :
    val_main_v9 (F := Ideal) q k i = score q k (i 0) (i 3) (headNo (i 1) (i 2)) (i 4) := by
  rw [val_main_v9_apply]
  unfold score
  refine Finset.sum_congr rfl fun x _ => ?_
  rw [queries_apply, keys_apply k (i 1) (i 2) _ rfl]
  rfl

/-- The row maxima: the maximum from minus infinity, once more against minus infinity. -/
theorem tops_apply (i : S8x2x4x4096.Idx) :
    val_main_v12 (F := Ideal) q k i = top q k (i 0) (i 3) (headNo (i 1) (i 2)) := by
  rw [val_main_v12_apply, val_main_v11_apply, val_main_cst_0_apply]
  unfold val_main_v10
  rw [Host.reduce_eq_fold_single FloatOps.maximumf _ _ reducesTo_S8x2x4x4096x4096_S8x2x4x4096_d4 (by decide) h_S_ i,
    val_main_cst_apply]
  show max (Ideal.ofBits .f32 0xFF800000#32) (Finset.fold max (Ideal.ofBits .f32 0xFF800000#32) _ _) = _
  rw [ofBits_neg_inf, max_eq_right bot_le]
  unfold top
  refine congrArg (fun f => (Finset.univ : Finset (Fin 4096)).fold max ⊥ f) (funext fun j => ?_)
  show val_main_v9 (F := Ideal) q k _ = _
  rw [scores_apply]
  rfl

/-- The unnormalised weights. -/
theorem weights_apply (i : S8x2x4x4096x4096.Idx) :
    val_main_v16 (F := Ideal) q k i = weight q k (i 0) (i 3) (headNo (i 1) (i 2)) (i 4) := by
  rw [val_main_v16_apply, val_main_v15_apply, val_main_v14_apply, val_main_v13_apply, tops_apply, scores_apply]
  rfl

/-- The normalised weights. -/
theorem probs_apply (i : S8x2x4x4096x4096.Idx) :
    val_main_v20 (F := Ideal) q k i = Ideal.div (weight q k (i 0) (i 3) (headNo (i 1) (i 2)) (i 4))
      (∑ j : Fin 4096, weight q k (i 0) (i 3) (headNo (i 1) (i 2)) j) := by
  rw [val_main_v20_apply, val_main_v19_apply, val_main_v18_apply, val_main_v17_apply, val_main_cst_1_apply, weights_apply]
  show Ideal.div _ (Ideal.ofBits .f32 0x00000000#32 + _) = _
  rw [Ideal.ofBits_zero_f32, zero_add]
  refine congrArg _ (Finset.sum_congr rfl fun j _ => ?_)
  rw [weights_apply]
  rfl

/-- The whole reference, at finite queries and keys. -/
theorem result_eq (hq : ∀ i, Finite (q i)) (hk : ∀ i, Finite (k i)) :
    val_main_v24 (F := Ideal) q k v = attn q k v := by
  funext i
  rw [val_main_v24_apply, val_main_v23_apply, val_main_v22_apply, val_main_v21_apply]
  have h0 : (i 0).val < 8 := (i 0).isLt
  have h1 : (i 1).val < 4096 := (i 1).isLt
  have h2 : (i 2).val < 512 := (i 2).isLt
  have e : ∀ j : Fin 4096, val_main_v20 (F := Ideal) q k (lidx_main_v21 (idx_main_v22 (idx_main_v23 i)) j)
        * val_main_v8 (F := Ideal) v (ridx_main_v21 (idx_main_v22 (idx_main_v23 i)) j)
      = Ideal.div (weight q k (i 0) (i 1) (headOf (i 2)) j) (∑ j : Fin 4096, weight q k (i 0) (i 1) (headOf (i 2)) j)
        * v (ix3 (i 0) j (kLane (headOf (i 2)) (laneOf (i 2)))) := fun j => by
    have e0 : (idx_main_v22 (idx_main_v23 i)) 0 = i 0 := Fin.ext (by
      show (((i 0).val * 4096 + (i 1).val) * 512 + (i 2).val) / 2097152 = (i 0).val; omega)
    have e3 : (idx_main_v22 (idx_main_v23 i)) 3 = i 1 := Fin.ext (by
      show (((i 0).val * 4096 + (i 1).val) * 512 + (i 2).val) / 512 % 4096 = (i 1).val; omega)
    have eh : headNo ((idx_main_v22 (idx_main_v23 i)) 1) ((idx_main_v22 (idx_main_v23 i)) 2) = headOf (i 2) := Fin.ext (by
      show (((i 0).val * 4096 + (i 1).val) * 512 + (i 2).val) / 256 % 2 * 4
        + (((i 0).val * 4096 + (i 1).val) * 512 + (i 2).val) / 64 % 4 = (i 2).val / 64
      omega)
    have e4 : (idx_main_v22 (idx_main_v23 i)) 4 = laneOf (i 2) := Fin.ext (by
      show (((i 0).val * 4096 + (i 1).val) * 512 + (i 2).val) % 64 = (i 2).val % 64; omega)
    rw [probs_apply, values_apply v ((idx_main_v22 (idx_main_v23 i)) 1) ((idx_main_v22 (idx_main_v23 i)) 2) _ rfl]
    show Ideal.div (weight q k ((idx_main_v22 (idx_main_v23 i)) 0) ((idx_main_v22 (idx_main_v23 i)) 3)
          (headNo ((idx_main_v22 (idx_main_v23 i)) 1) ((idx_main_v22 (idx_main_v23 i)) 2)) j)
        (∑ j : Fin 4096, weight q k ((idx_main_v22 (idx_main_v23 i)) 0) ((idx_main_v22 (idx_main_v23 i)) 3)
          (headNo ((idx_main_v22 (idx_main_v23 i)) 1) ((idx_main_v22 (idx_main_v23 i)) 2)) j)
      * v (ix3 ((idx_main_v22 (idx_main_v23 i)) 0) j
          (kLane (headNo ((idx_main_v22 (idx_main_v23 i)) 1) ((idx_main_v22 (idx_main_v23 i)) 2)) ((idx_main_v22 (idx_main_v23 i)) 4))) = _
    rw [e0, e3, eh, e4]
  show ∑ j : Fin 4096, _ = _
  rw [Finset.sum_congr rfl fun j _ => e j]
  exact attnAt_eq_normalised q k v hq hk (i 0) (i 1) (headOf (i 2)) (laneOf (i 2))

end Cert.AttnRefIdeal.RefValue

end
-- ==== Proof.AttentionClaims.lean ====
/-
  The claims about the attention call: its runs leave the arguments and the counters as they were, and at finite queries
  and keys its result is the reference's.
-/
module

public import proofs.«01_k».proof.Defs
public import proofs.«01_k».proof.Proof.Gen.Attn.Frame
public import proofs.«01_k».proof.Proof.Gen.AttnRefIdeal.Run
public import proofs.«01_k».proof.Proof.Gen.Pre_scores_finite
public import proofs.«01_k».proof.Proof.AttentionKernel
public import proofs.«01_k».proof.Proof.AttentionRef
public import Idealize.ShloMosaic.Lib.ReduceAll
public import Idealize.ShloMosaic.Lib.Quiescent

@[expose] public section

set_option maxRecDepth 16384

noncomputable section

namespace Cert.AttentionClaims

open Idealize.ShloMosaic Idealize.ShloMosaic.TcCoe Idealize.SL.Sem
open Cert.Attention

/-! ## The precondition read -/

theorem ofBits_inf_bf16 : Ideal.ofBits .bf16 0x7F80#16 = ⊤ := by simp [Ideal.ofBits, Ideal.ieee]

/-- An absolute value below infinity is a finite value. -/
theorem finite_of_cmp {x : EReal} (h : Ideal.cmp .olt (max x (-x)) (Ideal.ofBits .bf16 0x7F80#16) = 1#1) : Finite x := by
  rw [ofBits_inf_bf16] at h
  have h' : max x (-x) < ⊤ := by
    by_contra hn
    simp [Ideal.cmp, hn] at h
  rw [max_lt_iff] at h'
  refine ⟨fun e => ?_, ne_of_lt h'.1⟩
  rw [e] at h'
  simp at h'

section Pre

variable (q : QShape.Idx → EReal) (k v : KShape.Idx → EReal)

instance : Subsingleton Cert.Pre_scores_finite.S_.Idx := ⟨fun a b => funext fun x => x.elim0⟩

theorem finite_of_pre (h : Cert.Pre_scores_finite.fn (F := Ideal) q k v = fun _ => 1#1) :
    (∀ i, Finite (q i)) ∧ ∀ i, Finite (k i) := by
  have h0 := (IntOp.andi_eq_one).1 (congrFun h (fun x => x.elim0))
  exact ⟨fun i => finite_of_cmp (Host.reduce_andi_all _ _ _ _ _ h0.1 i), fun i => finite_of_cmp (Host.reduce_andi_all _ _ _ _ _ h0.2 i)⟩

end Pre

/-! ## The claims -/

theorem frame_kernel : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_scores_finite := fun m ρ _ => Cert.AttnIdeal.Gen.frame m ρ

theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_ref_pre : Cert.quiescent_AttnRefIdeal_pre_scores_finite := fun m ρ _ => frame_ref m ρ trivial

theorem preserves : Cert.preserves_Attn_AttnIdeal := trivial

/-- At finite queries and keys the kernel's result and the reference's are the attention of the same arguments. -/
theorem algebraic : Cert.algebraic_AttnIdeal_AttnRefIdeal_pre_scores_finite := by
  intro m ρ m' ρ' hpre hagree
  refine ⟨fun c => Cert.AttnIdeal.RefValue.result m c, Cert.AttnIdeal.RefValue.run m ρ, ?_⟩
  refine (θ_run Cert.AttnRefIdeal.defs _ _).mono (fun r h c => ⟨(h c).1.trans ?_, (h c).2⟩)
    (Cert.AttnRefIdeal.Value.run (F := Ideal) m' ρ')
  obtain ⟨hq, hk⟩ := finite_of_pre _ _ _ (hpre c)
  rw [(hagree c).1, (hagree c).2.1, (hagree c).2.2]
  refine (Cert.AttnRefIdeal.Read.val_main_v24_eq (F := Ideal) _ _ _).trans ?_
  exact Cert.AttnRefIdeal.RefValue.result_eq _ _ _ hq hk

end Cert.AttentionClaims

end
-- ==== Proof.ExpertsRun.lean ====
/-
  The expert call's body at one tile, by its three cases: a valid tile whose expert's weights are still to be rounded
  into the scratch buffers, a valid tile that finds them there, and a tile without rows. Each case is run once, from
  the blocks of the tile's windows and the two tables; what the output block and the scratch buffers end with is written
  out over the body's own payloads.
-/
module

public import proofs.«01_k».proof.Proof.Gen.FfnIdeal
public import proofs.«01_k».proof.Proof.Gen.FfnIdeal.Skeleton
public import proofs.«01_k».proof.Proof.Gen.FfnIdeal.Launch
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Exec
public import Idealize.ShloMosaic.Lib.Tactic

@[expose] public section

set_option maxRecDepth 16384
set_option Elab.async false

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zeros2 : (![0, 0] : Fin 2 → ℕ) = fun _ => 0 := by funext a; fin_cases a <;> rfl

/-! ## The tables, the scratch buffers and the words the body reads -/

/-- The table of the tiles' experts and the table of their validity, as the body is handed them. -/
abbrev experts : Memref sig .tc .smem S288 .i32 := Memref.whole main_arg0
abbrev valids : Memref sig .tc .smem S288 .i32 := Memref.whole main_arg1

/-- The scratch buffers of the rounded weights, up-and-gate and down. -/
abbrev upScratch : Memref sig .tc .vmem S1024x2048 .bf16 := Memref.whole cc0_scratch0
abbrev downScratch : Memref sig .tc .vmem S1024x1024 .bf16 := Memref.whole cc0_scratch1

/-- A scratch buffer stored whole holds what was stored. -/
theorem up_after (f : upScratch.view.ty.Contents (Elt F)) (w : S1024x2048.Idx → Elt F .bf16) :
    upScratch.view.writes (Elt F) f [⟨Rect.unit ![0, 0] S1024x2048.size inb_S1024x2048_S1024x2048_0_0, w⟩] = w :=
  Memref.write_access_unit_zero_univ (Elt F) cc0_scratch0 zeros2 inb_S1024x2048_S1024x2048_0_0 f w
theorem down_after (f : downScratch.view.ty.Contents (Elt F)) (w : S1024x1024.Idx → Elt F .bf16) :
    downScratch.view.writes (Elt F) f [⟨Rect.unit ![0, 0] S1024x1024.size inb_S1024x1024_S1024x1024_0_0, w⟩] = w :=
  Memref.write_access_unit_zero_univ (Elt F) cc0_scratch1 zeros2 inb_S1024x1024_S1024x1024_0_0 f w

/-- A scratch buffer loaded whole gives what it holds. -/
theorem up_before (f : S1024x2048.Idx → Elt F .bf16) :
    upScratch.view.readAt (Elt F) (Rect.unit ![0, 0] S1024x2048.size inb_S1024x2048_S1024x2048_0_0).toLoadRect
      (f : upScratch.view.ty.Contents (Elt F)) = f :=
  Memref.readAt_unit_zero (Elt F) cc0_scratch0 zeros2 inb_S1024x2048_S1024x2048_0_0 f
theorem down_before (f : S1024x1024.Idx → Elt F .bf16) :
    downScratch.view.readAt (Elt F) (Rect.unit ![0, 0] S1024x1024.size inb_S1024x1024_S1024x1024_0_0).toLoadRect
      (f : downScratch.view.ty.Contents (Elt F)) = f :=
  Memref.readAt_unit_zero (Elt F) cc0_scratch1 zeros2 inb_S1024x1024_S1024x1024_0_0 f

/-- A staging buffer loaded whole gives its block. -/
theorem loaded_x (v : View sig .tc .vmem S512x1024 .f32) (x : S512x1024.Idx → Elt F .f32) :
    View.readAt (Elt F) v (Rect.unit (s := S512x1024) ![0, 0] S512x1024.size inb_S512x1024_S512x1024_0_0).toLoadRect (v.rep x) = x :=
  View.readAt_rep_full v x _
theorem loaded_up (v : View sig .tc .vmem S1x1024x2048 .f32) (x : S1x1024x2048.Idx → Elt F .f32) :
    View.readAt (Elt F) v (Rect.unit (s := S1x1024x2048) ![0, 0, 0] S1x1024x2048.size inb_S1x1024x2048_S1x1024x2048_0_0_0).toLoadRect
      (v.rep x) = x := View.readAt_rep_full v x _
theorem loaded_upBias (v : View sig .tc .vmem S1x1x2048 .f32) (x : S1x1x2048.Idx → Elt F .f32) :
    View.readAt (Elt F) v (Rect.unit (s := S1x1x2048) ![0, 0, 0] S1x1x2048.size inb_S1x1x2048_S1x1x2048_0_0_0).toLoadRect
      (v.rep x) = x := View.readAt_rep_full v x _
theorem loaded_down (v : View sig .tc .vmem S1x1024x1024 .f32) (x : S1x1024x1024.Idx → Elt F .f32) :
    View.readAt (Elt F) v (Rect.unit (s := S1x1024x1024) ![0, 0, 0] S1x1024x1024.size inb_S1x1024x1024_S1x1024x1024_0_0_0).toLoadRect
      (v.rep x) = x := View.readAt_rep_full v x _
theorem loaded_downBias (v : View sig .tc .vmem S1x1x1024 .f32) (x : S1x1x1024.Idx → Elt F .f32) :
    View.readAt (Elt F) v (Rect.unit (s := S1x1x1024) ![0, 0, 0] S1x1x1024.size inb_S1x1x1024_S1x1x1024_0_0_0).toLoadRect
      (v.rep x) = x := View.readAt_rep_full v x _

/-- The word of the table at a tile, and the word at the tile before (at the first tile, its own). -/
def here (b : Memref sig .tc .smem S288 .i32) (T : b.view.ty.Contents (Elt F)) (i : grid0.Coords) : BitVec 32 :=
  View.readAt (Elt F) b.view (Rect.unit (s := S288) (k0_off1 i) S1.size (k0_off1_inb i)).toLoadRect T
    (Shape.Idx.first (numel1_S1.symm ▸ Nat.one_pos))
def before (b : Memref sig .tc .smem S288 .i32) (T : b.view.ty.Contents (Elt F)) (i : grid0.Coords) : BitVec 32 :=
  View.readAt (Elt F) b.view (Rect.unit (s := S288) (k0_off2 i) S1.size (k0_off2_inb i)).toLoadRect T
    (Shape.Idx.first (numel1_S1.symm ▸ Nat.one_pos))

/-- The body's first condition: a valid tile that is the first one or whose expert is not the one before's. -/
def fresh (i : grid0.Coords) (e e' v : BitVec 32) : BitVec 1 :=
  Scalar.cmpi .ne (Scalar.extui (Scalar.andi (Scalar.ori (Scalar.cmpi .eq (BitVec.ofNat 32 (i 0).val) 0#32) (Scalar.cmpi .ne e e'))
    (Scalar.cmpi .sgt v 0#32)) : BitVec 32) 0#32

section

variable (c : Dev nD) (i : grid0.Coords) (arg3 : Memref sig .tc .vmem S512x1024 .f32) (harg3 : arg3.IsWhole)
  (arg4 : Memref sig .tc .vmem S1x1024x2048 .f32) (harg4 : arg4.IsWhole) (arg5 : Memref sig .tc .vmem S1x1x2048 .f32)
  (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S512x1024 .f32)
  (harg8 : arg8.IsWhole) (T0 T1 : S288.Idx → BitVec 32) (x0 : S512x1024.Idx → Elt F .f32)
  (x1 : S1x1024x2048.Idx → Elt F .f32) (x2 : S1x1x2048.Idx → Elt F .f32) (x3 : S1x1024x1024.Idx → Elt F .f32)
  (x4 : S1x1x1024.Idx → Elt F .f32)

/-- What the body never changes: the input windows at their blocks and the tables. -/
def kept : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (experts.view.loc (c : Thread nD τ) ↦{fullShare.right} (T0 : experts.view.ty.Contents (Elt F)))
    ∗ (valids.view.loc (c : Thread nD τ) ↦{fullShare.right} (T1 : valids.view.ty.Contents (Elt F))))

/-- The scratch buffers whole at contents `a` and `b`. -/
def scratch (a : S1024x2048.Idx → Elt F .bf16) (b : S1024x1024.Idx → Elt F .bf16) : sProp 𝕄 :=
  iprop((upScratch.view.loc (c : Thread nD τ) ↦{fullShare} (a : upScratch.view.ty.Contents (Elt F)))
    ∗ (downScratch.view.loc (c : Thread nD τ) ↦{fullShare} (b : downScratch.view.ty.Contents (Elt F))))

/-- The body on these memrefs. -/
abbrev body : Prog (TpuEff nD τ sig (Elt F) Λ₀ .tc) PUnit :=
  cc0_moe_expert_ffn i experts (Memref.isWhole_whole _) valids (Memref.isWhole_whole _) arg3 harg3 arg4 harg4 arg5 harg5
    arg6 harg6 arg7 harg7 arg8 harg8 upScratch (Memref.isWhole_whole _) downScratch (Memref.isWhole_whole _)

variable (a : S1024x2048.Idx → Elt F .bf16) (b : S1024x1024.Idx → Elt F .bf16)

set_option maxHeartbeats 8000000 in
/-- A valid tile that rounds its expert's weights into the scratch buffers first. -/
theorem run_load (h1 : fresh i (here (F := F) experts T0 i) (before (F := F) experts T0 i) (here (F := F) valids T1 i) = 1#1)
    (h2 : k0_cond2 (here (F := F) valids T1 i) = 1#1) (h3 : ¬ k0_cond3 (here (F := F) valids T1 i) = 1#1) :
    ∀ K : PUnit → sProp 𝕄,
    iprop(kept c arg3 arg4 arg5 arg6 arg7 T0 T1 x0 x1 x2 x3 x4 ∗ (∃ d, owns (c : Thread nD τ) arg8 fullShare d) ∗ scratch c a b
      ∗ (iprop(kept c arg3 arg4 arg5 arg6 arg7 T0 T1 x0 x1 x2 x3 x4
          ∗ owns (c : Thread nD τ) arg8 fullShare (k0_pay3 x0 (k0_pay1 x1) x2 (k0_pay2 x3) x4)
          ∗ scratch c (k0_pay1 x1) (k0_pay2 x3)) -∗ K ⟨⟩))
      ⊢ wp frame (wpE (defs₀ (F := F)) Variants.none c none) Set.univ
        (body i arg3 harg3 arg4 harg4 arg5 harg5 arg6 harg6 arg7 harg7 arg8 harg8) K := by
  intro K
  unfold body owns kept scratch
  rw [cc0_moe_expert_ffn_eq_skeleton]; unfold cc0_moe_expert_ffn_skel
  iintro ⟨⟨H0, H1, H2, H3, H4, HT0, HT1⟩, ⟨%d5, %f5, -, HO5⟩, ⟨HS0, HS1⟩, Hk⟩
  have hS0 : upScratch.IsWhole := Memref.isWhole_whole _
  have hS1 : downScratch.IsWhole := Memref.isWhole_whole _
  have hT0 : experts.IsWhole := Memref.isWhole_whole _
  have hT1 : valids.IsWhole := Memref.isWhole_whole _
  sl_exec! (disch := first | (guard_target = Scalar.cmpi = _; exact h1) | (guard_target = k0_cond2 _ = _; exact h2) | (guard_target = ¬(k0_cond3 _ = _); exact h3))
  sl_step
  have es0 : upScratch.view.writes (Elt F) upScratch.view.junk (run_load.sl.HS0_1 arg4 x1) = k0_pay1 x1 :=
    (up_after _ _).trans (congrArg k0_pay1 (loaded_up _ _))
  have es1 : downScratch.view.writes (Elt F) downScratch.view.junk (run_load.sl.HS1_1 arg6 x3) = k0_pay2 x3 :=
    (down_after _ _).trans (congrArg k0_pay2 (loaded_down _ _))
  have e0 : run_load.sl.v23 arg4 x1 = k0_pay1 x1 := by
    unfold run_load.sl.v23 View.readCov
    rw [es0]
    exact up_before _
  have e1 : run_load.sl.v47 arg6 x3 = k0_pay2 x3 := by
    unfold run_load.sl.v47 View.readCov
    rw [es1]
    exact down_before _
  unfold run_load.sl.HO5_1
  rw [es0, es1, e0, e1, loaded_x, loaded_upBias, loaded_downBias]
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; exact View.read_writes_full _ _ _ _ _
  isplitl [HS0]; · iexact HS0
  iexact HS1

set_option maxHeartbeats 8000000 in
/-- A valid tile that finds its expert's weights in the scratch buffers. -/
theorem run_held (h1 : ¬ fresh i (here (F := F) experts T0 i) (before (F := F) experts T0 i) (here (F := F) valids T1 i) = 1#1)
    (h2 : k0_cond2 (here (F := F) valids T1 i) = 1#1) (h3 : ¬ k0_cond3 (here (F := F) valids T1 i) = 1#1) :
    ∀ K : PUnit → sProp 𝕄,
    iprop(kept c arg3 arg4 arg5 arg6 arg7 T0 T1 x0 x1 x2 x3 x4 ∗ (∃ d, owns (c : Thread nD τ) arg8 fullShare d) ∗ scratch c a b
      ∗ (iprop(kept c arg3 arg4 arg5 arg6 arg7 T0 T1 x0 x1 x2 x3 x4 ∗ owns (c : Thread nD τ) arg8 fullShare (k0_pay3 x0 a x2 b x4)
          ∗ scratch c a b) -∗ K ⟨⟩))
      ⊢ wp frame (wpE (defs₀ (F := F)) Variants.none c none) Set.univ
        (body i arg3 harg3 arg4 harg4 arg5 harg5 arg6 harg6 arg7 harg7 arg8 harg8) K := by
  intro K
  unfold body owns kept scratch
  rw [cc0_moe_expert_ffn_eq_skeleton]; unfold cc0_moe_expert_ffn_skel
  iintro ⟨⟨H0, H1, H2, H3, H4, HT0, HT1⟩, ⟨%d5, %f5, -, HO5⟩, ⟨HS0, HS1⟩, Hk⟩
  have hS0 : upScratch.IsWhole := Memref.isWhole_whole _
  have hS1 : downScratch.IsWhole := Memref.isWhole_whole _
  have hT0 : experts.IsWhole := Memref.isWhole_whole _
  have hT1 : valids.IsWhole := Memref.isWhole_whole _
  sl_exec! (disch := first | (guard_target = ¬(Scalar.cmpi = _); exact h1) | (guard_target = k0_cond2 _ = _; exact h2) | (guard_target = ¬(k0_cond3 _ = _); exact h3))
  sl_step
  unfold run_held.sl.HO5_1
  rw [up_before, down_before, loaded_x, loaded_upBias, loaded_downBias]
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; exact View.read_writes_full _ _ _ _ _
  isplitl [HS0]; · iexact HS0
  iexact HS1

set_option maxHeartbeats 8000000 in
/-- A tile without rows. -/
theorem run_empty (h1 : ¬ fresh i (here (F := F) experts T0 i) (before (F := F) experts T0 i) (here (F := F) valids T1 i) = 1#1)
    (h2 : ¬ k0_cond2 (here (F := F) valids T1 i) = 1#1) (h3 : k0_cond3 (here (F := F) valids T1 i) = 1#1) :
    ∀ K : PUnit → sProp 𝕄,
    iprop(kept c arg3 arg4 arg5 arg6 arg7 T0 T1 x0 x1 x2 x3 x4 ∗ (∃ d, owns (c : Thread nD τ) arg8 fullShare d) ∗ scratch c a b
      ∗ (iprop(kept c arg3 arg4 arg5 arg6 arg7 T0 T1 x0 x1 x2 x3 x4 ∗ owns (c : Thread nD τ) arg8 fullShare (k0_pay4)
          ∗ scratch c a b) -∗ K ⟨⟩))
      ⊢ wp frame (wpE (defs₀ (F := F)) Variants.none c none) Set.univ
        (body i arg3 harg3 arg4 harg4 arg5 harg5 arg6 harg6 arg7 harg7 arg8 harg8) K := by
  intro K
  unfold body owns kept scratch
  rw [cc0_moe_expert_ffn_eq_skeleton]; unfold cc0_moe_expert_ffn_skel
  iintro ⟨⟨H0, H1, H2, H3, H4, HT0, HT1⟩, ⟨%d5, %f5, -, HO5⟩, ⟨HS0, HS1⟩, Hk⟩
  have hS0 : upScratch.IsWhole := Memref.isWhole_whole _
  have hS1 : downScratch.IsWhole := Memref.isWhole_whole _
  have hT0 : experts.IsWhole := Memref.isWhole_whole _
  have hT1 : valids.IsWhole := Memref.isWhole_whole _
  sl_exec! (disch := first | (guard_target = ¬(Scalar.cmpi = _); exact h1) | (guard_target = ¬(k0_cond2 _ = _); exact h2) | (guard_target = k0_cond3 _ = _; exact h3))
  sl_step
  unfold run_empty.sl.HO5_1
  skip
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  isplitl [HO5]
  · iexists _; isplitr; swap
    · iexact HO5
    · ipureintro; exact View.read_writes_full _ _ _ _ _
  isplitl [HS0]; · iexact HS0
  iexact HS1

end

end Cert.FfnIdeal.Run

end
-- ==== Proof.ExpertsTables.lean ====
/-
  The expert call's tables and blocks: what the body's conditions say of a tile's words, what the tables must keep for
  the body to find the right weights in its scratch buffers, and where each window's block lies in its array.
-/
module

public import proofs.«01_k».proof.Proof.ExpertsRun
public import Idealize.ShloMosaic.Lib.ValueIdx
public import Idealize.ShloMosaic.Lib.Pipeline.Covers
public import Idealize.ShloMosaic.Lib.WordCmp
public import Idealize.ShloMosaic.Lib.Affine

@[expose] public section

set_option maxRecDepth 16384
set_option Elab.async false

noncomputable section

namespace Cert.FfnIdeal.Run

open Cert.FfnIdeal Cert.FfnIdeal.Gen
open Idealize.ShloMosaic Idealize.ShloMosaic.TcCoe Idealize.ShloMosaic.ValueIdx

variable {F : FTy → Type} [FloatOps F]

/-! ## The words of a tile -/

/-- The tile a grid point is, and the one before it (the first tile's is itself). -/
def tile (i : grid0.Coords) : Fin 288 := i 0
def prior (i : grid0.Coords) : Fin 288 := ⟨(tile i).val - 1, by have := (tile i).isLt; omega⟩

theorem off1_eq (i : grid0.Coords) : k0_off1 i 0 = (tile i).val := by
  have := (tile i).isLt
  show (BitVec.ofNat 32 (tile i).val).toNat = _
  rw [BitVec.toNat_ofNat]; omega

theorem off2_eq : ∀ i : Fin 288, (Scalar.indexCast (Scalar.maxsi (Scalar.subi (BitVec.ofNat 32 i.val) 1#32) 0#32) : Index).toNat = i.val - 1 := by
  decide +kernel

/-- The table's word at a tile, and at the tile before. -/
theorem experts_here (T : S288.Idx → BitVec 32) (i : grid0.Coords) : here (F := F) experts T i = T (ix1 (tile i)) := by
  show T _ = T _
  refine congrArg T (funext fun a => ?_)
  match a with
  | ⟨0, _⟩ => exact Fin.ext ((Nat.add_zero _).trans (off1_eq i))
theorem valids_here (T : S288.Idx → BitVec 32) (i : grid0.Coords) : here (F := F) valids T i = T (ix1 (tile i)) := by
  show T _ = T _
  refine congrArg T (funext fun a => ?_)
  match a with
  | ⟨0, _⟩ => exact Fin.ext ((Nat.add_zero _).trans (off1_eq i))
theorem experts_before (T : S288.Idx → BitVec 32) (i : grid0.Coords) : before (F := F) experts T i = T (ix1 (prior i)) := by
  show T _ = T _
  refine congrArg T (funext fun a => ?_)
  match a with
  | ⟨0, _⟩ => exact Fin.ext ((Nat.add_zero _).trans (off2_eq (tile i)))

theorem set_iff (c : BitVec 1) : (Scalar.cmpi .ne (Scalar.extui c : BitVec 32) 0#32 : BitVec 1) = 1#1 ↔ c = 1#1 := by
  revert c; decide

/-- A tile is shown where its word is positive, empty where it is zero, and rounds anew where it is positive and first
    or of another expert than the tile before. -/
theorem cond2_iff (v : BitVec 32) : k0_cond2 v = 1#1 ↔ 0 < v.toInt :=
  (set_iff _).trans IntOp.cmpi_sgt
theorem cond3_iff (v : BitVec 32) : k0_cond3 v = 1#1 ↔ v = 0#32 :=
  (set_iff _).trans IntOp.cmpi_eq
theorem fresh_iff (i : grid0.Coords) (e e' v : BitVec 32) :
    fresh i e e' v = 1#1 ↔ ((tile i).val = 0 ∨ e ≠ e') ∧ 0 < v.toInt := by
  refine (set_iff _).trans (IntOp.andi_eq_one.trans (and_congr (IntOp.ori_eq_one.trans (or_congr ?_ IntOp.cmpi_ne)) IntOp.cmpi_sgt))
  refine IntOp.cmpi_eq.trans ?_
  show BitVec.ofNat 32 (tile i).val = 0#32 ↔ _
  have := (tile i).isLt
  rw [← BitVec.toNat_inj, BitVec.toNat_ofNat, BitVec.toNat_ofNat]
  omega

theorem tile_coords (t : Fin grid0.N) : (tile (grid0.coords t)).val = t.val := by
  have h : t.val < 288 := t.isLt.trans_eq N_0
  refine (Pipeline.Grid.coords_val t 0 (S := 1) (B := 288) (by decide) rfl).trans ?_
  omega

/-! ## The tables -/

/-- The tables as vectors of words. -/
abbrev expertsOf (pf : pre0.Contents (Elt F)) : S288.Idx → BitVec 32 := pf 0
abbrev validsOf (pf : pre0.Contents (Elt F)) : S288.Idx → BitVec 32 := pf 1

/-- A tile's expert, its validity word, and whether its body rounds the weights anew. -/
abbrev expert (pf : pre0.Contents (Elt F)) (t : Fin grid0.N) : BitVec 32 := here (F := F) experts (expertsOf pf) (grid0.coords t)
abbrev valid (pf : pre0.Contents (Elt F)) (t : Fin grid0.N) : BitVec 32 := here (F := F) valids (validsOf pf) (grid0.coords t)
abbrev anew (pf : pre0.Contents (Elt F)) (t : Fin grid0.N) : BitVec 1 :=
  fresh (grid0.coords t) (expert pf t) (before (F := F) experts (expertsOf pf) (grid0.coords t)) (valid pf t)

/-- What the tables must keep: every expert is one, a tile is valid or empty, and a valid tile that rounds no weights
    follows a valid tile of its own expert. -/
structure Good (pf : pre0.Contents (Elt F)) : Prop where
  ok : ok0 pf
  shown : ∀ t, (k0_cond2 (valid pf t) = 1#1 ∧ ¬ k0_cond3 (valid pf t) = 1#1)
    ∨ (¬ k0_cond2 (valid pf t) = 1#1 ∧ k0_cond3 (valid pf t) = 1#1 ∧ ¬ anew pf t = 1#1)
  carried : ∀ t, k0_cond2 (valid pf t) = 1#1 → ¬ anew pf t = 1#1 →
    ∃ s : Fin grid0.N, s.val + 1 = t.val ∧ expert pf s = expert pf t ∧ k0_cond2 (valid pf s) = 1#1

variable {pf : pre0.Contents (Elt F)} (good : Good pf)
variable (m : (ℓ : Loc nD τ sig) → Buf (Elt F) ℓ)

/-- The pipeline at these tables. -/
def adm : (pcfg0 (F := F)).Adm := ⟨pf, good.ok⟩
abbrev cfg : Pipeline.Cfg sig Λ₀ := cfg0 (F := F) (adm good)

/-- A window's block at a tile, as the launch memory has it. -/
def blk (c : Dev nD) (w : Fin (cfg good).W) (t : Fin (cfg good).N) :
    (((cfg good).win w).xblock ((cfg good).grid.coords t)).Idx → Elt F ((cfg good).win w).elt :=
  (((cfg good).win w).blk t).view.read (Elt F) (m (((cfg good).win w).arr.view.loc (c : Thread nD τ)))

def rows (c : Dev nD) (t : Fin (cfg good).N) : S512x1024.Idx → Elt F .f32 := blk good m c (0 : Fin 6) t
def upWeights (c : Dev nD) (t : Fin (cfg good).N) : S1x1024x2048.Idx → Elt F .f32 := blk good m c (1 : Fin 6) t
def upBias (c : Dev nD) (t : Fin (cfg good).N) : S1x1x2048.Idx → Elt F .f32 := blk good m c (2 : Fin 6) t
def downWeights (c : Dev nD) (t : Fin (cfg good).N) : S1x1024x1024.Idx → Elt F .f32 := blk good m c (3 : Fin 6) t
def downBias (c : Dev nD) (t : Fin (cfg good).N) : S1x1x1024.Idx → Elt F .f32 := blk good m c (4 : Fin 6) t

/-- The validity word the pipeline asks about is the one the body reads. -/
theorem idle_words (pf : pre0.Contents (Elt F)) (t : Fin grid0.N) : pf.atD 1 (k0_off1 (grid0.coords t)) = valid pf t := by
  have h : ∀ a, k0_off1 (grid0.coords t) a + 1 ≤ S288.size a := fun a => by
    match a with
    | ⟨0, _⟩ =>
      have := (tile (grid0.coords t)).isLt
      show k0_off1 (grid0.coords t) 0 + 1 ≤ 288
      rw [off1_eq]; omega
  refine (dif_pos h).trans ?_
  refine Eq.trans ?_ (valids_here _ _).symm
  show pf 1 _ = pf 1 _
  refine congrArg (pf 1) (funext fun a => ?_)
  match a with
  | ⟨0, _⟩ => exact Fin.ext (off1_eq _)

/-! ## The blocks' places in the arrays -/

section

variable (c : Dev nD) (t : Fin (cfg good).N)

/-- A tile's expert. -/
def who : Fin 32 := ⟨(expert pf t).toNat, by
  obtain ⟨h, -⟩ := good.ok.1 (grid0.coords t)
  have := h 0
  change ((expert pf t).toNat + 1) * 1 ≤ 32 at this
  omega⟩

/-- The row of the sorted array that a tile's row `r` is. -/
def place (t : Fin grid0.N) (r : Fin 512) : Fin 147456 := ⟨t.val * 512 + r.val, by
  have h : t.val < 288 := t.isLt.trans_eq N_0
  have := r.isLt
  omega⟩

/-- A block of rows is its tile's rows of the argument. -/
theorem rows_apply (r : Fin 512) (j : Fin 1024) :
    rows good m c t (ix2 r j) = (m ((c : Thread nD τ).loc main_arg2) : S147456x1024.Idx → Elt F .f32) (ix2 (place t r) j) := by
  show (m ((c : Thread nD τ).loc main_arg2) : S147456x1024.Idx → Elt F .f32) (((cfg good).win (0 : Fin 6)).rect t |>.emb (ix2 r j)) = _
  refine congrArg (m ((c : Thread nD τ).loc main_arg2) : S147456x1024.Idx → Elt F .f32)
    (funext fun a => Fin.ext ((((cfg good).win (0 : Fin 6)).rect_emb_val t _ a).trans ?_))
  match a with
  | ⟨0, _⟩ =>
    show k0_off1 (grid0.coords t) 0 * 512 + r.val = t.val * 512 + r.val
    rw [off1_eq, tile_coords]
  | ⟨1, _⟩ =>
    show 0 * 1024 + j.val = j.val
    omega

/-- The result's block lies at its tile's place. -/
theorem out_emb (r : Fin 512) (j : Fin 1024) :
    (((cfg good).win (5 : Fin 6)).rect t).emb (ix2 r j) = (ix2 (place t r) j : S147456x1024.Idx) := by
  funext a
  refine Fin.ext ((((cfg good).win (5 : Fin 6)).rect_emb_val t _ a).trans ?_)
  match a with
  | ⟨0, _⟩ =>
    show k0_off1 (grid0.coords t) 0 * 512 + r.val = t.val * 512 + r.val
    rw [off1_eq, tile_coords]
  | ⟨1, _⟩ =>
    show 0 * 1024 + j.val = j.val
    omega

/-- The weights and biases are those of the tile's expert. -/
theorem upWeights_apply (i : Fin 1024) (j : Fin 2048) :
    upWeights good m c t (ix3 0 i j) = (m ((c : Thread nD τ).loc main_arg3) : S32x1024x2048.Idx → Elt F .f32) (ix3 (who good t) i j) := by
  show (m ((c : Thread nD τ).loc main_arg3) : S32x1024x2048.Idx → Elt F .f32) (((cfg good).win (1 : Fin 6)).rect t |>.emb (ix3 0 i j)) = _
  refine congrArg (m ((c : Thread nD τ).loc main_arg3) : S32x1024x2048.Idx → Elt F .f32)
    (funext fun a => Fin.ext ((((cfg good).win (1 : Fin 6)).rect_emb_val t _ a).trans ?_))
  match a with
  | ⟨0, _⟩ =>
    show (expert pf t).toNat * 1 + 0 = (expert pf t).toNat
    omega
  | ⟨1, _⟩ =>
    show 0 * 1024 + i.val = i.val
    omega
  | ⟨2, _⟩ =>
    show 0 * 2048 + j.val = j.val
    omega

theorem downWeights_apply (i : Fin 1024) (j : Fin 1024) :
    downWeights good m c t (ix3 0 i j) = (m ((c : Thread nD τ).loc main_arg5) : S32x1024x1024.Idx → Elt F .f32) (ix3 (who good t) i j) := by
  show (m ((c : Thread nD τ).loc main_arg5) : S32x1024x1024.Idx → Elt F .f32) (((cfg good).win (3 : Fin 6)).rect t |>.emb (ix3 0 i j)) = _
  refine congrArg (m ((c : Thread nD τ).loc main_arg5) : S32x1024x1024.Idx → Elt F .f32)
    (funext fun a => Fin.ext ((((cfg good).win (3 : Fin 6)).rect_emb_val t _ a).trans ?_))
  match a with
  | ⟨0, _⟩ =>
    show (expert pf t).toNat * 1 + 0 = (expert pf t).toNat
    omega
  | ⟨1, _⟩ =>
    show 0 * 1024 + i.val = i.val
    omega
  | ⟨2, _⟩ =>
    show 0 * 1024 + j.val = j.val
    omega

theorem upBias_apply (j : Fin 2048) :
    upBias good m c t (ix3 0 0 j) = (m ((c : Thread nD τ).loc main_arg4) : S32x1x2048.Idx → Elt F .f32) (ix3 (who good t) 0 j) := by
  show (m ((c : Thread nD τ).loc main_arg4) : S32x1x2048.Idx → Elt F .f32) (((cfg good).win (2 : Fin 6)).rect t |>.emb (ix3 0 0 j)) = _
  refine congrArg (m ((c : Thread nD τ).loc main_arg4) : S32x1x2048.Idx → Elt F .f32)
    (funext fun a => Fin.ext ((((cfg good).win (2 : Fin 6)).rect_emb_val t _ a).trans ?_))
  match a with
  | ⟨0, _⟩ =>
    show (expert pf t).toNat * 1 + 0 = (expert pf t).toNat
    omega
  | ⟨1, _⟩ => rfl
  | ⟨2, _⟩ =>
    show 0 * 2048 + j.val = j.val
    omega

theorem downBias_apply (j : Fin 1024) :
    downBias good m c t (ix3 0 0 j) = (m ((c : Thread nD τ).loc main_arg6) : S32x1x1024.Idx → Elt F .f32) (ix3 (who good t) 0 j) := by
  show (m ((c : Thread nD τ).loc main_arg6) : S32x1x1024.Idx → Elt F .f32) (((cfg good).win (4 : Fin 6)).rect t |>.emb (ix3 0 0 j)) = _
  refine congrArg (m ((c : Thread nD τ).loc main_arg6) : S32x1x1024.Idx → Elt F .f32)
    (funext fun a => Fin.ext ((((cfg good).win (4 : Fin 6)).rect_emb_val t _ a).trans ?_))
  match a with
  | ⟨0, _⟩ =>
    show (expert pf t).toNat * 1 + 0 = (expert pf t).toNat
    omega
  | ⟨1, _⟩ => rfl
  | ⟨2, _⟩ =>
    show 0 * 1024 + j.val = j.val
    omega

theorem who_congr (s : Fin (cfg good).N) (h : expert pf s = expert pf t) : who good s = who good t := by
  apply Fin.ext
  show (expert pf s).toNat = (expert pf t).toNat
  rw [h]

/-- Tiles of one expert have the same weights. -/
theorem upWeights_congr (s : Fin (cfg good).N) (h : expert pf s = expert pf t) :
    upWeights good m c s = upWeights good m c t := by
  have hw : who good s = who good t := who_congr good t s h
  funext y
  obtain ⟨z, i, j, rfl⟩ : ∃ (z : Fin 1) (i : Fin 1024) (j : Fin 2048), y = ix3 z i j := ⟨y 0, y 1, y 2, eq_ix3 y⟩
  obtain rfl : z = 0 := Subsingleton.elim _ _
  refine (upWeights_apply good m c s _ _).trans ?_
  rw [hw]
  exact (upWeights_apply good m c t _ _).symm
theorem downWeights_congr (s : Fin (cfg good).N) (h : expert pf s = expert pf t) :
    downWeights good m c s = downWeights good m c t := by
  have hw : who good s = who good t := who_congr good t s h
  funext y
  obtain ⟨z, i, j, rfl⟩ : ∃ (z : Fin 1) (i : Fin 1024) (j : Fin 1024), y = ix3 z i j := ⟨y 0, y 1, y 2, eq_ix3 y⟩
  obtain rfl : z = 0 := Subsingleton.elim _ _
  refine (downWeights_apply good m c s _ _).trans ?_
  rw [hw]
  exact (downWeights_apply good m c t _ _).symm

/-- The body stores into the result's block at every tile. -/
theorem stored : (cfg good).idle (5 : Fin 6) ((cfg good).grid.coords t) = false := by
  show (!(k0_cond2 (pf.atD 1 (k0_off1 (grid0.coords t))) == 1#1) && !(k0_cond3 (pf.atD 1 (k0_off1 (grid0.coords t))) == 1#1)) = false
  rw [idle_words]
  rcases good.shown t with ⟨h, -⟩ | ⟨-, h, -⟩ <;> simp [h]

end

end Cert.FfnIdeal.Run

end
-- ==== Proof.ExpertsLaunch.lean ====
/-
  The whole expert call on tables that keep the body's promise: the proof data of its pipeline, the body at every tile,
  and the run. A valid tile writes the expert layer of its rows at its own expert's weights, whether the body rounded
  them just now or finds them in the scratch buffers; a tile without rows writes zeros.
-/
module

public import proofs.«01_k».proof.Proof.ExpertsTables
public import Idealize.ShloMosaic.Lib.Pipeline.Quiescent
public import Idealize.ShloMosaic.Lib.Pipeline.TableIdle
public import Idealize.ShloMosaic.Lib.Claim
public import Idealize.ShloMosaic.Adequacy
public import Idealize.ShloMosaic.Init

@[expose] public section

set_option maxRecDepth 16384
set_option Elab.async false

noncomputable section

namespace Cert.FfnIdeal.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable {pf : pre0.Contents (Elt F)} (good : Good pf)
variable (m : (ℓ : Loc nD τ sig) → Buf (Elt F) ℓ) (ρ : Dev nD → PrngReg)

/-- What a tile writes. -/
def written (c : Dev nD) (t : Fin (cfg good).N) : S512x1024.Idx → Elt F .f32 :=
  if k0_cond2 (valid pf t) = 1#1 then
    k0_pay3 (rows good m c t) (k0_pay1 (upWeights good m c t)) (upBias good m c t) (k0_pay2 (downWeights good m c t))
      (downBias good m c t)
  else k0_pay4

/-! ## The proof data -/

/-- The scratch contents after a valid tile: its expert's weights, rounded. -/
def Held (c : Dev nD) (t : Fin ((cfg good).N + 1)) (a : S1024x2048.Idx → Elt F .bf16) (b : S1024x1024.Idx → Elt F .bf16) :
    Prop :=
  ∀ s : Fin (cfg good).N, s.val + 1 = t.val → k0_cond2 (valid pf s) = 1#1 →
    a = k0_pay1 (upWeights good m c s) ∧ b = k0_pay2 (downWeights good m c s)

/-- Before a tile: the scratch buffers as the tile before left them, and the body's halves of the tables. -/
def Phi (c : Dev nD) (t : Fin ((cfg good).N + 1)) : sProp 𝕄 :=
  iprop((∃ a, ∃ b, ⌜Held good m c t a b⌝ ∗ scratch c a b)
    ∗ (experts.view.loc (c : Thread nD τ) ↦{fullShare.right} (expertsOf pf : experts.view.ty.Contents (Elt F)))
    ∗ (valids.view.loc (c : Thread nD τ) ↦{fullShare.right} (validsOf pf : valids.view.ty.Contents (Elt F))))

def dats (_ : Fin 1) (c : Dev nD) : Dat τ (Elt F) Unit ℕ (UR sig nD τ) ℕ (cfg good) c where
  A w := m (((cfg good).win w).arr.view.loc (c : Thread nD τ))
  after w t := match w with
    | ⟨0, _⟩ => blk good m c (0 : Fin 6) t
    | ⟨1, _⟩ => blk good m c (1 : Fin 6) t
    | ⟨2, _⟩ => blk good m c (2 : Fin 6) t
    | ⟨3, _⟩ => blk good m c (3 : Fin 6) t
    | ⟨4, _⟩ => blk good m c (4 : Fin 6) t
    | ⟨5, _⟩ => written good m c t
  Φ t := Phi good m c t
  q _ := fullShare
  owed _ := 0

/-- An input window holds its block at every tile. -/
theorem before_in (c : Dev nD) (t : Fin (cfg good).N) (w : Fin (cfg good).W) (hw : w ≠ (5 : Fin 6)) (d) :
    (dats good m 0 c).before w t d = (dats good m 0 c).after w t := by
  have hcases : ∀ w : Fin 6, w ≠ 5 → w = 0 ∨ w = 1 ∨ w = 2 ∨ w = 3 ∨ w = 4 := by decide
  rcases hcases w hw with rfl | rfl | rfl | rfl | rfl
  · exact ((dats good m 0 c).before_in_eq_fetched (0 : Fin 6) rfl (fun _ => rfl) (fun _ _ _ => rfl) (fun t => by unfold Dat.blockOf; rfl) t d).trans
      (by unfold Dat.fetched Dat.blockOf; rfl)
  · exact ((dats good m 0 c).before_in_eq_fetched (1 : Fin 6) rfl (fun _ => rfl) (fun _ _ _ => rfl) (fun t => by unfold Dat.blockOf; rfl) t d).trans
      (by unfold Dat.fetched Dat.blockOf; rfl)
  · exact ((dats good m 0 c).before_in_eq_fetched (2 : Fin 6) rfl (fun _ => rfl) (fun _ _ _ => rfl) (fun t => by unfold Dat.blockOf; rfl) t d).trans
      (by unfold Dat.fetched Dat.blockOf; rfl)
  · exact ((dats good m 0 c).before_in_eq_fetched (3 : Fin 6) rfl (fun _ => rfl) (fun _ _ _ => rfl) (fun t => by unfold Dat.blockOf; rfl) t d).trans
      (by unfold Dat.fetched Dat.blockOf; rfl)
  · exact ((dats good m 0 c).before_in_eq_fetched (4 : Fin 6) rfl (fun _ => rfl) (fun _ _ _ => rfl) (fun t => by unfold Dat.blockOf; rfl) t d).trans
      (by unfold Dat.fetched Dat.blockOf; rfl)

/-! ## The body at every tile -/

abbrev st0 (t : Fin (cfg good).N) : Memref sig .tc .vmem S512x1024 .f32 := spec0_0.stage ((cfg good).slots t (0 : Fin 6))
abbrev st1 (t : Fin (cfg good).N) : Memref sig .tc .vmem S1x1024x2048 .f32 := spec0_1.stage ((cfg good).slots t (1 : Fin 6))
abbrev st2 (t : Fin (cfg good).N) : Memref sig .tc .vmem S1x1x2048 .f32 := spec0_2.stage ((cfg good).slots t (2 : Fin 6))
abbrev st3 (t : Fin (cfg good).N) : Memref sig .tc .vmem S1x1024x1024 .f32 := spec0_3.stage ((cfg good).slots t (3 : Fin 6))
abbrev st4 (t : Fin (cfg good).N) : Memref sig .tc .vmem S1x1x1024 .f32 := spec0_4.stage ((cfg good).slots t (4 : Fin 6))
abbrev st5 (t : Fin (cfg good).N) : Memref sig .tc .vmem S512x1024 .f32 := spec0_5.stage ((cfg good).slots t (5 : Fin 6))
abbrev wh0 (t : Fin (cfg good).N) : (st0 good t).IsWhole := hstage0_0 (((cfg good).slots t (0 : Fin 6)).cast nbuf0_0)
abbrev wh1 (t : Fin (cfg good).N) : (st1 good t).IsWhole := hstage0_1 (((cfg good).slots t (1 : Fin 6)).cast nbuf0_1)
abbrev wh2 (t : Fin (cfg good).N) : (st2 good t).IsWhole := hstage0_2 (((cfg good).slots t (2 : Fin 6)).cast nbuf0_2)
abbrev wh3 (t : Fin (cfg good).N) : (st3 good t).IsWhole := hstage0_3 (((cfg good).slots t (3 : Fin 6)).cast nbuf0_3)
abbrev wh4 (t : Fin (cfg good).N) : (st4 good t).IsWhole := hstage0_4 (((cfg good).slots t (4 : Fin 6)).cast nbuf0_4)
abbrev wh5 (t : Fin (cfg good).N) : (st5 good t).IsWhole := hstage0_5 (((cfg good).slots t (5 : Fin 6)).cast nbuf0_5)

/-- The body at tile `t`, as the pipeline calls it. -/
abbrev bodyAt (t : Fin (cfg good).N) : Prog (TpuEff nD τ sig (Elt F) Λ₀ .tc) PUnit :=
  body ((cfg good).grid.coords t) (st0 good t) (wh0 good t) (st1 good t) (wh1 good t) (st2 good t) (wh2 good t)
    (st3 good t) (wh3 good t) (st4 good t) (wh4 good t) (st5 good t) (wh5 good t)

/-- The windows the body only reads, and the tables, at tile `t`. -/
abbrev keptAt (c : Dev nD) (t : Fin (cfg good).N) : sProp 𝕄 :=
  kept c (st0 good t) (st1 good t) (st2 good t) (st3 good t) (st4 good t) (expertsOf pf) (validsOf pf) (rows good m c t)
    (upWeights good m c t) (upBias good m c t) (downWeights good m c t) (downBias good m c t)

/-- The body at a tile: from the scratch buffers as the tile before left them it writes the tile's block and leaves
    them so for the next. -/
theorem run_tile (c : Dev nD) (t : Fin (cfg good).N) (a : S1024x2048.Idx → Elt F .bf16) (b : S1024x1024.Idx → Elt F .bf16)
    (h : Held good m c t.castSucc a b) : ∀ K : PUnit → sProp 𝕄,
    iprop(keptAt good m c t ∗ (∃ d, owns (c : Thread nD τ) (st5 good t) fullShare d) ∗ scratch c a b
      ∗ (iprop(keptAt good m c t ∗ owns (c : Thread nD τ) (st5 good t) fullShare (written good m c t)
          ∗ (∃ a, ∃ b, ⌜Held good m c t.succ a b⌝ ∗ scratch c a b)) -∗ K ⟨⟩))
      ⊢ wp frame (wpE (defs₀ (F := F)) Variants.none c none) Set.univ (bodyAt good t) K := by
  intro K
  rcases good.shown t with ⟨h2, h3⟩ | ⟨h2, h3, h1⟩
  · have hself : Held good m c t.succ (k0_pay1 (upWeights good m c t)) (k0_pay2 (downWeights good m c t)) := fun s hs _ => by
      obtain rfl : s = t := Fin.ext (Nat.succ.inj hs)
      exact ⟨rfl, rfl⟩
    unfold written
    rw [if_pos h2]
    by_cases h1 : anew pf t = 1#1
    · iintro ⟨Hk, Ho, Hs, HK⟩
      iapply (run_load c _ _ (wh0 good t) _ (wh1 good t) _ (wh2 good t) _ (wh3 good t) _ (wh4 good t) _ (wh5 good t)
        (expertsOf pf) (validsOf pf) _ _ _ _ _ a b h1 h2 h3 K)
      isplitl [Hk]; · iexact Hk
      isplitl [Ho]; · iexact Ho
      isplitl [Hs]; · iexact Hs
      iintro ⟨Hk, Ho, Hs⟩
      iapply HK
      isplitl [Hk]; · iexact Hk
      isplitl [Ho]; · iexact Ho
      iexists _; iexists _; isplitr; swap
      · iexact Hs
      · ipureintro; exact hself
    · obtain ⟨s, hs, he, hv⟩ := good.carried t h2 h1
      obtain ⟨ha, hb⟩ := h s hs hv
      rw [upWeights_congr good m c t s he] at ha
      rw [downWeights_congr good m c t s he] at hb
      subst ha hb
      iintro ⟨Hk, Ho, Hs, HK⟩
      iapply (run_held c _ _ (wh0 good t) _ (wh1 good t) _ (wh2 good t) _ (wh3 good t) _ (wh4 good t) _ (wh5 good t)
        (expertsOf pf) (validsOf pf) _ _ _ _ _ _ _ h1 h2 h3 K)
      isplitl [Hk]; · iexact Hk
      isplitl [Ho]; · iexact Ho
      isplitl [Hs]; · iexact Hs
      iintro ⟨Hk, Ho, Hs⟩
      iapply HK
      isplitl [Hk]; · iexact Hk
      isplitl [Ho]; · iexact Ho
      iexists _; iexists _; isplitr; swap
      · iexact Hs
      · ipureintro; exact hself
  · unfold written
    rw [if_neg h2]
    iintro ⟨Hk, Ho, Hs, HK⟩
    iapply (run_empty c _ _ (wh0 good t) _ (wh1 good t) _ (wh2 good t) _ (wh3 good t) _ (wh4 good t) _ (wh5 good t)
      (expertsOf pf) (validsOf pf) _ _ _ _ _ a b h1 h2 h3 K)
    isplitl [Hk]; · iexact Hk
    isplitl [Ho]; · iexact Ho
    isplitl [Hs]; · iexact Hs
    iintro ⟨Hk, Ho, Hs⟩
    iapply HK
    isplitl [Hk]; · iexact Hk
    isplitl [Ho]; · iexact Ho
    iexists _; iexists _; isplitr; swap
    · iexact Hs
    · ipureintro
      intro s hs hv
      obtain rfl : s = t := Fin.ext (Nat.succ.inj hs)
      exact absurd hv h2

set_option maxHeartbeats 4000000 in
/-- The pipeline's demand of the body, at every tile. -/
theorem body_obligation (c : Dev nD) : BodyObligation (dats good m 0 c) (defs₀ (F := F)) Variants.none () Set.univ := fun t => by
  rw [bigSep_W0, bigSep_W0, stored good t]
  simp only [before_in good m c t _ (show (0 : Fin 6) ≠ 5 by decide), before_in good m c t _ (show (1 : Fin 6) ≠ 5 by decide),
    before_in good m c t _ (show (2 : Fin 6) ≠ 5 by decide), before_in good m c t _ (show (3 : Fin 6) ≠ 5 by decide),
    before_in good m c t _ (show (4 : Fin 6) ≠ 5 by decide)]
  rw [show (dats good m 0 c).Φ t.succ = Phi good m c t.succ from rfl, show (dats good m 0 c).Φ t.castSucc = Phi good m c t.castSucc from rfl,
    show (dats good m 0 c).owesAt () t.succ = (dats good m 0 c).owesAt () t.castSucc from rfl]
  unfold Phi
  iintro ⟨⟨⟨%a, %b, %hab, Hs⟩, HT0, HT1⟩, Ho, ⟨%d0, H0⟩, ⟨%d1, H1⟩, ⟨%d2, H2⟩, ⟨%d3, H3⟩, ⟨%d4, H4⟩, ⟨%d5, H5⟩⟩
  iapply (run_tile good m c t a b hab _)
  isplitl [H0 H1 H2 H3 H4 HT0 HT1]
  · unfold keptAt kept
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexists _; iexact H5
  isplitl [Hs]; · iexact Hs
  unfold keptAt kept
  iintro ⟨⟨H0, H1, H2, H3, H4, HT0, HT1⟩, H5, Hs⟩
  isplitl [Hs HT0 HT1]
  · isplitl [Hs]; · iexact Hs
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-! ## The launch -/

/-- The launch element of the pipeline's staging cells. -/
def u₀ : UR sig nD τ :=
  initOf (Pipeline.cells (Pipeline.pin (pcfgs (F := F)) fun _ => adm good) ((launch0 (F := F)).cellOf_inj fun _ => adm good))
    (Pipeline.launchToks (Pipeline.pin (pcfgs (F := F)) fun _ => adm good) ((launch0 (F := F)).cellOf_inj fun _ => adm good))

theorem share_full (c : Dev nD) (w : Fin (cfg good).W) : (dats good m 0 c).share w = fullShare := by
  unfold Dat.share; split <;> rfl

/-- The tables as the launch hands them over, one by one. -/
theorem tables_split (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first tile the scratch buffers hold anything. -/
theorem phi_first (c : Dev nD) :
    iprop(BI.emp ∗ Pipeline.prefHeld pre0 c (fun _ => fullShare.right) (adm good).1 ∗ Pipeline.scopedRest spec0 c)
      ⊢ (dats good m 0 c).Φ 0 := by
  rw [tables_split, scopedRest0_eq, show (dats good m 0 c).Φ 0 = Phi good m c 0 from rfl]
  unfold Phi scratch
  iintro ⟨-, ⟨HT0, HT1⟩, ⟨%a, HS0⟩, ⟨%b, HS1⟩⟩
  isplitl [HS0 HS1]
  · iexists a; iexists b; isplitr; swap
    · isplitl [HS0]
      · iexact HS0
      iexact HS1
    · ipureintro; intro s hs; exact absurd hs (Nat.succ_ne_zero _)
  isplitl [HT0]
  · iexact HT0
  iexact HT1

/-- After the last tile the scratch buffers are given back. -/
theorem phi_last (c : Dev nD) :
    (dats good m 0 c).Φ (Fin.last (cfg good).N) ⊢ iprop(BI.emp ∗ Pipeline.scopedRest spec0 c) := by
  rw [scopedRest0_eq, show (dats good m 0 c).Φ (Fin.last (cfg good).N) = Phi good m c (Fin.last _) from rfl]
  unfold Phi scratch
  iintro ⟨⟨%a, %b, -, HS0, HS1⟩, -, -⟩
  isplitr; · iempintro
  isplitl [HS0]
  · iexists a; iexact HS0
  iexists b; iexact HS1

/-- What every final state satisfies: the windows' arrays as the pipeline computes them, the tables as they were. -/
def Ends (r : PUnit × MemSt nD τ sig (Elt F)) : Prop :=
  ∀ c : Dev nD, (∀ w : Fin (cfg good).W, r.2.mem (((cfg good).win w).arr.view.loc (c : Thread nD τ)) = (dats good m 0 c).arrAt w (cfg good).N)
    ∧ ∀ j, r.2.mem ((c : Thread nD τ).loc (pre0.ref j)) = pf j

set_option backward.isDefEq.respectTransparency.types false in
set_option maxHeartbeats 4000000 in
/-- The whole call, from a memory that holds these tables. -/
theorem run_main (hpf : ∀ (c : Dev nD) j, m ((c : Thread nD τ).loc (pre0.ref j)) = pf j) :
    θ_run (defs (F := F)) (onTc (τ := τ) (main (F := F))) ⟨m, fun _ => 0, ρ⟩ (fun r => Ends good m r ∧ r.2.sem = fun _ => 0) :=
  Pipeline.θ_run_region_noSem_pf_quiescent pcfgs (fun _ => adm good) (dats good m) () ((launch0 (F := F)).cellOf_inj fun _ => adm good) (0 : Fin 1)
    (launch0 (F := F)).win.to₀ (launch0 (F := F)).pre (emb₁ : Emb (UR sig nD τ) 𝕄) defs₀ Variants.none m ρ main
    (hbody := fun c => (body_obligation good m c).loose) (hne := (launch0 (F := F)).block_pos)
    (harr := (launch0 (F := F)).arr_whole) (hstage := (launch0 (F := F)).stage_whole) (howed := fun _ _ => rfl)
    (u₀ := u₀ good) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (Pipeline.pin pcfgs fun _ => adm good) (dats good m) 0 (launch0 (F := F)).win.arr_inj c (launch0 (F := F)).arr_whole
      (share_full good m c) _ _ fun _ => rfl)
    (hpf := hpf)
    (X := fun _ => iprop(emp)) (Y := fun _ => iprop(emp)) (Z := fun _ => iprop(emp))
    (hX := fun c => by rw [unscopedRestP0_eq]; iintro -; isplitr <;> iempintro)
    (hin := phi_first good m)
    (hout := phi_last good m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they were. -/
theorem kept_args (hpf : ∀ (c : Dev nD) j, m ((c : Thread nD τ).loc (pre0.ref j)) = pf j) (r : PUnit × MemSt nD τ sig (Elt F))
    (h : Ends good m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hpf c 0).symm, ((h c).2 1).trans (hpf c 1).symm,
    ((h c).1 (0 : Fin 6)).trans ((dats good m 0 c).arrAt_in (0 : Fin 6) rfl _),
    ((h c).1 (1 : Fin 6)).trans ((dats good m 0 c).arrAt_in (1 : Fin 6) rfl _),
    ((h c).1 (2 : Fin 6)).trans ((dats good m 0 c).arrAt_in (2 : Fin 6) rfl _),
    ((h c).1 (3 : Fin 6)).trans ((dats good m 0 c).arrAt_in (3 : Fin 6) rfl _),
    ((h c).1 (4 : Fin 6)).trans ((dats good m 0 c).arrAt_in (4 : Fin 6) rfl _)⟩

end Cert.FfnIdeal.Run

end
-- ==== Proof.ExpertsPre.lean ====
/-
  What the precondition on the tables says, word by word, and that such tables keep what the body needs of them.
-/
module

public import proofs.«01_k».proof.Proof.ExpertsTables
public import proofs.«01_k».proof.Proof.Gen.Pre_tables_ok
public import Idealize.ShloMosaic.Lib.ReduceAll

@[expose] public section

set_option maxRecDepth 16384

noncomputable section

namespace Cert.FfnIdeal.Run

open Cert.FfnIdeal Cert.FfnIdeal.Gen
open Idealize.ShloMosaic Idealize.ShloMosaic.TcCoe Idealize.ShloMosaic.ValueIdx

variable {F : FTy → Type} [FloatOps F]

instance : Subsingleton Cert.Pre_tables_ok.S_.Idx := ⟨fun a b => funext fun x => x.elim0⟩

/-- The precondition in words: experts in range, validity words not negative, and no valid tile that keeps its
    predecessor's expert after an empty one. -/
structure Words (e v : S288.Idx → BitVec 32) : Prop where
  low : ∀ t : Fin 288, 0 ≤ (e (ix1 t)).toInt
  high : ∀ t : Fin 288, (e (ix1 t)).toInt < 32
  sign : ∀ t : Fin 288, 0 ≤ (v (ix1 t)).toInt
  next : ∀ t : Fin 287, e (ix1 ⟨t.val + 1, by omega⟩) ≠ e (ix1 ⟨t.val, by omega⟩)
    ∨ v (ix1 ⟨t.val + 1, by omega⟩) = 0#32 ∨ 0 < (v (ix1 ⟨t.val, by omega⟩)).toInt

theorem words_of_pre (e v : S288.Idx → BitVec 32) (x : S147456x1024.Idx → Elt F .f32) (w1 : S32x1024x2048.Idx → Elt F .f32)
    (b1 : S32x1x2048.Idx → Elt F .f32) (w2 : S32x1024x1024.Idx → Elt F .f32) (b2 : S32x1x1024.Idx → Elt F .f32)
    (h : Cert.Pre_tables_ok.fn (F := F) e v x w1 b1 w2 b2 = fun _ => 1#1) : Words e v := by
  have h0 := (IntOp.andi_eq_one).1 (congrFun h (fun x => x.elim0))
  have h1 := (IntOp.andi_eq_one).1 h0.1
  have hr := fun t : Fin 288 => (IntOp.andi_eq_one).1 (Host.reduce_andi_all _ _ _ _ _ h1.1 (ix1 t))
  have hv := fun t : Fin 288 => Host.reduce_andi_all _ _ _ _ _ h1.2 (ix1 t)
  have ha := fun t : Fin 287 => (IntOp.ori_eq_one).1 (Host.reduce_andi_all _ _ _ _ _ h0.2 (ix1 t))
  refine ⟨fun t => IntOp.cmpi_sge.1 (hr t).1, fun t => IntOp.cmpi_slt.1 (hr t).2, fun t => IntOp.cmpi_sge.1 (hv t), fun t => ?_⟩
  have cur : ∀ (f : S288.Idx → BitVec 32), f (ix1 ⟨t.val + 1, by omega⟩) = extractStridedSlice Cert.Pre_tables_ok.S287 ![1] f Cert.Pre_tables_ok.Facts.slices_S288_S287_1 (ix1 t) := fun f => by
    refine congrArg f (funext fun a => Fin.ext ?_)
    match a with
    | ⟨0, _⟩ => exact Nat.add_comm _ _
  have prv : ∀ (f : S288.Idx → BitVec 32), f (ix1 ⟨t.val, by omega⟩) = extractStridedSlice Cert.Pre_tables_ok.S287 ![0] f Cert.Pre_tables_ok.Facts.slices_S288_S287_0 (ix1 t) := fun f => by
    refine congrArg f (funext fun a => Fin.ext ?_)
    match a with
    | ⟨0, _⟩ => exact (Nat.zero_add _).symm
  rw [cur e, prv e, cur v, prv v]
  rcases ha t with h | h
  · rcases (IntOp.ori_eq_one).1 h with h | h
    · exact .inl (IntOp.cmpi_ne.1 h)
    · exact .inr (.inl (IntOp.cmpi_eq.1 h))
  · exact .inr (.inr (IntOp.cmpi_sgt.1 h))

section

variable {pf : pre0.Contents (Elt F)} (h : Words (expertsOf pf) (validsOf pf))
include h

theorem expert_lt (i : grid0.Coords) : (here (F := F) experts (expertsOf pf) i).toNat < 32 := by
  rw [experts_here]
  have h0 := h.low (tile i)
  have h1 := h.high (tile i)
  rw [BitVec.toInt_eq_toNat_cond] at h0 h1
  split at h0 <;> omega

/-- Every expert's blocks lie inside the arrays. -/
theorem ok_of_words : ok0 pf := by
  refine ⟨fun i => ⟨fun a => ?_, .inl rfl⟩, fun i => ⟨fun a => ?_, .inl rfl⟩, fun i => ⟨fun a => ?_, .inl rfl⟩,
    fun i => ⟨fun a => ?_, .inl rfl⟩⟩ <;>
  · have hlt := expert_lt h i
    match a with
    | ⟨0, _⟩ =>
      show ((here (F := F) experts (expertsOf pf) i).toNat + 1) * 1 ≤ 32
      omega
    | ⟨1, _⟩ => exact le_refl _
    | ⟨2, _⟩ => exact le_refl _

/-- Such tables keep what the body needs. -/
theorem good_of_words : Good pf where
  ok := ok_of_words h
  shown t := by
    have hs := h.sign (tile (grid0.coords t))
    rw [← valids_here (F := F) (validsOf pf) (grid0.coords t)] at hs
    rw [cond2_iff, cond3_iff, fresh_iff]
    by_cases hv : valid pf t = 0#32
    · right
      rw [hv]
      exact ⟨by decide, rfl, fun hf => absurd hf.2 (by decide)⟩
    · left
      refine ⟨lt_of_le_of_ne hs fun h0 => hv (BitVec.eq_of_toInt_eq ?_), hv⟩
      exact h0.symm
  carried t h2 h1 := by
    have ht : t.val < 288 := t.isLt.trans_eq N_0
    rw [cond2_iff] at h2
    rw [fresh_iff] at h1
    have h0 : ¬ ((tile (grid0.coords t)).val = 0 ∨ expert pf t ≠ before (F := F) experts (expertsOf pf) (grid0.coords t)) :=
      fun hf => h1 ⟨hf, h2⟩
    rw [not_or, not_not, tile_coords] at h0
    have hlt : t.val - 1 < grid0.N := lt_of_le_of_lt (Nat.sub_le _ _) t.isLt
    have ht0 : tile (grid0.coords t) = ⟨t.val - 1 + 1, by omega⟩ := Fin.ext (by rw [tile_coords]; show t.val = t.val - 1 + 1; have := h0.1; omega)
    have hp : prior (grid0.coords t) = ⟨t.val - 1, by omega⟩ := Fin.ext (by show (tile (grid0.coords t)).val - 1 = _; rw [tile_coords])
    have hs0 : tile (grid0.coords ⟨t.val - 1, hlt⟩) = ⟨t.val - 1, by omega⟩ := Fin.ext (tile_coords _)
    have he := h0.2
    unfold expert at he
    rw [experts_here, experts_before, ht0, hp] at he
    unfold valid at h2
    rw [valids_here, ht0] at h2
    refine ⟨⟨t.val - 1, hlt⟩, ?_, ?_, ?_⟩
    · show t.val - 1 + 1 = t.val
      have := h0.1
      omega
    · unfold expert
      rw [experts_here, experts_here, hs0, ht0]
      exact he.symm
    · unfold valid
      rw [cond2_iff, valids_here, hs0]
      rcases h.next ⟨t.val - 1, by omega⟩ with hn | hn | hn
      · exact absurd he hn
      · rw [hn] at h2
        exact absurd h2 (by decide)
      · exact hn

end

end Cert.FfnIdeal.Run

end
-- ==== Proof.ExpertsFrame.lean ====
/-
  The expert call from any memory whose tables the precondition admits: it runs, and its arguments and counters end as
  they were.
-/
module

public import proofs.«01_k».proof.Proof.ExpertsLaunch
public import proofs.«01_k».proof.Proof.ExpertsPre

@[expose] public section

set_option maxRecDepth 16384

noncomputable section

namespace Cert.FfnIdeal.Run

open Cert.FfnIdeal Cert.FfnIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

instance : Subsingleton (Dev nD) := inferInstanceAs (Subsingleton (Fin 1))

/-- The tables as the memory holds them. -/
def tables : pre0.Contents (Elt F) := fun j => m (((0 : Dev nD) : Thread nD τ).loc (pre0.ref j))

theorem tables_held (c : Dev nD) (j : Fin pre0.K) : m ((c : Thread nD τ).loc (pre0.ref j)) = tables m j := by
  obtain rfl : c = 0 := Subsingleton.elim _ _
  rfl

/-- The precondition on a memory. -/
def Admits : Prop := ∀ c : Dev nD, Cert.Pre_tables_ok.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) = fun _ => 1#1

variable {m}

theorem words (h : Admits m) : Words (expertsOf (tables m)) (validsOf (tables m)) := words_of_pre _ _ _ _ _ _ _ (h 0)

theorem good (h : Admits m) : Good (tables m) := good_of_words (words h)

variable (m)

theorem frame (h : Admits m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r hr => ⟨fun c => kept_args (good h) m (tables_held m) r hr.1 c, hr.2⟩)
    (run_main (good h) m ρ (tables_held m))

end Cert.FfnIdeal.Run

end
-- ==== Proof.Experts.lean ====
/-
  The expert layer in plain words, for one row and one expert: the row times the up projection plus its bias, whose first
  half is the gate and whose second half the linear part, both clipped; the gate times the logistic function of a multiple
  of itself, times the linear part plus one; and that times the down projection plus its bias. A row of a tile without
  valid rows is zero.
-/
module

public import Idealize.ShloMosaic.Lib.ValueIdx
public import Idealize.ShloMosaic.Lib.IdealHost

@[expose] public section

set_option maxRecDepth 16384

noncomputable section

namespace Cert.Experts

open Idealize.ShloMosaic Idealize.ShloMosaic.ValueIdx

/-! ## The constants, as the programs write them -/

def one : EReal := Ideal.ofBits .f32 0x3F800000#32
def seven : EReal := Ideal.ofBits .f32 0x40E00000#32
def minusSeven : EReal := Ideal.ofBits .f32 0xC0E00000#32
def slope : EReal := Ideal.ofBits .f32 0x3FD9DB23#32
def minusSlope : EReal := Ideal.ofBits .f32 0xBFD9DB23#32

theorem one_eq : one = 1 := Ideal.ofBits_one_f32

theorem minusSlope_eq : minusSlope = -slope := by
  unfold minusSlope slope
  simp [Ideal.ofBits, Ideal.ieee]

/-! ## One row through one expert -/

/-- The places of the gate and of the linear part in the up projection. -/
def low (k : Fin 1024) : Fin 2048 := ⟨k.val, by omega⟩
def high (k : Fin 1024) : Fin 2048 := ⟨1024 + k.val, by omega⟩

def up (x : Fin 1024 → EReal) (w : Fin 1024 → Fin 2048 → EReal) (b : Fin 2048 → EReal) (j : Fin 2048) : EReal :=
  ∑ k : Fin 1024, x k * w k j + b j

/-- The gated activation of a gate and a linear part. -/
def act (g l : EReal) : EReal :=
  (min seven (max minusSeven l) + one) * (min g seven * Ideal.div one (one + Ideal.exp (-(slope * min g seven))))

def layer (x : Fin 1024 → EReal) (w : Fin 1024 → Fin 2048 → EReal) (b : Fin 2048 → EReal) (w' : Fin 1024 → Fin 1024 → EReal)
    (b' : Fin 1024 → EReal) (j : Fin 1024) : EReal :=
  ∑ k : Fin 1024, act (up x w b (low k)) (up x w b (high k)) * w' k j + b' j

/-- The tile a row lies in. -/
def tileOf (i : Fin 147456) : Fin 288 := ⟨i.val / 512, by omega⟩

theorem exp_nonneg (y : EReal) : 0 ≤ Ideal.exp y := by
  induction y with
  | bot => simp
  | coe r => rw [Ideal.exp_coe]; exact EReal.coe_nonneg.2 (Real.exp_pos r).le
  | top => simp

/-- A quotient by one plus an exponential is the product with its reciprocal. -/
theorem div_one_add_exp (g y : EReal) : Ideal.div g (one + Ideal.exp y) = g * Ideal.div one (one + Ideal.exp y) := by
  have h : (one + Ideal.exp y) ≠ 0 := by
    rw [one_eq]
    exact ne_of_gt (lt_of_lt_of_le zero_lt_one (le_add_of_nonneg_right (exp_nonneg y)))
  rw [Ideal.div, Ideal.div, if_neg h, if_neg h, one_eq, one_mul]

/-- The activation as one quotient, with the slope's sign in the constant. -/
theorem act_eq (g l : EReal) :
    (min seven (max minusSeven l) + one) * Ideal.div (min g seven) (one + Ideal.exp (minusSlope * min g seven)) = act g l := by
  rw [div_one_add_exp, minusSlope_eq, EReal.neg_mul]
  rfl

end Cert.Experts

end
-- ==== Proof.ExpertsBody.lean ====
/-
  What the expert body computes from its blocks, read index by index: each row of the block through the block's expert.
-/
module

public import proofs.«01_k».proof.Proof.Experts
public import proofs.«01_k».proof.Proof.Gen.FfnIdeal
public import proofs.«01_k».proof.Proof.Gen.FfnIdeal.Skeleton
public import Idealize.ShloMosaic.Lib.Pipeline.Value

@[expose] public section

set_option maxRecDepth 16384

noncomputable section

namespace Cert.FfnIdeal.Body

open Cert.FfnIdeal Cert.FfnIdeal.Gen Idealize.ShloMosaic Idealize.ShloMosaic.ValueIdx
open Cert.Experts

abbrev dotUp := dot_S512x1024_S1024x2048_S512x2048_1_0_0_1_n_n
abbrev dotDown := dot_S512x1024_S1024x1024_S512x1024_1_0_0_1_n_n

theorem dotUp_apply (A : FVec Ideal S512x1024 .bf16) (B : FVec Ideal S1024x2048 .bf16) (r : Fin 512) (j : Fin 2048) :
    matmul dotUp none A B (constant S512x2048 .f32 0x00000000#32) (ix2 r j) = ∑ k : Fin 1024, A (ix2 r k) * B (ix2 k j) := by
  refine (Ideal.matmul_constant_zero_apply dotUp none A B (ix2 r j)).trans ?_
  refine (Fintype.sum_equiv (contrEquiv1 dotUp 1024 rfl rfl) _ _ fun k => ?_)
  have hl : dotUp.lhsIdx (ix2 r j) k = ix2 r (contrEquiv1 dotUp 1024 rfl rfl k) := by
    funext a
    match a with
    | ⟨0, _⟩ => rfl
    | ⟨1, _⟩ => exact Fin.ext (dotUp.lhsIdx_val_of_single (cl := (1 : Fin 2)) rfl (ix2 r j) k)
  have hr : dotUp.rhsIdx (ix2 r j) k = ix2 (contrEquiv1 dotUp 1024 rfl rfl k) j := by
    funext a
    match a with
    | ⟨0, _⟩ => exact Fin.ext (dotUp.rhsIdx_val_of_single (cr := (0 : Fin 2)) rfl (ix2 r j) k)
    | ⟨1, _⟩ => rfl
  rw [hl, hr]

theorem dotDown_apply (A : FVec Ideal S512x1024 .bf16) (B : FVec Ideal S1024x1024 .bf16) (r : Fin 512) (j : Fin 1024) :
    matmul dotDown none A B (constant S512x1024 .f32 0x00000000#32) (ix2 r j) = ∑ k : Fin 1024, A (ix2 r k) * B (ix2 k j) := by
  refine (Ideal.matmul_constant_zero_apply dotDown none A B (ix2 r j)).trans ?_
  refine (Fintype.sum_equiv (contrEquiv1 dotDown 1024 rfl rfl) _ _ fun k => ?_)
  have hl : dotDown.lhsIdx (ix2 r j) k = ix2 r (contrEquiv1 dotDown 1024 rfl rfl k) := by
    funext a
    match a with
    | ⟨0, _⟩ => rfl
    | ⟨1, _⟩ => exact Fin.ext (dotDown.lhsIdx_val_of_single (cl := (1 : Fin 2)) rfl (ix2 r j) k)
  have hr : dotDown.rhsIdx (ix2 r j) k = ix2 (contrEquiv1 dotDown 1024 rfl rfl k) j := by
    funext a
    match a with
    | ⟨0, _⟩ => exact Fin.ext (dotDown.rhsIdx_val_of_single (cr := (0 : Fin 2)) rfl (ix2 r j) k)
    | ⟨1, _⟩ => rfl
  rw [hl, hr]

/-! ## Layout -/

/-- A matrix block without its leading axis of one. -/
theorem matrix_apply {n p : Nat} (x : (⟨3, ![1, n, p]⟩ : Shape).Idx → EReal) (h : (⟨3, ![1, n, p]⟩ : Shape).ShapeCasts ⟨2, ![n, p]⟩)
    (i : Fin n) (j : Fin p) : shapeCast ⟨2, ![n, p]⟩ x h (ix2 i j) = x (ix3 0 i j) := by
  refine (shapeCast_dropUnit_apply ![n, p] x h (ix2 i j)).trans (congrArg x (funext fun a => ?_))
  match a with
  | ⟨0, _⟩ => rfl
  | ⟨1, _⟩ => rfl
  | ⟨2, _⟩ => rfl

/-- A bias spread over the rows. -/
theorem bias_apply {p : Nat} (x : (⟨3, ![1, 1, p]⟩ : Shape).Idx → EReal) (h : (⟨3, ![1, 1, p]⟩ : Shape).ShapeCasts ⟨2, ![1, p]⟩)
    (h' : (⟨2, ![1, p]⟩ : Shape).Broadcasts ⟨2, ![512, p]⟩) (hp : p ≠ 1) (r : Fin 512) (j : Fin p) :
    broadcastTo ⟨2, ![512, p]⟩ (shapeCast ⟨2, ![1, p]⟩ x h) h' (ix2 r j) = x (ix3 0 0 j) := by
  refine (broadcastTo_apply _ h' (ix2 r j) (ix2 0 j) fun a => ?_).trans (matrix_apply x h 0 j)
  match a with
  | ⟨0, _⟩ => rfl
  | ⟨1, _⟩ => exact (if_neg hp).symm

theorem low_apply (x : S512x2048.Idx → EReal) (h : S512x2048.Slices ![0, 0] S512x1024) (r : Fin 512) (k : Fin 1024) :
    extractStridedSlice S512x1024 ![0, 0] x h (ix2 r k) = x (ix2 r (low k)) :=
  extractStridedSlice_apply ![0, 0] x h (ix2 r k) (ix2 r (low k)) fun a => match a with
    | ⟨0, _⟩ => (Nat.zero_add _).symm
    | ⟨1, _⟩ => (Nat.zero_add _).symm

theorem high_apply (x : S512x2048.Idx → EReal) (h : S512x2048.Slices ![0, 1024] S512x1024) (r : Fin 512) (k : Fin 1024) :
    extractStridedSlice S512x1024 ![0, 1024] x h (ix2 r k) = x (ix2 r (high k)) :=
  extractStridedSlice_apply ![0, 1024] x h (ix2 r k) (ix2 r (high k)) fun a => match a with
    | ⟨0, _⟩ => (Nat.zero_add _).symm
    | ⟨1, _⟩ => rfl

/-! ## The body -/

theorem rounded_up_apply (W : S1x1024x2048.Idx → EReal) (i : Fin 1024) (j : Fin 2048) :
    k0_pay1 (F := Ideal) W (ix2 i j) = W (ix3 0 i j) := by
  unfold k0_pay1
  refine (congrFun (shapeCast_self _ _) _).trans ?_
  exact matrix_apply W _ i j

theorem rounded_down_apply (W : S1x1024x1024.Idx → EReal) (i j : Fin 1024) :
    k0_pay2 (F := Ideal) W (ix2 i j) = W (ix3 0 i j) := by
  unfold k0_pay2
  refine (congrFun (shapeCast_self _ _) _).trans ?_
  exact matrix_apply W _ i j

/-- The rows of a block times the up projection, plus its bias. -/
def raised (X : S512x1024.Idx → EReal) (W : S1x1024x2048.Idx → EReal) (B : S1x1x2048.Idx → EReal) : FVec Ideal S512x2048 .f32 :=
  addf (matmul (F := Ideal) dotUp none (truncf (F := Ideal) .bf16 X bitsLt_bf16_f32) (k0_pay1 (F := Ideal) W) (constant S512x2048 .f32 0x00000000#32))
    (broadcastTo S512x2048 (shapeCast S1x2048 B shapeCasts_S1x1x2048_S1x2048) broadcasts_S1x2048_S512x2048)

theorem raised_apply (X : S512x1024.Idx → EReal) (W : S1x1024x2048.Idx → EReal) (B : S1x1x2048.Idx → EReal) (r : Fin 512) (l : Fin 2048) :
    raised X W B (ix2 r l) = up (fun k => X (ix2 r k)) (fun k l => W (ix3 0 k l)) (fun l => B (ix3 0 0 l)) l := by
  refine congrArg₂ (· + ·) ((dotUp_apply _ _ r l).trans (Finset.sum_congr rfl fun k _ => ?_)) (bias_apply B _ _ (by decide) r l)
  exact congrArg (X (ix2 r k) * ·) (rounded_up_apply W k l)

/-- A valid tile's block. -/
theorem valid_apply (X : S512x1024.Idx → EReal) (W : S1x1024x2048.Idx → EReal) (B : S1x1x2048.Idx → EReal)
    (W' : S1x1024x1024.Idx → EReal) (B' : S1x1x1024.Idx → EReal) (r : Fin 512) (j : Fin 1024) :
    k0_pay3 (F := Ideal) X (k0_pay1 (F := Ideal) W) B (k0_pay2 (F := Ideal) W') B' (ix2 r j)
      = layer (fun k => X (ix2 r k)) (fun k l => W (ix3 0 k l)) (fun l => B (ix3 0 0 l)) (fun k l => W' (ix3 0 k l))
          (fun l => B' (ix3 0 0 l)) j := by
  unfold k0_pay3
  refine congrArg₂ (· + ·) ((dotDown_apply _ _ r j).trans (Finset.sum_congr rfl fun k _ => ?_)) (bias_apply B' _ _ (by decide) r j)
  refine congrArg₂ (· * ·) (Eq.trans ?_ (act_eq _ _)) (rounded_down_apply W' k j)
  rw [← raised_apply X W B r (low k), ← raised_apply X W B r (high k), ← low_apply (raised X W B) slices_S512x2048_o0_0_S512x1024 r k,
    ← high_apply (raised X W B) slices_S512x2048_o0_1024_S512x1024 r k]
  rfl

/-- An empty tile's block. -/
theorem empty_apply (i : S512x1024.Idx) : k0_pay4 (F := Ideal) i = 0 := Ideal.ofBits_zero_f32

end Cert.FfnIdeal.Body

end
-- ==== Proof.ExpertsKernel.lean ====
/-
  The expert call's result, at real arithmetic: every row through its tile's expert, or zero in a tile without rows.
-/
module

public import proofs.«01_k».proof.Proof.ExpertsFrame
public import proofs.«01_k».proof.Proof.ExpertsBody

@[expose] public section

set_option maxRecDepth 16384

noncomputable section

namespace Cert.FfnIdeal.Run

open Cert.FfnIdeal Cert.FfnIdeal.Gen
open Idealize.ShloMosaic Idealize.ShloMosaic.TcCoe Idealize.ShloMosaic.ValueIdx Idealize.SL.Sem
open Cert.Experts (tileOf)

/-! ## The result in plain words -/

section Rows

variable (e v : S288.Idx → BitVec 32) (X : S147456x1024.Idx → EReal) (W : S32x1024x2048.Idx → EReal) (B : S32x1x2048.Idx → EReal)
  (W' : S32x1024x1024.Idx → EReal) (B' : S32x1x1024.Idx → EReal)

/-- A row through an expert. -/
def through (g : Fin 32) (i : Fin 147456) (j : Fin 1024) : EReal :=
  Cert.Experts.layer (fun k => X (ix2 i k)) (fun k l => W (ix3 g k l)) (fun l => B (ix3 g 0 l)) (fun k l => W' (ix3 g k l))
    (fun l => B' (ix3 g 0 l)) j

/-- The whole result: row `i` through the expert of its tile, if its tile has rows. -/
def expertRows : S147456x1024.Idx → EReal := fun y =>
  if 0 < (v (ix1 (tileOf (y 0)))).toInt then through X W B W' B' (Fin.ofNat 32 (e (ix1 (tileOf (y 0)))).toNat) (y 0) (y 1) else 0

end Rows

variable (m : (ℓ : Loc nD τ sig) → Buf (Elt Ideal) ℓ) (ρ : Dev nD → PrngReg) (h : Admits m)

/-- The result of the arguments. -/
def result (c : Dev nD) : S147456x1024.Idx → EReal :=
  expertRows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

variable (c : Dev nD) (t : Fin (cfg (good h)).N)

theorem tileOf_place (r : Fin 512) : tileOf (place t r) = tile (grid0.coords t) := by
  refine Fin.ext ?_
  rw [tile_coords]
  show (t.val * 512 + r.val) / 512 = t.val
  omega

/-- The block a tile writes is its block of the result. -/
theorem written_apply (r : Fin 512) (j : Fin 1024) : written (good h) m c t (ix2 r j) = result m c (ix2 (place t r) j) := by
  obtain rfl : c = 0 := Subsingleton.elim _ _
  have hv : valid (tables m) t = validsOf (tables m) (ix1 (tileOf (place t r))) := by
    rw [tileOf_place m h t r]
    exact valids_here _ _
  have he : expert (tables m) t = expertsOf (tables m) (ix1 (tileOf (place t r))) := by
    rw [tileOf_place m h t r]
    exact experts_here _ _
  show written (good h) m 0 t (ix2 r j) = if 0 < (validsOf (tables m) (ix1 (tileOf (place t r)))).toInt then
    through _ _ _ _ _ (Fin.ofNat 32 (expertsOf (tables m) (ix1 (tileOf (place t r)))).toNat) (place t r) j else 0
  rw [← hv, ← he]
  have hw : Fin.ofNat 32 (expert (tables m) t).toNat = who (good h) t := Fin.ext (Nat.mod_eq_of_lt (who (good h) t).isLt)
  unfold written
  by_cases hp : 0 < (valid (tables m) t).toInt
  · rw [if_pos ((cond2_iff _).2 hp), if_pos hp, hw, Body.valid_apply]
    unfold through
    simp only [rows_apply, upWeights_apply, upBias_apply, downWeights_apply, downBias_apply]
  · rw [if_neg (fun hc => hp ((cond2_iff _).1 hc)), if_neg hp]
    exact Body.empty_apply _

/-! ## The array after the run -/

/-- Every tile's block is written back. -/
theorem flushes : ((cfg (good h)).win (5 : Fin 6)).flush t = true :=
  (Pipeline.Window.flush_reads (G := grid0) ((cfg (good h)).win (5 : Fin 6)) rfl (0 : Fin 1) (by decide)
    (show grid0.fixedAfter reads0_5 0 = true by decide)
    (Pipeline.Window.sep_of_coord (G := grid0) cc0_transform_5 (0 : Fin 1) (0 : Fin 2) (fun _ => rfl) (by decide)) (P := 1) (m := 0)
    (by decide) rfl t).2 (Nat.mod_one _)

theorem flushed_eq :
    (dats (good h) m 0 c).flushed (5 : Fin 6) t = (((cfg (good h)).win (5 : Fin 6)).blk t).view.read (Elt Ideal) (result m c) := by
  show ((cfg (good h)).win (5 : Fin 6)).cut (grid0.coords t) (written (good h) m c t) = _
  funext y
  obtain ⟨r, j, rfl⟩ : ∃ (r : Fin 512) (j : Fin 1024), y = ix2 r j := ⟨y 0, y 1, eq_ix2 y⟩
  show written (good h) m c t (ix2 r j) = result m c ((((cfg (good h)).win (5 : Fin 6)).rect t).emb (ix2 r j))
  rw [out_emb]
  exact written_apply m h c t r j

/-- The blocks tile the result. -/
theorem cover (i : S147456x1024.Idx) : ∃ t : Fin (cfg (good h)).N,
    ((cfg (good h)).win (5 : Fin 6)).flush t = true ∧ i ∈ (((cfg (good h)).win (5 : Fin 6)).blk t).view.set := by
  obtain ⟨t, ht⟩ := grid0.coords_surjective (fun a => match a with
    | ⟨0, _⟩ => tileOf (i 0))
  have e0 : t.val = (i 0).val / 512 := (tile_coords t).symm.trans (congrArg (fun f : grid0.Coords => (f 0).val) ht)
  refine ⟨t, flushes m h t, ?_⟩
  show i ∈ ((View.whole main_v0).slice (((cfg (good h)).win (5 : Fin 6)).rect t)).set
  rw [View.set_slice_whole]
  have e : (((cfg (good h)).win (5 : Fin 6)).rect t).emb (ix2 ⟨(i 0).val % 512, by omega⟩ (i 1) : S512x1024.Idx) = i := by
    refine (out_emb (good h) t _ _).trans ((congrArg (fun z => ix2 z (i 1)) (Fin.ext ?_)).trans (eq_ix2 i).symm)
    show t.val * 512 + (i 0).val % 512 = (i 0).val
    omega
  rw [← e, ← Rect.map_emb_univ]
  exact Finset.mem_map_of_mem _ (Finset.mem_univ _)

theorem final : (dats (good h) m 0 c).arrAt (5 : Fin 6) (cfg (good h)).N = result m c :=
  (dats (good h) m 0 c).arrAt_eq_of_cover (5 : Fin 6) (result m c) (fun t _ => flushed_eq m h c t) (cover m h)

/-- The run: the result array holds every row through its tile's expert, and the arguments are unchanged. -/
theorem run (h : Admits m) : θ_run (defs (F := Ideal)) (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c => ⟨((hr.1 c).1 (5 : Fin 6)).trans (final m h c), kept_args (good h) m (tables_held m) r hr.1 c⟩)
    (run_main (good h) m ρ (tables_held m))

end Cert.FfnIdeal.Run

end
-- ==== Proof.ExpertsRef.lean ====
/-
  The reference of the expert call, read index by index: every row through all the experts, each weighted by whether the
  row's tile has rows and this expert. Only the tile's own expert's weight is one, so that the sum over the experts is the
  row through that expert, or zero.
-/
module

public import proofs.«01_k».proof.Proof.Experts
public import proofs.«01_k».proof.Proof.Gen.FfnRefIdeal.Read
public import Idealize.ShloMosaic.Lib.WordCmp
public import Idealize.ShloMosaic.Lib.Affine

@[expose] public section

set_option maxRecDepth 16384

noncomputable section

namespace Cert.FfnRefIdeal.RefValue

open Cert.FfnRefIdeal Cert.FfnRefIdeal.Gen Cert.FfnRefIdeal.Read
open Idealize.ShloMosaic Idealize.ShloMosaic.ValueIdx
open Cert.Experts

variable (e v : S288.Idx → BitVec 32) (X : S147456x1024.Idx → EReal) (W : S32x1024x2048.Idx → EReal) (B : S32x1x2048.Idx → EReal)
  (W' : S32x1024x1024.Idx → EReal) (B' : S32x1x1024.Idx → EReal)

/-! ## A row through one expert -/

theorem raised_apply (g : Fin 32) (i : Fin 147456) (l : Fin 2048) :
    val_main_v17 (F := Ideal) X W B (ix3 g i l)
      = up (fun k => X (ix2 i k)) (fun k l => W (ix3 g k l)) (fun l => B (ix3 g 0 l)) l := by
  rw [val_main_v17_apply, val_main_v15_apply, val_main_v14_apply, val_main_v16_apply]
  refine congrArg₂ (· + ·) (Finset.sum_congr rfl fun k _ => ?_) (congrArg B (funext fun a => ?_))
  · refine (mul_comm _ _).trans (congrArg₂ (· * ·) (congrArg X (funext fun a => ?_)) (congrArg W (funext fun a => ?_)))
    · match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl
    | ⟨2, _⟩ => rfl

theorem hidden_apply (g : Fin 32) (i : Fin 147456) (k : Fin 1024) :
    val_main_v34 (F := Ideal) X W B (ix3 g i k)
      = act (val_main_v17 (F := Ideal) X W B (ix3 g i (low k))) (val_main_v17 (F := Ideal) X W B (ix3 g i (high k))) := by
  have hl : val_main_v18 (F := Ideal) X W B (ix3 g i k) = val_main_v17 (F := Ideal) X W B (ix3 g i (low k)) := by
    rw [val_main_v18_apply]
    refine congrArg _ (funext fun a => ?_)
    match a with
    | ⟨0, _⟩ => rfl
    | ⟨1, _⟩ => rfl
    | ⟨2, _⟩ => rfl
  have hh : val_main_v21 (F := Ideal) X W B (ix3 g i k) = val_main_v17 (F := Ideal) X W B (ix3 g i (high k)) := by
    rw [val_main_v21_apply]
    refine congrArg _ (funext fun a => ?_)
    match a with
    | ⟨0, _⟩ => rfl
    | ⟨1, _⟩ => rfl
    | ⟨2, _⟩ => rfl
  rw [← hl, ← hh]
  simp only [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v20_apply, val_main_v19_apply, val_main_call0_v4_apply, val_main_call0_v3_apply,
    val_main_call0_v2_apply, val_main_call0_v1_apply, val_main_call0_v0_apply, val_main_cst_apply, val_main_cst_0_apply,
    val_main_cst_1_apply, val_main_cst_2_apply, val_main_cst_3_apply, val_main_cst_4_apply, val_main_cst_5_apply]
  rfl

/-- One expert's result on every row. -/
theorem through_apply (g : Fin 32) (i : Fin 147456) (j : Fin 1024) :
    val_main_v37 (F := Ideal) X W B W' B' (ix3 g i j)
      = layer (fun k => X (ix2 i k)) (fun k l => W (ix3 g k l)) (fun l => B (ix3 g 0 l)) (fun k l => W' (ix3 g k l))
          (fun l => B' (ix3 g 0 l)) j := by
  rw [val_main_v37_apply, val_main_v35_apply, val_main_v36_apply]
  refine congrArg₂ (· + ·) (Finset.sum_congr rfl fun k _ => congrArg₂ (· * ·) ?_ (congrArg W' (funext fun a => ?_)))
    (congrArg B' (funext fun a => ?_))
  · rw [← raised_apply X W B g i (low k), ← raised_apply X W B g i (high k), ← hidden_apply X W B g i k]
    refine congrArg _ (funext fun a => ?_)
    match a with
    | ⟨0, _⟩ => rfl
    | ⟨1, _⟩ => rfl
    | ⟨2, _⟩ => rfl
  · match a with
    | ⟨0, _⟩ => rfl
    | ⟨1, _⟩ => rfl
    | ⟨2, _⟩ => rfl
  · match a with
    | ⟨0, _⟩ => rfl
    | ⟨1, _⟩ => rfl
    | ⟨2, _⟩ => rfl

/-! ## The weights of the experts -/

/-- An expert's weight on a row: one where the row's tile has rows and this expert. -/
theorem weight_apply (g : Fin 32) (i : Fin 147456) (j : Fin 1024) :
    val_main_v40 (F := Ideal) e v (ix3 g i j)
      = if e (ix1 (tileOf i)) = BitVec.ofNat 32 g.val ∧ 0 < (v (ix1 (tileOf i))).toInt then 1 else 0 := by
  have ht : val_main_v40 (F := Ideal) e v (ix3 g i j) = val_main_v11 (F := Ideal) e v (ix2 (tileOf i) g) := by
    rw [val_main_v40_apply, val_main_v39_apply, val_main_v38_apply, val_main_v13_apply, val_main_v12_apply]
    refine congrArg _ (funext fun a => ?_)
    match a with
    | ⟨0, _⟩ => exact Fin.ext (by show (i.val * 32 + g.val) / 16384 = i.val / 512; omega)
    | ⟨1, _⟩ => exact Fin.ext (by show (i.val * 32 + g.val) % 32 = g.val; omega)
  rw [ht, val_main_v11_apply]
  have hb : val_main_v10 (F := Ideal) e v (ix2 (tileOf i) g) = 1#1 ↔
      e (ix1 (tileOf i)) = BitVec.ofNat 32 g.val ∧ 0 < (v (ix1 (tileOf i))).toInt := by
    rw [val_main_v10_apply, IntOp.andi_eq_one, val_main_v5_apply, IntOp.cmpi_eq, val_main_v9_apply, val_main_v8_apply, IntOp.cmpi_sgt,
      val_main_v3_apply, val_main_v0_apply, val_main_v4_apply, val_main_v2_apply, val_main_v1_apply, val_main_v6_apply,
      val_main_v7_apply, val_main_c_apply]
    have he : idx_main_v0 (idx_main_v3 (ix2 (tileOf i) g)) = ix1 (tileOf i) := funext fun a => by
      match a with
      | ⟨0, _⟩ => rfl
    have hv : idx_main_v6 (idx_main_v9 (ix2 (tileOf i) g)) = ix1 (tileOf i) := funext fun a => by
      match a with
      | ⟨0, _⟩ => rfl
    rw [he, hv]
    rfl
  generalize val_main_v10 (F := Ideal) e v (ix2 (tileOf i) g) = b at hb ⊢
  have key : ∀ b : BitVec 1, FloatOps.uitofp (F := Ideal) .f32 b = if b = 1#1 then (1 : EReal) else 0 := by
    intro b
    rcases eq_or_ne b 1#1 with rfl | hne
    · show (((1#1 : BitVec 1).toNat : ℝ) : EReal) = 1
      simp
    · obtain rfl : b = 0#1 := by
        revert hne
        revert b
        decide
      show (((0#1 : BitVec 1).toNat : ℝ) : EReal) = 0
      simp
  rw [key]
  exact if_congr hb rfl rfl

/-! ## The sum over the experts -/

theorem result_apply (he : ∀ t : Fin 288, (e (ix1 t)).toNat < 32) (i : Fin 147456) (j : Fin 1024) :
    val_main_v42 (F := Ideal) e v X W B W' B' (ix2 i j)
      = if 0 < (v (ix1 (tileOf i))).toInt then
          val_main_v37 (F := Ideal) X W B W' B' (ix3 (Fin.ofNat 32 (e (ix1 (tileOf i))).toNat) i j) else 0 := by
  have hi : ∀ g : Fin 32, idx_main_v42 (ix2 i j) g = ix3 g i j := fun g => funext fun a => by
    match a with
    | ⟨0, _⟩ => rfl
    | ⟨1, _⟩ => rfl
    | ⟨2, _⟩ => rfl
  have hterm : ∀ g : Fin 32, val_main_v41 (F := Ideal) e v X W B W' B' (idx_main_v42 (ix2 i j) g)
      = (if e (ix1 (tileOf i)) = BitVec.ofNat 32 g.val ∧ 0 < (v (ix1 (tileOf i))).toInt then 1 else 0)
        * val_main_v37 (F := Ideal) X W B W' B' (ix3 g i j) := fun g => by
    rw [hi g, val_main_v41_apply, weight_apply]
    rfl
  rw [val_main_v42_apply, val_main_cst_6_apply, Finset.sum_congr rfl fun g _ => hterm g]
  refine (congrArg (· + _) Ideal.ofBits_zero_f32).trans ((zero_add _).trans ?_)
  have hlt := he (tileOf i)
  by_cases hp : 0 < (v (ix1 (tileOf i))).toInt
  · rw [if_pos hp, Finset.sum_eq_single (Fin.ofNat 32 (e (ix1 (tileOf i))).toNat)]
    · have heq : e (ix1 (tileOf i)) = BitVec.ofNat 32 (Fin.ofNat 32 (e (ix1 (tileOf i))).toNat).val := by
        apply BitVec.eq_of_toNat_eq
        rw [BitVec.toNat_ofNat]
        show _ = (e (ix1 (tileOf i))).toNat % 32 % 2 ^ 32
        omega
      rw [if_pos ⟨heq, hp⟩, one_mul]
    · intro g _ hg
      rw [if_neg, zero_mul]
      rintro ⟨h1, -⟩
      refine hg (Fin.ext ?_)
      show g.val = (e (ix1 (tileOf i))).toNat % 32
      rw [h1, BitVec.toNat_ofNat]
      have := g.isLt
      omega
    · intro hn
      exact absurd (Finset.mem_univ _) hn
  · rw [if_neg hp]
    refine Finset.sum_eq_zero fun g _ => ?_
    rw [if_neg (fun h => hp h.2), zero_mul]

end Cert.FfnRefIdeal.RefValue

end
-- ==== Proof.ExpertsClaims.lean ====
/-
  The claims about the expert call: on admissible tables its runs leave the arguments and the counters as they were, and
  its result is the reference's.
-/
module

public import proofs.«01_k».proof.Defs
public import proofs.«01_k».proof.Proof.Gen.FfnRefIdeal.Run
public import proofs.«01_k».proof.Proof.ExpertsKernel
public import proofs.«01_k».proof.Proof.ExpertsRef
public import proofs.«01_k».proof.Proof.ExpertsBitsFrame
public import Idealize.ShloMosaic.Lib.Quiescent

@[expose] public section

set_option maxRecDepth 16384

noncomputable section

namespace Cert.ExpertsClaims

open Idealize.ShloMosaic Idealize.ShloMosaic.TcCoe Idealize.ShloMosaic.ValueIdx Idealize.SL.Sem

theorem frame_kernel : Cert.quiescent_Ffn := fun m ρ h => Cert.Ffn.Run.frame (F := Bits) m ρ h

theorem frame_ideal : Cert.quiescent_FfnIdeal := fun m ρ h => Cert.FfnIdeal.Run.frame (F := Ideal) m ρ h

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_ref_pre : Cert.quiescent_FfnRefIdeal_pre_tables_ok := fun m ρ _ => frame_ref m ρ trivial

theorem preserves : Cert.preserves_Ffn_FfnIdeal := trivial

/-- On tables of experts in range, the reference's result is the kernel's. -/
theorem ref_eq (m : (ℓ : Loc Cert.FfnIdeal.nD Cert.FfnIdeal.τ Cert.FfnIdeal.sig) → Buf (Elt Ideal) ℓ) (h : Cert.FfnIdeal.Run.Admits m)
    (c : Dev Cert.FfnIdeal.nD) :
    Cert.FfnRefIdeal.Read.val_main_v42 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))
      (m ((c.tc : Thread Cert.FfnIdeal.nD Cert.FfnIdeal.τ).loc Cert.FfnIdeal.main_arg5)) (m ((c.tc : Thread Cert.FfnIdeal.nD Cert.FfnIdeal.τ).loc Cert.FfnIdeal.main_arg6))
      = Cert.FfnIdeal.Run.result m c := by
  funext y
  obtain ⟨i, j, rfl⟩ : ∃ (i : Fin 147456) (j : Fin 1024), y = ix2 i j := ⟨y 0, y 1, eq_ix2 y⟩
  refine (Cert.FfnRefIdeal.RefValue.result_apply _ _ _ _ _ _ _ (fun t => ?_) i j).trans ?_
  · have w := Cert.FfnIdeal.Run.words_of_pre _ _ _ _ _ _ _ (h c)
    have h0 := w.low t
    have h1 := w.high t
    rw [BitVec.toInt_eq_toNat_cond] at h0 h1
    split at h0 <;> omega
  · rw [Cert.FfnRefIdeal.RefValue.through_apply]
    rfl

/-- On admissible tables the kernel's result and the reference's are the expert rows of the same arguments. -/
theorem algebraic : Cert.algebraic_FfnIdeal_FfnRefIdeal := by
  intro m ρ m' ρ' hpre hagree
  refine ⟨fun c => Cert.FfnIdeal.Run.result m c, Cert.FfnIdeal.Run.run m ρ hpre, ?_⟩
  refine (θ_run Cert.FfnRefIdeal.defs _ _).mono (fun r h c => ⟨(h c).1.trans ?_, (h c).2⟩)
    (Cert.FfnRefIdeal.Value.run (F := Ideal) m' ρ')
  obtain ⟨h0, h1, h2, h3, h4, h5, h6⟩ := hagree c
  rw [h0, h1, h2, h3, h4, h5, h6]
  exact (Cert.FfnRefIdeal.Read.val_main_v42_eq (F := Ideal) _ _ _ _ _ _ _).trans (ref_eq m hpre c)

end Cert.ExpertsClaims

end
-- ==== Proof.Projection.lean ====
/-
  What the input projection computes, entry by entry: every token's row times the weights, cut into the queries, keys and
  values of the attention, the gated layer's operands and the channel-mixed features.  Queries and keys are divided by
  their head's root mean square, scaled by a gain and turned by the position's angles; a gate is a log-sigmoid.
-/
module

public import Idealize.ShloMosaic.PureOps.Ideal
public import Idealize.ShloMosaic.PureOps.IdealRules
public import Idealize.ShloMosaic.Lib.IdealHost
public import Idealize.ShloMosaic.Lib.ValueIdx

@[expose] public section

set_option maxRecDepth 16384

noncomputable section

namespace Cert.Projection

open Idealize.ShloMosaic Idealize.ShloMosaic.ValueIdx

abbrev HShape : Shape := ⟨2, ![32768, 1024]⟩
abbrev WShape : Shape := ⟨2, ![1024, 1824]⟩
abbrev RopeShape : Shape := ⟨3, ![4096, 2, 16]⟩
abbrev GainShape : Shape := ⟨2, ![1, 64]⟩
abbrev GateShape : Shape := ⟨3, ![2, 16, 128]⟩
abbrev BiasShape : Shape := ⟨2, ![2, 128]⟩
abbrev ChanShape : Shape := ⟨2, ![64, 64]⟩

/-! ## The constants -/

abbrev inv64 : EReal := Ideal.ofBits .f32 0x3C800000#32
abbrev eps : EReal := Ideal.ofBits .f32 0x358637BD#32
abbrev inv8 : EReal := Ideal.ofBits .f32 0x3E000000#32
abbrev inv16 : EReal := Ideal.ofBits .f32 0x3D800000#32
abbrev gqScale : EReal := Ideal.ofBits .f32 0x3E3504F3#32

theorem div_64 (x : EReal) : Ideal.div x (Ideal.ofBits .f32 0x42800000#32) = x * inv64 := by
  have e : Ideal.ofBits .f32 0x42800000#32 = ((64 : ℝ) : EReal) := by
    simp [Ideal.ofBits, Ideal.ieee]; rw [← EReal.coe_mul]; norm_num
  have e' : inv64 = (((64 : ℝ)⁻¹ : ℝ) : EReal) := by
    simp [inv64, Ideal.ofBits, Ideal.ieee]; rw [← EReal.coe_mul]; norm_num
  rw [e, e', EReal.coe_inv]
  unfold Ideal.div
  rw [if_neg (by simp)]

theorem div_16 (x : EReal) : Ideal.div x (Ideal.ofBits .f32 0x41800000#32) = x * inv16 := by
  have e : Ideal.ofBits .f32 0x41800000#32 = ((16 : ℝ) : EReal) := by
    simp [Ideal.ofBits, Ideal.ieee]; rw [← EReal.coe_mul]; norm_num
  have e' : inv16 = (((16 : ℝ)⁻¹ : ℝ) : EReal) := by
    simp [inv16, Ideal.ofBits, Ideal.ieee]; rw [← EReal.coe_mul]; norm_num
  rw [e, e', EReal.coe_inv]
  unfold Ideal.div
  rw [if_neg (by simp)]

/-! ## The log-sigmoid -/

/-- `log (1 / (1 + exp (−z)))`, spelt so that no exponential of a positive number is taken. -/
def logSig (z : EReal) : EReal := min z 0 - Ideal.log (1 + Ideal.exp (0 - max z (-z)))

/-- The logarithm's term is a real number. -/
theorem logTerm_real (z : EReal) : ∃ r : ℝ, Ideal.log (1 + Ideal.exp (0 - max z (-z))) = (r : EReal) := by
  have hle : ∀ r : ℝ, ∃ s : ℝ, Ideal.log (1 + Ideal.exp (r : EReal)) = (s : EReal) := fun r => by
    have e : (1 : EReal) + Ideal.exp (r : EReal) = ((1 + Real.exp r : ℝ) : EReal) := by
      rw [EReal.coe_add]; rfl
    refine ⟨Real.log (1 + Real.exp r), ?_⟩
    rw [e]
    show (if 1 + Real.exp r ≤ 0 then (⊥ : EReal) else _) = _
    rw [if_neg (by have := Real.exp_pos r; linarith)]
  have hbot : ∃ s : ℝ, Ideal.log (1 + Ideal.exp (⊥ : EReal)) = (s : EReal) := by
    refine ⟨Real.log 1, ?_⟩
    show Ideal.log (1 + 0) = _
    rw [add_zero]
    show (if (1 : ℝ) ≤ 0 then (⊥ : EReal) else _) = _
    rw [if_neg (by norm_num)]
  induction z with
  | bot => simpa using hbot
  | top => simpa using hbot
  | coe r =>
    have e : (0 : EReal) - max (r : EReal) (-(r : EReal)) = ((0 - max r (-r) : ℝ) : EReal) := by
      rw [← EReal.coe_neg, ← EReal.coe_strictMono.monotone.map_max, EReal.coe_sub, EReal.coe_zero]
    rw [e]
    exact hle _

/-- The other spelling, through the soft plus of `−z`. -/
theorem logSig_eq (z : EReal) :
    -(max (-z) 0 + Ideal.log1p (Ideal.exp (-(max (-z) (-(-z)))))) = logSig z := by
  unfold logSig Ideal.log1p
  have e : (-(max (-z) (-(-z))) : EReal) = 0 - max z (-z) := by
    rw [neg_neg, max_comm, zero_sub]
  rw [e]
  obtain ⟨r, hr⟩ := logTerm_real z
  rw [hr, EReal.neg_add (Or.inr (EReal.coe_ne_top r)) (Or.inr (EReal.coe_ne_bot r))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-! ## The results -/

/-- A head's lanes divided by their root mean square and scaled by the gain. -/
def normed (y g : Fin 64 → EReal) (x : Fin 64) : EReal :=
  y x * Ideal.rsqrt ((∑ z : Fin 64, y z * y z) * inv64 + eps) * g x

/-- Each half of 32 lanes turned: its lanes `f` and `16 + f` are a pair, rotated by angle `f` of that half. -/
def turned (y : Fin 64 → EReal) (cs sn : Fin 2 → Fin 16 → EReal) (x : Fin 64) : EReal :=
  if x.val % 32 < 16 then
    y x * cs ⟨x.val / 32, by omega⟩ ⟨x.val % 16, by omega⟩
      - y ⟨(x.val + 16) % 64, by omega⟩ * sn ⟨x.val / 32, by omega⟩ ⟨x.val % 16, by omega⟩
  else
    y ⟨(x.val + 48) % 64, by omega⟩ * sn ⟨x.val / 32, by omega⟩ ⟨x.val % 16, by omega⟩
      + y x * cs ⟨x.val / 32, by omega⟩ ⟨x.val % 16, by omega⟩

section Results

variable (h : HShape.Idx → EReal) (w : WShape.Idx → EReal) (cs sn : RopeShape.Idx → EReal) (g : GainShape.Idx → EReal)
  (gw : GateShape.Idx → EReal) (gb : BiasShape.Idx → EReal) (ch : ChanShape.Idx → EReal)

/-- Column `c` of token `n`'s projection. -/
def proj (n : Fin 32768) (c : Fin 1824) : EReal := ∑ d : Fin 1024, h (ix2 n d) * w (ix2 d c)

/-- Token `n`'s position in its sequence. -/
def pos (n : Fin 32768) : Fin 4096 := ⟨n.val % 4096, by omega⟩

/-- The lanes of a query, key or value head. -/
def headQ (n : Fin 32768) (hd : Fin 8) (x : Fin 64) : EReal := proj h w n ⟨hd.val * 64 + x.val, by omega⟩
def headK (n : Fin 32768) (hd : Fin 2) (x : Fin 64) : EReal := proj h w n ⟨512 + hd.val * 64 + x.val, by omega⟩
def headV (n : Fin 32768) (hd : Fin 2) (x : Fin 64) : EReal := proj h w n ⟨640 + hd.val * 64 + x.val, by omega⟩

/-- A head normed and turned at token `n`. -/
def roped (y : Fin 64 → EReal) (n : Fin 32768) : Fin 64 → EReal :=
  turned (normed y fun x => g (ix2 0 x)) (fun a f => cs (ix3 (pos n) a f)) (fun a f => sn (ix3 (pos n) a f))

/-- The queries, scaled by an eighth. -/
def queries : (⟨2, ![32768, 512]⟩ : Shape).Idx → EReal := fun i =>
  roped cs sn g (headQ h w (i 0) ⟨(i 1).val / 64, by have : (i 1).val < 512 := (i 1).isLt; omega⟩) (i 0)
    ⟨(i 1).val % 64, by omega⟩ * inv8

/-- The keys, each head twice. -/
def keys : (⟨2, ![32768, 256]⟩ : Shape).Idx → EReal := fun i =>
  roped cs sn g (headK h w (i 0) ⟨(i 1).val / 128, by have : (i 1).val < 256 := (i 1).isLt; omega⟩) (i 0)
    ⟨(i 1).val % 64, by omega⟩

/-- The values: per head a block with the lanes low and one with the lanes high, each with a one in its other half. -/
def values : (⟨2, ![32768, 512]⟩ : Shape).Idx → EReal := fun i =>
  if (i 1).val / 64 % 2 = (i 1).val / 128 % 2 then
    headV h w (i 0) ⟨(i 1).val / 256, by have : (i 1).val < 512 := (i 1).isLt; omega⟩ ⟨(i 1).val % 64, by omega⟩
  else if (i 1).val % 64 = 0 then 1 else 0

/-- The gated layer's queries, keys, values and output gates. -/
def gateQ : (⟨2, ![32768, 128]⟩ : Shape).Idx → EReal := fun i =>
  proj h w (i 0) ⟨768 + (i 1).val, by have : (i 1).val < 128 := (i 1).isLt; omega⟩ * gqScale
def gateK : (⟨2, ![32768, 128]⟩ : Shape).Idx → EReal := fun i =>
  proj h w (i 0) ⟨896 + (i 1).val, by have : (i 1).val < 128 := (i 1).isLt; omega⟩
def gateV : (⟨2, ![32768, 256]⟩ : Shape).Idx → EReal := fun i =>
  proj h w (i 0) ⟨1024 + (i 1).val, by have : (i 1).val < 256 := (i 1).isLt; omega⟩
def gateR : (⟨2, ![32768, 256]⟩ : Shape).Idx → EReal := fun i =>
  proj h w (i 0) ⟨1280 + (i 1).val, by have : (i 1).val < 256 := (i 1).isLt; omega⟩

/-- The decay's argument in head `a`, from the head's 16 columns. -/
def decayArg (n : Fin 32768) (a : Fin 2) (k : Fin 128) : EReal :=
  (∑ r : Fin 16, proj h w n ⟨1536 + a.val * 16 + r.val, by omega⟩ * gw (ix3 a r k)) + gb (ix2 a k)

/-- The logarithm of the decay. -/
def decay : (⟨2, ![32768, 256]⟩ : Shape).Idx → EReal := fun i =>
  logSig (decayArg h w gw gb (i 0) ⟨(i 1).val / 128, by have : (i 1).val < 256 := (i 1).isLt; omega⟩
    ⟨(i 1).val % 128, by omega⟩) * inv16

/-- Sequence position `s` of sequence `b` as a token. -/
def token (b : Fin 8) (s : Fin 4096) : Fin 32768 := ⟨b.val * 4096 + s.val, by omega⟩

/-- The features mixed within each group of 64 channels, laid out with the sequences side by side. -/
def channels : (⟨2, ![4096, 2048]⟩ : Shape).Idx → EReal := fun i =>
  ∑ x : Fin 64,
    proj h w (token ⟨(i 1).val / 256, by have : (i 1).val < 2048 := (i 1).isLt; omega⟩ (i 0))
        ⟨1568 + (i 1).val % 256 / 64 * 64 + x.val, by omega⟩
      * ch (ix2 x ⟨(i 1).val % 64, by omega⟩)

end Results

/-- A sum whose terms vanish outside a stretch of `n` indices is the sum over the stretch. -/
theorem sum_window {N n : Nat} (f : Fin N → EReal) (off : Nat) (hle : off + n ≤ N)
    (hz : ∀ j : Fin N, j.val < off ∨ off + n ≤ j.val → f j = 0) :
    ∑ j, f j = ∑ x : Fin n, f ⟨off + x.val, by omega⟩ := by
  refine (Fintype.sum_of_injective (fun x : Fin n => (⟨off + x.val, by omega⟩ : Fin N)) (fun x y e => ?_) _ _
    (fun j hj => hz j ?_) fun _ => rfl).symm
  · have := congrArg Fin.val e
    exact Fin.ext (by simpa using this)
  · by_contra hn
    rw [not_or, not_lt, not_le] at hn
    exact hj ⟨⟨j.val - off, by omega⟩, Fin.ext (by show off + (j.val - off) = j.val; omega)⟩

end Cert.Projection

end
-- ==== Proof.ProjectionLaunch.lean ====
/-
  The launch of the projection call: its host operations, its windows' blocks, what one run of the body stores, and the
  pipeline run over the grid.
-/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a core when the region is entered, after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The block of a window at a grid point, cut from its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1320000 in
/-- A run to the data's arrays leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

abbrev r0_0 : Rect S512x1024 := Rect.unit (s := S512x1024) ![0, 0] S512x1024.size inb_S512x1024_S512x1024_0_0
abbrev r0_1 : Rect S1024x2432 := Rect.unit (s := S1024x2432) ![0, 0] S1024x2432.size inb_S1024x2432_S1024x2432_0_0
abbrev r0_2 : Rect S512x128 := Rect.unit (s := S512x128) ![0, 0] S512x128.size inb_S512x128_S512x128_0_0
abbrev r0_3 : Rect S128x128 := Rect.unit (s := S128x128) ![0, 0] S128x128.size inb_S128x128_S128x128_0_0
abbrev r0_4 : Rect S1x128 := Rect.unit (s := S1x128) ![0, 0] S1x128.size inb_S1x128_S1x128_0_0
abbrev r0_5 : Rect S512x512 := Rect.unit (s := S512x512) ![0, 0] S512x128.size inb_S512x512_S512x128_0_0
abbrev r0_6 : Rect S512x512 := Rect.unit (s := S512x512) ![0, 128] S512x128.size inb_S512x512_S512x128_0_128
abbrev r0_7 : Rect S512x512 := Rect.unit (s := S512x512) ![0, 256] S512x128.size inb_S512x512_S512x128_0_256
abbrev r0_8 : Rect S512x512 := Rect.unit (s := S512x512) ![0, 384] S512x128.size inb_S512x512_S512x128_0_384
abbrev r0_9 : Rect S512x256 := Rect.unit (s := S512x256) ![0, 0] S512x128.size inb_S512x256_S512x128_0_0
abbrev r0_10 : Rect S512x256 := Rect.unit (s := S512x256) ![0, 128] S512x128.size inb_S512x256_S512x128_0_128
abbrev r0_11 : Rect S1x512 := Rect.unit (s := S1x512) ![0, 0] S1x512.size inb_S1x512_S1x512_0_0
abbrev r0_12 : Rect S512x512 := Rect.unit (s := S512x512) ![0, 0] S512x512.size inb_S512x512_S512x512_0_0
abbrev r0_13 : Rect S512x256 := Rect.unit (s := S512x256) ![0, 0] S512x256.size inb_S512x256_S512x256_0_0
abbrev r0_14 : Rect S128x256 := Rect.unit (s := S128x256) ![0, 0] S128x256.size inb_S128x256_S128x256_0_0
abbrev r0_15 : Rect S1x256 := Rect.unit (s := S1x256) ![0, 0] S1x256.size inb_S1x256_S1x256_0_0
abbrev r0_16 : Rect S256x256 := Rect.unit (s := S256x256) ![0, 0] S256x256.size inb_S256x256_S256x256_0_0

def out0_12 (x0 : Vec F S512x1024 .f32) (x1 : Vec F S1024x2432 .bf16) (x2 : Vec F S512x128 .f32) (x3 : Vec F S512x128 .f32) (x4 : Vec F S1x128 .f32) (x7 : Vec F S128x128 .bf16) : Vec F S512x512 .bf16 :=
  View.canon [⟨r0_8, k0_pay15 (k0_pay3 (View.ld x2 r0_2)) (k0_pay4 (View.ld x3 r0_2)) k0_pay6 (k0_pay14 (k0_pay2 (View.ld x0 r0_0) (View.ld x1 r0_1)) (k0_pay5 (View.ld x7 r0_3)) (View.ld x4 r0_4)) 112#32⟩,
    ⟨r0_7, k0_pay13 (k0_pay2 (View.ld x0 r0_0) (View.ld x1 r0_1)) (k0_pay3 (View.ld x2 r0_2)) (k0_pay4 (View.ld x3 r0_2)) (k0_pay5 (View.ld x7 r0_3)) k0_pay6 (View.ld x4 r0_4)⟩,
    ⟨r0_6, k0_pay12 (k0_pay2 (View.ld x0 r0_0) (View.ld x1 r0_1)) (k0_pay3 (View.ld x2 r0_2)) (k0_pay4 (View.ld x3 r0_2)) (k0_pay5 (View.ld x7 r0_3)) k0_pay6 (View.ld x4 r0_4)⟩,
    ⟨r0_5, k0_pay11 (k0_pay3 (View.ld x2 r0_2)) (k0_pay4 (View.ld x3 r0_2)) k0_pay6 (k0_pay7 (View.ld x0 r0_0) (View.ld x1 r0_1)) (k0_pay8 (View.ld x4 r0_4)) (k0_pay9 (View.ld x0 r0_0) (View.ld x1 r0_1) (View.ld x7 r0_3)) (k0_pay10 (F := F))⟩]

theorem cover0_12 (p0 : Vec F S512x128 .bf16) (p1 : Vec F S512x128 .bf16) (p2 : Vec F S512x128 .bf16) (p3 : Vec F S512x128 .bf16) (y : S512x512.Idx) :
    ∃ pc ∈ ([⟨r0_8, p0⟩, ⟨r0_7, p1⟩, ⟨r0_6, p2⟩, ⟨r0_5, p3⟩] : List (View.Piece (Elt F) S512x512 .bf16)), y ∈ pc.1.set :=
  View.cover_of_tiled [⟨r0_8, p0⟩, ⟨r0_7, p1⟩, ⟨r0_6, p2⟩, ⟨r0_5, p3⟩] S512x128.size (by rfl) y

def out0_13 (x0 : Vec F S512x1024 .f32) (x1 : Vec F S1024x2432 .bf16) (x2 : Vec F S512x128 .f32) (x3 : Vec F S512x128 .f32) (x5 : Vec F S1x128 .f32) (x7 : Vec F S128x128 .bf16) : Vec F S512x256 .bf16 :=
  View.canon [⟨r0_10, k0_pay20 (k0_pay3 (View.ld x2 r0_2)) (k0_pay4 (View.ld x3 r0_2)) (k0_pay5 (View.ld x7 r0_3)) k0_pay6 (k0_pay17 (k0_pay2 (View.ld x0 r0_0) (View.ld x1 r0_1))) (k0_pay18 (View.ld x5 r0_4)) (k0_pay19 (k0_pay2 (View.ld x0 r0_0) (View.ld x1 r0_1)))⟩,
    ⟨r0_9, k0_pay16 (k0_pay2 (View.ld x0 r0_0) (View.ld x1 r0_1)) (k0_pay3 (View.ld x2 r0_2)) (k0_pay4 (View.ld x3 r0_2)) (k0_pay5 (View.ld x7 r0_3)) k0_pay6 (View.ld x5 r0_4)⟩]

theorem cover0_13 (p0 : Vec F S512x128 .bf16) (p1 : Vec F S512x128 .bf16) (y : S512x256.Idx) :
    ∃ pc ∈ ([⟨r0_10, p0⟩, ⟨r0_9, p1⟩] : List (View.Piece (Elt F) S512x256 .bf16)), y ∈ pc.1.set :=
  View.cover_of_tiled [⟨r0_10, p0⟩, ⟨r0_9, p1⟩] S512x128.size (by rfl) y

def out0_14 (x0 : Vec F S512x1024 .f32) (x1 : Vec F S1024x2432 .bf16) (x6 : Vec F S1x512 .f32) : Vec F S512x512 .bf16 :=
  View.canon [⟨r0_12, k0_pay21 (k0_pay2 (View.ld x0 r0_0) (View.ld x1 r0_1)) (View.ld x6 r0_11)⟩]

theorem cover0_14 (p0 : Vec F S512x512 .bf16) (y : S512x512.Idx) :
    ∃ pc ∈ ([⟨r0_12, p0⟩] : List (View.Piece (Elt F) S512x512 .bf16)), y ∈ pc.1.set :=
  View.cover_of_tiled [⟨r0_12, p0⟩] S512x512.size (by rfl) y

def out0_15 (x0 : Vec F S512x1024 .f32) (x1 : Vec F S1024x2432 .bf16) : Vec F S512x128 .bf16 :=
  View.canon [⟨r0_2, k0_pay22 (k0_pay2 (View.ld x0 r0_0) (View.ld x1 r0_1))⟩]

theorem cover0_15 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

def out0_16 (x0 : Vec F S512x1024 .f32) (x1 : Vec F S1024x2432 .bf16) : Vec F S512x128 .bf16 :=
  View.canon [⟨r0_2, k0_pay23 (k0_pay2 (View.ld x0 r0_0) (View.ld x1 r0_1))⟩]

theorem cover0_16 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

def out0_17 (x0 : Vec F S512x1024 .f32) (x1 : Vec F S1024x2432 .bf16) : Vec F S512x256 .bf16 :=
  View.canon [⟨r0_13, k0_pay24 (k0_pay2 (View.ld x0 r0_0) (View.ld x1 r0_1))⟩]

theorem cover0_17 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

def out0_18 (x0 : Vec F S512x1024 .f32) (x1 : Vec F S1024x2432 .bf16) : Vec F S512x256 .bf16 :=
  View.canon [⟨r0_13, k0_pay25 (k0_pay2 (View.ld x0 r0_0) (View.ld x1 r0_1))⟩]

theorem cover0_18 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

def out0_19 (x0 : Vec F S512x1024 .f32) (x1 : Vec F S1024x2432 .bf16) (x8 : Vec F S128x256 .bf16) (x9 : Vec F S1x256 .f32) : Vec F S512x256 .f32 :=
  View.canon [⟨r0_13, k0_pay26 (k0_pay2 (View.ld x0 r0_0) (View.ld x1 r0_1)) (View.ld x8 r0_14) (View.ld x9 r0_15)⟩]

theorem cover0_19 (p0 : Vec F S512x256 .f32) (y : S512x256.Idx) :
    ∃ pc ∈ ([⟨r0_13, p0⟩] : List (View.Piece (Elt F) S512x256 .f32)), y ∈ pc.1.set :=
  View.cover_of_tiled [⟨r0_13, p0⟩] S512x256.size (by rfl) y

def out0_20 (x0 : Vec F S512x1024 .f32) (x1 : Vec F S1024x2432 .bf16) (x10 : Vec F S256x256 .bf16) : Vec F S512x256 .bf16 :=
  View.canon [⟨r0_13, k0_pay28 (k0_pay2 (View.ld x0 r0_0) (View.ld x1 r0_1)) (View.ld x10 r0_16)⟩]

theorem cover0_20 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

def out0_21 (x0 : Vec F S512x1024 .f32) (x1 : Vec F S1024x2432 .bf16) (x11 : Vec F S256x256 .bf16) : Vec F S512x256 .bf16 :=
  View.canon [⟨r0_13, k0_pay1 (k0_pay27 (k0_pay2 (View.ld x0 r0_0) (View.ld x1 r0_1))) (View.ld x11 r0_16)⟩]

theorem cover0_21 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

set_option maxHeartbeats 1000000 in
/-- The body, started on memrefs holding the blocks, ends with each output at its stores over them. -/
theorem sound_kernel (c : Dev nD) (E : Set ℕ) (i : grid0.Coords) (arg1 : Memref sig .tc .vmem S512x1024 .f32) (harg1 : arg1.IsWhole) (arg2 : Memref sig .tc .vmem S1024x2432 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x512 .f32) (harg7 : arg7.IsWhole) (arg8 : Memref sig .tc .vmem S128x128 .bf16) (harg8 : arg8.IsWhole) (arg9 : Memref sig .tc .vmem S128x256 .bf16) (harg9 : arg9.IsWhole) (arg10 : Memref sig .tc .vmem S1x256 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S512x512 .bf16) (harg13 : arg13.IsWhole) (arg14 : Memref sig .tc .vmem S512x256 .bf16) (harg14 : arg14.IsWhole) (arg15 : Memref sig .tc .vmem S512x512 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S512x256 .bf16) (harg19 : arg19.IsWhole) (arg20 : Memref sig .tc .vmem S512x256 .f32) (harg20 : arg20.IsWhole) (arg21 : Memref sig .tc .vmem S512x256 .bf16) (harg21 : arg21.IsWhole) (arg22 : Memref sig .tc .vmem S512x256 .bf16) (harg22 : arg22.IsWhole)
    (x0 : Vec F S512x1024 .f32) (x1 : Vec F S1024x2432 .bf16) (x2 : Vec F S512x128 .f32) (x3 : Vec F S512x128 .f32) (x4 : Vec F S1x128 .f32) (x5 : Vec F S1x128 .f32) (x6 : Vec F S1x512 .f32) (x7 : Vec F S128x128 .bf16) (x8 : Vec F S128x256 .bf16) (x9 : Vec F S1x256 .f32) (x10 : Vec F S256x256 .bf16) (x11 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x7) ∗ owns (c : Thread nD τ) arg14 fullShare (out0_13 x0 x1 x2 x3 x5 x7) ∗ owns (c : Thread nD τ) arg15 fullShare (out0_14 x0 x1 x6) ∗ owns (c : Thread nD τ) arg16 fullShare (out0_15 x0 x1) ∗ owns (c : Thread nD τ) arg17 fullShare (out0_16 x0 x1) ∗ owns (c : Thread nD τ) arg18 fullShare (out0_17 x0 x1) ∗ owns (c : Thread nD τ) arg19 fullShare (out0_18 x0 x1) ∗ owns (c : Thread nD τ) arg20 fullShare (out0_19 x0 x1 x8 x9) ∗ owns (c : Thread nD τ) arg21 fullShare (out0_20 x0 x1 x10) ∗ owns (c : Thread nD τ) arg22 fullShare (out0_21 x0 x1 x11)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _ _ _ _)).trans ?_
    rfl
  isplitl [H13]
  · iexists _; isplitr
    swap; · iexact H13
    ipureintro
    refine (View.read_writes_eq_canon _ _ _ (cover0_13 _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-- What each window's buffer holds after the body at each point; nothing else changes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 7 t)
    | ⟨13, _⟩ => out0_13 (iblk m c 0 t) (iblk m c 1 t) (iblk m c 2 t) (iblk m c 3 t) (iblk m c 5 t) (iblk m c 7 t)
    | ⟨14, _⟩ => out0_14 (iblk m c 0 t) (iblk m c 1 t) (iblk m c 6 t)
    | ⟨15, _⟩ => out0_15 (iblk m c 0 t) (iblk m c 1 t)
    | ⟨16, _⟩ => out0_16 (iblk m c 0 t) (iblk m c 1 t)
    | ⟨17, _⟩ => out0_17 (iblk m c 0 t) (iblk m c 1 t)
    | ⟨18, _⟩ => out0_18 (iblk m c 0 t) (iblk m c 1 t)
    | ⟨19, _⟩ => out0_19 (iblk m c 0 t) (iblk m c 1 t) (iblk m c 8 t) (iblk m c 9 t)
    | ⟨20, _⟩ => out0_20 (iblk m c 0 t) (iblk m c 1 t) (iblk m c 10 t)
    | ⟨21, _⟩ => out0_21 (iblk m c 0 t) (iblk m c 1 t) (iblk m c 11 t)
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 7 t) := by dsimp only [dats]
theorem after0_13 (c : Dev nD) (t : Fin cfg0.N) : (dats m 0 c).after 13 t = out0_13 (iblk m c 0 t) (iblk m c 1 t) (iblk m c 2 t) (iblk m c 3 t) (iblk m c 5 t) (iblk m c 7 t) := by dsimp only [dats]
theorem after0_14 (c : Dev nD) (t : Fin cfg0.N) : (dats m 0 c).after 14 t = out0_14 (iblk m c 0 t) (iblk m c 1 t) (iblk m c 6 t) := by dsimp only [dats]
theorem after0_15 (c : Dev nD) (t : Fin cfg0.N) : (dats m 0 c).after 15 t = out0_15 (iblk m c 0 t) (iblk m c 1 t) := by dsimp only [dats]
theorem after0_16 (c : Dev nD) (t : Fin cfg0.N) : (dats m 0 c).after 16 t = out0_16 (iblk m c 0 t) (iblk m c 1 t) := by dsimp only [dats]
theorem after0_17 (c : Dev nD) (t : Fin cfg0.N) : (dats m 0 c).after 17 t = out0_17 (iblk m c 0 t) (iblk m c 1 t) := by dsimp only [dats]
theorem after0_18 (c : Dev nD) (t : Fin cfg0.N) : (dats m 0 c).after 18 t = out0_18 (iblk m c 0 t) (iblk m c 1 t) := by dsimp only [dats]
theorem after0_19 (c : Dev nD) (t : Fin cfg0.N) : (dats m 0 c).after 19 t = out0_19 (iblk m c 0 t) (iblk m c 1 t) (iblk m c 8 t) (iblk m c 9 t) := by dsimp only [dats]
theorem after0_20 (c : Dev nD) (t : Fin cfg0.N) : (dats m 0 c).after 20 t = out0_20 (iblk m c 0 t) (iblk m c 1 t) (iblk m c 10 t) := by dsimp only [dats]
theorem after0_21 (c : Dev nD) (t : Fin cfg0.N) : (dats m 0 c).after 21 t = out0_21 (iblk m c 0 t) (iblk m c 1 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole call runs; its arrays are the data's and its counters are zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The arguments end as they were and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ProjIdeal.Run

end
-- ==== Proof.ProjectionBody.lean ====
/-
  What the projection kernel's body computes from its blocks, read index by index: the product with the laid-out weights,
  and from a stretch of 128 of its columns two heads, each normed by the mean square over its own half and turned by
  adding the half's partner lanes against the signed sines.
-/
module

public import proofs.«01_k».proof.Proof.Projection
public import proofs.«01_k».proof.Proof.ProjectionLaunch
public import Idealize.ShloMosaic.Lib.KernelVsHost

@[expose] public section

set_option maxRecDepth 16384

noncomputable section

namespace Cert.ProjIdeal.Body

open Cert.ProjIdeal Cert.ProjIdeal.Gen Idealize.ShloMosaic Idealize.ShloMosaic.ValueIdx
open Cert.Projection

/-! ## Products -/

/-- A product of two matrices, once its contraction is over one axis of `K` indices. -/
theorem dot_apply {M K N : Nat} (d : DotDims ⟨2, ![M, K]⟩ ⟨2, ![K, N]⟩ ⟨2, ![M, N]⟩) (hr : d.contr.rank = 1)
    (hs : d.contr.size ⟨0, by omega⟩ = K) (hcl : d.lhsContracting = [(1 : Fin 2)]) (hcr : d.rhsContracting = [(0 : Fin 2)])
    (A : FVec Ideal ⟨2, ![M, K]⟩ .bf16) (B : FVec Ideal ⟨2, ![K, N]⟩ .bf16) (r : Fin M) (c : Fin N)
    (h0 : ∀ k, d.lhsIdx (ix2 r c) k 0 = r) (h1 : ∀ k, d.rhsIdx (ix2 r c) k 1 = c) :
    matmul d none A B (constant ⟨2, ![M, N]⟩ .f32 0x00000000#32) (ix2 r c) = ∑ x : Fin K, A (ix2 r x) * B (ix2 x c) := by
  refine (Ideal.matmul_constant_zero_apply d none A B (ix2 r c)).trans ?_
  refine (Fintype.sum_equiv (contrEquiv1 d K hr hs) _ _ fun k => ?_)
  have hl : d.lhsIdx (ix2 r c) k = ix2 r (contrEquiv1 d K hr hs k) := by
    funext a
    match a with
    | ⟨0, _⟩ => exact h0 k
    | ⟨1, _⟩ => exact Fin.ext (d.lhsIdx_val_of_single (cl := (1 : Fin 2)) hcl (ix2 r c) k)
  have hr' : d.rhsIdx (ix2 r c) k = ix2 (contrEquiv1 d K hr hs k) c := by
    funext a
    match a with
    | ⟨0, _⟩ => exact Fin.ext (d.rhsIdx_val_of_single (cr := (0 : Fin 2)) hcr (ix2 r c) k)
    | ⟨1, _⟩ => exact h1 k
  rw [hl, hr']

/-- The block of tokens times the laid-out weights. -/
theorem product_apply (A : Vec Ideal S512x1024 .f32) (W : Vec Ideal S1024x2432 .bf16) (r : Fin 512) (c : Fin 2432) :
    k0_pay2 (F := Ideal) A W (ix2 r c) = ∑ d : Fin 1024, A (ix2 r d) * W (ix2 d c) := by
  unfold k0_pay2
  simp only [shapeCast_self]
  exact dot_apply dot_S512x1024_S1024x2432_S512x2432_1_0_0_1_n_n rfl rfl rfl rfl _ _ r c (fun _ => rfl) fun _ => rfl

/-! ## Two heads of 64 lanes -/

/-- The heads normed. -/
abbrev normedBlk (X : FVec Ideal S512x128 .f32) (G : FVec Ideal S1x128 .f32) (B : FVec Ideal S128x128 .bf16) :
    FVec Ideal S512x128 .f32 :=
  mulf (mulf X (rsqrt (addf (mulf (matmul dot_S512x128_S128x128_S512x128_1_0_0_1_n_n none
      (truncf .bf16 (mulf X X) bitsLt_bf16_f32) B (constant S512x128 .f32 0x00000000#32))
      (broadcast S512x128 (Scalar.ofBits .f32 0x3C800000#32))) (broadcast S512x128 (Scalar.ofBits .f32 0x358637BD#32)))))
    (broadcastTo S512x128 (shapeCast S1x128 G shapeCasts_S1x128_S1x128) broadcasts_S1x128_S512x128)

/-- The heads turned, from the normed lanes, the cosines, the signed sines and the mask of the lower lanes, and scaled. -/
abbrev turnedBlk (N C S : FVec Ideal S512x128 .f32) (M : IVec S1x128 1) (scale : BitVec 32) : FVec Ideal S512x128 .bf16 :=
  truncf .bf16 (mulf (addf (mulf N C) (mulf (select
      (broadcastTo S512x128 (shapeCast S1x128 M shapeCasts_S1x128_S1x128) broadcasts_S1x128_S512x128)
      (dynamicRotate 1 112#32 none N rotates_S512x128_d1) (dynamicRotate 1 16#32 none N rotates_S512x128_d1)) S))
    (broadcast S512x128 (Scalar.ofBits .f32 scale))) bitsLt_bf16_f32

theorem normedBlk_apply (X : FVec Ideal S512x128 .f32) (G : FVec Ideal S1x128 .f32) (B : FVec Ideal S128x128 .bf16)
    (r : Fin 512) (l : Fin 128) :
    normedBlk X G B (ix2 r l)
      = X (ix2 r l) * Ideal.rsqrt ((∑ k : Fin 128, X (ix2 r k) * X (ix2 r k) * B (ix2 k l)) * inv64 + eps) * G (ix2 0 l) := by
  have e : broadcastTo S512x128 (shapeCast S1x128 G shapeCasts_S1x128_S1x128) broadcasts_S1x128_S512x128 (ix2 r l)
      = G (ix2 0 l) := by
    rw [shapeCast_self]
    refine broadcastTo_apply G _ (ix2 r l) (ix2 0 l) fun a => ?_
    match a with
    | ⟨0, _⟩ => rfl
    | ⟨1, _⟩ => rfl
  have ed : matmul dot_S512x128_S128x128_S512x128_1_0_0_1_n_n none (truncf .bf16 (mulf X X) bitsLt_bf16_f32) B
      (constant S512x128 .f32 0x00000000#32) (ix2 r l) = ∑ k : Fin 128, X (ix2 r k) * X (ix2 r k) * B (ix2 k l) :=
    dot_apply dot_S512x128_S128x128_S512x128_1_0_0_1_n_n rfl rfl rfl rfl _ _ r l (fun _ => rfl) fun _ => rfl
  rw [← e, ← ed]
  rfl

theorem turnedBlk_apply (N C S : FVec Ideal S512x128 .f32) (M : IVec S1x128 1) (scale : BitVec 32) (r : Fin 512) (l : Fin 128) :
    turnedBlk N C S M scale (ix2 r l)
      = (N (ix2 r l) * C (ix2 r l) + Scalar.select (M (ix2 0 l)) (N (ix2 r ⟨(l.val + 16) % 128, by omega⟩))
          (N (ix2 r ⟨(l.val + 112) % 128, by omega⟩)) * S (ix2 r l)) * Ideal.ofBits .f32 scale := by
  have eM : broadcastTo S512x128 (shapeCast S1x128 M shapeCasts_S1x128_S1x128) broadcasts_S1x128_S512x128 (ix2 r l)
      = M (ix2 0 l) := by
    rw [shapeCast_self]
    refine broadcastTo_apply M _ (ix2 r l) (ix2 0 l) fun a => ?_
    match a with
    | ⟨0, _⟩ => rfl
    | ⟨1, _⟩ => rfl
  have e1 : dynamicRotate 1 112#32 none N rotates_S512x128_d1 (ix2 r l) = N (ix2 r ⟨(l.val + 16) % 128, by omega⟩) := by
    refine dynamicRotate_apply 1 112#32 N _ (ix2 r l) (ix2 r ⟨(l.val + 16) % 128, by omega⟩) fun a => ?_
    match a with
    | ⟨0, _⟩ => rfl
    | ⟨1, _⟩ => show (l.val + 16) % 128 = (l.val + 128 - 112) % 128; omega
  have e2 : dynamicRotate 1 16#32 none N rotates_S512x128_d1 (ix2 r l) = N (ix2 r ⟨(l.val + 112) % 128, by omega⟩) := by
    refine dynamicRotate_apply 1 16#32 N _ (ix2 r l) (ix2 r ⟨(l.val + 112) % 128, by omega⟩) fun a => ?_
    match a with
    | ⟨0, _⟩ => rfl
    | ⟨1, _⟩ => show (l.val + 112) % 128 = (l.val + 128 - 16) % 128; omega
  rw [← eM, ← e1, ← e2]
  rfl

/-- The mask holds the lower 16 of every 32 lanes. -/
theorem mask_apply (l : Fin 128) : k0_pay6 (ix2 0 l) = if l.val % 32 < 16 then 1#1 else 0#1 := by
  revert l
  decide +kernel

section Heads

variable (X C S : FVec Ideal S512x128 .f32) (G : FVec Ideal S1x128 .f32) (B : FVec Ideal S128x128 .bf16) (r : Fin 512)
variable (b : Fin 2) (y g : Fin 64 → EReal) (cs sn : Fin 2 → Fin 16 → EReal)

/-- A lane of head `b`, normed over the head alone. -/
theorem normed_lane (hX : ∀ x : Fin 64, X (ix2 r ⟨b.val * 64 + x.val, by omega⟩) = y x)
    (hB : ∀ k l : Fin 128, B (ix2 k l) = if k.val / 64 = l.val / 64 then 1 else 0)
    (hG : ∀ l : Fin 128, G (ix2 0 l) = g ⟨l.val % 64, by omega⟩) (l : Fin 128) (hl : l.val / 64 = b.val) :
    normedBlk X G B (ix2 r l) = normed y g ⟨l.val % 64, by omega⟩ := by
  have eX : X (ix2 r l) = y ⟨l.val % 64, by omega⟩ := by
    rw [← hX]
    exact congrArg (fun k => X (ix2 r k)) (Fin.ext (by show l.val = b.val * 64 + l.val % 64; omega))
  rw [normedBlk_apply, hG, eX]
  unfold normed
  congr 5
  rw [sum_window _ (b.val * 64) (n := 64) (by omega) fun k hk => by
    rw [hB, if_neg (by omega), mul_zero]]
  refine Finset.sum_congr rfl fun x _ => ?_
  rw [hX, hB, if_pos (by show (b.val * 64 + x.val) / 64 = l.val / 64; omega), mul_one]

/-- A lane of head `b`, turned and scaled. -/
theorem head_lane (hX : ∀ x : Fin 64, X (ix2 r ⟨b.val * 64 + x.val, by omega⟩) = y x)
    (hB : ∀ k l : Fin 128, B (ix2 k l) = if k.val / 64 = l.val / 64 then 1 else 0)
    (hG : ∀ l : Fin 128, G (ix2 0 l) = g ⟨l.val % 64, by omega⟩)
    (hC : ∀ l : Fin 128, C (ix2 r l) = cs ⟨l.val % 64 / 32, by omega⟩ ⟨l.val % 16, by omega⟩)
    (hS : ∀ l : Fin 128, S (ix2 r l) = if l.val % 32 < 16 then -sn ⟨l.val % 64 / 32, by omega⟩ ⟨l.val % 16, by omega⟩
      else sn ⟨l.val % 64 / 32, by omega⟩ ⟨l.val % 16, by omega⟩)
    (scale : BitVec 32) (l : Fin 128) (hl : l.val / 64 = b.val) :
    turnedBlk (normedBlk X G B) C S k0_pay6 scale (ix2 r l)
      = turned (normed y g) cs sn ⟨l.val % 64, by omega⟩ * Ideal.ofBits .f32 scale := by
  rw [turnedBlk_apply, mask_apply, hC, hS]
  congr 1
  unfold turned
  rw [normed_lane X G B r b y g hX hB hG l hl]
  have e16 : (⟨l.val % 64 % 16, by omega⟩ : Fin 16) = ⟨l.val % 16, by omega⟩ := Fin.ext (by show l.val % 64 % 16 = l.val % 16; omega)
  by_cases h : l.val % 32 < 16
  · rw [if_pos h, if_pos h, if_pos (by show l.val % 64 % 32 < 16; omega)]
    show _ + normedBlk X G B _ * -_ = _
    rw [normed_lane X G B r b y g hX hB hG _ (by show (l.val + 16) % 128 / 64 = b.val; omega), mul_neg, ← sub_eq_add_neg]
    simp only [e16]
    congr 3
    exact Fin.ext (by show (l.val + 16) % 128 % 64 = (l.val % 64 + 16) % 64; omega)
  · rw [if_neg h, if_neg h, if_neg (by show ¬ l.val % 64 % 32 < 16; omega)]
    show _ + normedBlk X G B _ * _ = _
    rw [normed_lane X G B r b y g hX hB hG _ (by show (l.val + 112) % 128 / 64 = b.val; omega), add_comm]
    simp only [e16]
    congr 3
    exact Fin.ext (by show (l.val + 112) % 128 % 64 = (l.val % 64 + 48) % 64; omega)

end Heads

/-! ## The stored blocks as these -/

section Stores

variable (A : Vec Ideal S512x1024 .f32) (W : Vec Ideal S1024x2432 .bf16) (P : FVec Ideal S512x2432 .f32)
  (C S : FVec Ideal S512x128 .f32) (G : Vec Ideal S1x128 .f32) (B : Vec Ideal S128x128 .bf16)

theorem store_q0 : k0_pay11 C S k0_pay6 (k0_pay7 A W) (k0_pay8 G) (k0_pay9 A W B) k0_pay10
    = turnedBlk (normedBlk (extractStridedSlice S512x128 ![0, 0] (k0_pay2 A W) slices_S512x2432_o0_0_S512x128) G (k0_pay5 B))
        C S k0_pay6 0x3E000000#32 := rfl

theorem store_q1 (D : FVec Ideal S128x128 .bf16) : k0_pay12 P C S D k0_pay6 G
    = turnedBlk (normedBlk (extractStridedSlice S512x128 ![0, 128] P slices_S512x2432_o0_128_S512x128) G D)
        C S k0_pay6 0x3E000000#32 := rfl

theorem store_q2 (D : FVec Ideal S128x128 .bf16) : k0_pay13 P C S D k0_pay6 G
    = turnedBlk (normedBlk (extractStridedSlice S512x128 ![0, 256] P slices_S512x2432_o0_256_S512x128) G D)
        C S k0_pay6 0x3E000000#32 := rfl

theorem store_q3 (D : FVec Ideal S128x128 .bf16) : k0_pay15 C S k0_pay6 (k0_pay14 P D G) 112#32
    = turnedBlk (normedBlk (extractStridedSlice S512x128 ![0, 384] P slices_S512x2432_o0_384_S512x128) G D)
        C S k0_pay6 0x3E000000#32 := rfl

theorem store_k0 (D : FVec Ideal S128x128 .bf16) : k0_pay16 P C S D k0_pay6 G
    = turnedBlk (normedBlk (extractStridedSlice S512x128 ![0, 512] P slices_S512x2432_o0_512_S512x128) G D)
        C S k0_pay6 0x3F800000#32 := rfl

theorem store_k1 (D : FVec Ideal S128x128 .bf16) : k0_pay20 C S D k0_pay6 (k0_pay17 P) (k0_pay18 G) (k0_pay19 P)
    = turnedBlk (normedBlk (extractStridedSlice S512x128 ![0, 640] P slices_S512x2432_o0_640_S512x128) G D)
        C S k0_pay6 0x3F800000#32 := rfl

end Stores

/-! ## The other stores at an index -/

section Others

variable (P : FVec Ideal S512x2432 .f32) (r : Fin 512)

/-- A stretch of columns. -/
theorem columns_apply {n : Nat} (off : Nat) (h : S512x2432.Slices ![0, off] ⟨2, ![512, n]⟩) (j : Fin n) (c : Fin 2432)
    (hc : c.val = off + j.val) : extractStridedSlice ⟨2, ![512, n]⟩ ![0, off] P h (ix2 r j) = P (ix2 r c) := by
  refine extractStridedSlice_apply _ _ _ (ix2 r j) (ix2 r c) fun a => ?_
  match a with
  | ⟨0, _⟩ => exact (Nat.zero_add _).symm
  | ⟨1, _⟩ => exact hc

theorem values_apply (V : Vec Ideal S1x512 .f32) (j : Fin 512) :
    k0_pay21 P V (ix2 r j) = P (ix2 r ⟨768 + j.val, by omega⟩) + V (ix2 0 j) := by
  have e : broadcastTo S512x512 (shapeCast S1x512 V shapeCasts_S1x512_S1x512) broadcasts_S1x512_S512x512 (ix2 r j)
      = V (ix2 0 j) := by
    rw [shapeCast_self]
    refine broadcastTo_apply V _ (ix2 r j) (ix2 0 j) fun a => ?_
    match a with
    | ⟨0, _⟩ => rfl
    | ⟨1, _⟩ => rfl
  rw [← e, ← columns_apply P r 768 slices_S512x2432_o0_768_S512x512 j ⟨768 + j.val, by omega⟩ rfl]
  rfl

theorem gateQ_apply (j : Fin 128) : k0_pay22 P (ix2 r j) = P (ix2 r ⟨1280 + j.val, by omega⟩) * gqScale := by
  rw [← columns_apply P r 1280 slices_S512x2432_o0_1280_S512x128 j ⟨1280 + j.val, by omega⟩ rfl]
  rfl

theorem gateK_apply (j : Fin 128) : k0_pay23 P (ix2 r j) = P (ix2 r ⟨1408 + j.val, by omega⟩) := by
  rw [← columns_apply P r 1408 slices_S512x2432_o0_1408_S512x128 j ⟨1408 + j.val, by omega⟩ rfl]
  rfl

theorem gateV_apply (j : Fin 256) : k0_pay24 P (ix2 r j) = P (ix2 r ⟨1536 + j.val, by omega⟩) := by
  rw [← columns_apply P r 1536 slices_S512x2432_o0_1536_S512x256 j ⟨1536 + j.val, by omega⟩ rfl]
  rfl

theorem gateR_apply (j : Fin 256) : k0_pay25 P (ix2 r j) = P (ix2 r ⟨1792 + j.val, by omega⟩) := by
  rw [← columns_apply P r 1792 slices_S512x2432_o0_1792_S512x256 j ⟨1792 + j.val, by omega⟩ rfl]
  rfl

theorem decay_apply (D : Vec Ideal S128x256 .bf16) (E : Vec Ideal S1x256 .f32) (j : Fin 256) :
    k0_pay26 P D E (ix2 r j)
      = logSig ((∑ x : Fin 128, P (ix2 r ⟨2048 + x.val, by omega⟩) * D (ix2 x j)) + E (ix2 0 j)) * inv16 := by
  have e : broadcastTo S512x256 (shapeCast S1x256 E shapeCasts_S1x256_S1x256) broadcasts_S1x256_S512x256 (ix2 r j)
      = E (ix2 0 j) := by
    rw [shapeCast_self]
    refine broadcastTo_apply E _ (ix2 r j) (ix2 0 j) fun a => ?_
    match a with
    | ⟨0, _⟩ => rfl
    | ⟨1, _⟩ => rfl
  have ed : matmul dot_S512x128_S128x256_S512x256_1_0_0_1_n_n none
      (truncf .bf16 (extractStridedSlice S512x128 ![0, 2048] P slices_S512x2432_o0_2048_S512x128) bitsLt_bf16_f32)
      (shapeCast S128x256 D shapeCasts_S128x256_S128x256 : FVec Ideal S128x256 .bf16) (constant S512x256 .f32 0x00000000#32) (ix2 r j)
      = ∑ x : Fin 128, P (ix2 r ⟨2048 + x.val, by omega⟩) * D (ix2 x j) := by
    rw [shapeCast_self]
    refine (dot_apply dot_S512x128_S128x256_S512x256_1_0_0_1_n_n rfl rfl rfl rfl _ _ r j (fun _ => rfl) fun _ => rfl).trans ?_
    refine Finset.sum_congr rfl fun x _ => ?_
    rw [← columns_apply P r 2048 slices_S512x2432_o0_2048_S512x128 x ⟨2048 + x.val, by omega⟩ rfl]
    rfl
  rw [← e, ← ed]
  unfold logSig
  rw [← Ideal.ofBits_zero_f32, ← Ideal.ofBits_one_f32]
  rfl

/-- The features' columns times a block of the mixing table. -/
theorem mixed_apply (T : Vec Ideal S256x256 .bf16) (j : Fin 256) :
    matmul dot_S512x256_S256x256_S512x256_1_0_0_1_n_n none (k0_pay27 P)
        (shapeCast S256x256 T shapeCasts_S256x256_S256x256 : FVec Ideal S256x256 .bf16) (constant S512x256 .f32 0x00000000#32) (ix2 r j)
      = ∑ x : Fin 256, P (ix2 r ⟨2176 + x.val, by omega⟩) * T (ix2 x j) := by
  rw [shapeCast_self]
  refine (dot_apply dot_S512x256_S256x256_S512x256_1_0_0_1_n_n rfl rfl rfl rfl _ _ r j (fun _ => rfl) fun _ => rfl).trans ?_
  refine Finset.sum_congr rfl fun x _ => ?_
  rw [← columns_apply P r 2176 slices_S512x2432_o0_2176_S512x256 x ⟨2176 + x.val, by omega⟩ rfl]
  rfl

theorem mixedC_apply (T : Vec Ideal S256x256 .bf16) (j : Fin 256) :
    k0_pay28 P T (ix2 r j) = ∑ x : Fin 256, P (ix2 r ⟨2176 + x.val, by omega⟩) * T (ix2 x j) := mixed_apply P r T j

theorem mixedS_apply (T : Vec Ideal S256x256 .bf16) (j : Fin 256) :
    k0_pay1 (k0_pay27 P) T (ix2 r j) = ∑ x : Fin 256, P (ix2 r ⟨2176 + x.val, by omega⟩) * T (ix2 x j) := mixed_apply P r T j

end Others

end Cert.ProjIdeal.Body

end
-- ==== Proof.ProjectionPieces.lean ====
/-
  Concatenations and column stretches of matrices at an index.
-/
module

public import Idealize.ShloMosaic.Lib.KernelVsHost
public import Idealize.ShloMosaic.Lib.Pipeline.Value

@[expose] public section

noncomputable section

namespace Cert.Projection

open Idealize.ShloMosaic Idealize.ShloMosaic.ValueIdx

/-- A concatenation along the columns read in its piece `n`, which begins at column `pre`. -/
theorem piece {R N w : Nat} (xs : List ((s : Shape) × (s.Idx → EReal)))
    (h : Shape.Concatenates (xs.map (·.1)) ⟨2, ![R, N]⟩ 1) (n : Nat) (hn : n < xs.length)
    (y : (⟨2, ![R, w]⟩ : Shape).Idx → EReal) (hy : xs[n] = ⟨⟨2, ![R, w]⟩, y⟩) (pre : Nat)
    (hpre : (((xs.take n).map (·.1)).map fun s =>
      if h : s.rank = (⟨2, ![R, N]⟩ : Shape).rank then s.size ((1 : Fin 2).cast h.symm) else 0).sum = pre)
    (r : Fin R) (x : Fin w) (l : Fin N) (hl : pre + x.val = l.val) :
    concatenate ⟨2, ![R, N]⟩ 1 xs h (ix2 r l) = y (ix2 r x) := by
  refine concatenate_apply_piece (t := ⟨2, ![R, N]⟩) 1 xs h (ix2 r l) n hn ⟨2, ![R, w]⟩ y hy rfl pre hpre (ix2 r x) (fun a ha => ?_) hl
  match a with
  | ⟨0, _⟩ => rfl
  | ⟨1, _⟩ => exact absurd rfl ha

/-- The same for a longer list, whose pieces' widths are given. -/
theorem pieceOf {R N w : Nat} (xs : List ((s : Shape) × (s.Idx → EReal))) (ws : List Nat)
    (hs : xs.map (·.1) = ws.map fun n => (⟨2, ![R, n]⟩ : Shape))
    (h : Shape.Concatenates (xs.map (·.1)) ⟨2, ![R, N]⟩ 1) (n : Nat) (hn : n < xs.length)
    (y : (⟨2, ![R, w]⟩ : Shape).Idx → EReal) (hy : xs[n] = ⟨⟨2, ![R, w]⟩, y⟩) (pre : Nat) (hpre : (ws.take n).sum = pre)
    (r : Fin R) (x : Fin w) (l : Fin N) (hl : pre + x.val = l.val) :
    concatenate ⟨2, ![R, N]⟩ 1 xs h (ix2 r l) = y (ix2 r x) := by
  refine piece xs h n hn y hy pre ?_ r x l hl
  rw [List.map_take, hs, ← List.map_take, List.map_map]
  refine Eq.trans (congrArg List.sum ?_) hpre
  exact (List.map_congr_left fun a _ => rfl).trans (List.map_id _)

/-- A concatenation along the rows read in its piece `n`, which begins at row `pre`. -/
theorem pieceRow {N C w : Nat} (xs : List ((s : Shape) × (s.Idx → EReal)))
    (h : Shape.Concatenates (xs.map (·.1)) ⟨2, ![N, C]⟩ 0) (n : Nat) (hn : n < xs.length)
    (y : (⟨2, ![w, C]⟩ : Shape).Idx → EReal) (hy : xs[n] = ⟨⟨2, ![w, C]⟩, y⟩) (pre : Nat)
    (hpre : (((xs.take n).map (·.1)).map fun s =>
      if h : s.rank = (⟨2, ![N, C]⟩ : Shape).rank then s.size ((0 : Fin 2).cast h.symm) else 0).sum = pre)
    (x : Fin w) (l : Fin C) (r : Fin N) (hr : pre + x.val = r.val) :
    concatenate ⟨2, ![N, C]⟩ 0 xs h (ix2 r l) = y (ix2 x l) := by
  refine concatenate_apply_piece (t := ⟨2, ![N, C]⟩) 0 xs h (ix2 r l) n hn ⟨2, ![w, C]⟩ y hy rfl pre hpre (ix2 x l) (fun a ha => ?_) hr
  match a with
  | ⟨0, _⟩ => exact absurd rfl ha
  | ⟨1, _⟩ => rfl

/-- A stretch of a matrix's columns. -/
theorem cut_apply {R N n : Nat} (x : (⟨2, ![R, N]⟩ : Shape).Idx → EReal) (off : Nat)
    (h : (⟨2, ![R, N]⟩ : Shape).Slices ![0, off] ⟨2, ![R, n]⟩) (r : Fin R) (j : Fin n) (c : Fin N) (hc : c.val = off + j.val) :
    extractStridedSlice ⟨2, ![R, n]⟩ ![0, off] x h (ix2 r j) = x (ix2 r c) := by
  refine extractStridedSlice_apply _ _ _ (ix2 r j) (ix2 r c) fun a => ?_
  match a with
  | ⟨0, _⟩ => exact (Nat.zero_add _).symm
  | ⟨1, _⟩ => exact hc

/-- A number in a stretch of eight is one of the eight. -/
theorem eight {q : Nat} (a : Nat) (h : a ≤ q) (h' : q < a + 8) :
    q = a ∨ q = a + 1 ∨ q = a + 2 ∨ q = a + 3 ∨ q = a + 4 ∨ q = a + 5 ∨ q = a + 6 ∨ q = a + 7 := by
  obtain ⟨k, rfl⟩ := Nat.exists_eq_add_of_le h
  have hk : k < 8 := by omega
  match k, hk with
  | 0, _ => exact Or.inl rfl
  | 1, _ => exact Or.inr (Or.inl rfl)
  | 2, _ => exact Or.inr (Or.inr (Or.inl rfl))
  | 3, _ => exact Or.inr (Or.inr (Or.inr (Or.inl rfl)))
  | 4, _ => exact Or.inr (Or.inr (Or.inr (Or.inr (Or.inl rfl))))
  | 5, _ => exact Or.inr (Or.inr (Or.inr (Or.inr (Or.inr (Or.inl rfl)))))
  | 6, _ => exact Or.inr (Or.inr (Or.inr (Or.inr (Or.inr (Or.inr (Or.inl rfl))))))
  | 7, _ => exact Or.inr (Or.inr (Or.inr (Or.inr (Or.inr (Or.inr (Or.inr rfl))))))

end Cert.Projection

end
-- ==== Proof.ProjectionHost.lean ====
/-
  The arrays the host lays out for the projection kernel, read index by index: the weights' columns in the order the kernel
  stores its results, the angles' cosines and signed sines once per lane, the gains twice, the ones beside the value heads,
  and the tables of the gates and of the channels as block diagonals.
-/
module

public import proofs.«01_k».proof.Proof.Projection
public import proofs.«01_k».proof.Proof.ProjectionPieces
public import proofs.«01_k».proof.Proof.ProjectionLaunch
public import Idealize.ShloMosaic.Lib.StableHlo.RunRead

@[expose] public section

set_option maxRecDepth 16384

noncomputable section

namespace Cert.ProjIdeal.Host

open Cert.ProjIdeal Cert.ProjIdeal.Gen Cert.ProjIdeal.Run
open Idealize.ShloMosaic Idealize.ShloMosaic.TcCoe Idealize.ShloMosaic.ValueIdx
open Cert.Projection

/-! ## The angles -/

section Angles

variable (t : RopeShape.Idx → EReal)

abbrev angLo : FVec Ideal S4096x16 .f32 :=
  shapeCast S4096x16 (extractStridedSlice S4096x1x16 ![0, 0, 0] t slices_S4096x2x16_S4096x1x16_0_0_0) shapeCasts_S4096x1x16_S4096x16
abbrev angHi : FVec Ideal S4096x16 .f32 :=
  shapeCast S4096x16 (extractStridedSlice S4096x1x16 ![0, 1, 0] t slices_S4096x2x16_S4096x1x16_0_1_0) shapeCasts_S4096x1x16_S4096x16

theorem angLo_apply (s : Fin 4096) (f : Fin 16) : angLo t (ix2 s f) = t (ix3 s 0 f) := by
  refine (shapeCast_apply _ _ (ix2 s f) (ix3 s (0 : Fin 1) f) ?_).trans ?_
  · rw [Shape.rowMajor_val_two, Shape.rowMajor_val_three]
    show (s.val * 1 + 0) * 16 + f.val = s.val * 16 + f.val
    omega
  · refine extractStridedSlice_apply _ _ _ _ (ix3 s 0 f) fun a => ?_
    match a with
    | ⟨0, _⟩ => exact (Nat.zero_add _).symm
    | ⟨1, _⟩ => rfl
    | ⟨2, _⟩ => exact (Nat.zero_add _).symm

theorem angHi_apply (s : Fin 4096) (f : Fin 16) : angHi t (ix2 s f) = t (ix3 s 1 f) := by
  refine (shapeCast_apply _ _ (ix2 s f) (ix3 s (0 : Fin 1) f) ?_).trans ?_
  · rw [Shape.rowMajor_val_two, Shape.rowMajor_val_three]
    show (s.val * 1 + 0) * 16 + f.val = s.val * 16 + f.val
    omega
  · refine extractStridedSlice_apply _ _ _ _ (ix3 s 1 f) fun a => ?_
    match a with
    | ⟨0, _⟩ => exact (Nat.zero_add _).symm
    | ⟨1, _⟩ => rfl
    | ⟨2, _⟩ => exact (Nat.zero_add _).symm

abbrev cosPieces : List ((s : Shape) × (s.Idx → EReal)) :=
  [⟨S4096x16, angLo t⟩, ⟨S4096x16, angLo t⟩, ⟨S4096x16, angHi t⟩, ⟨S4096x16, angHi t⟩,
   ⟨S4096x16, angLo t⟩, ⟨S4096x16, angLo t⟩, ⟨S4096x16, angHi t⟩, ⟨S4096x16, angHi t⟩]

abbrev cosines : S4096x128.Idx → EReal := concatenate S4096x128 1 (cosPieces t)
  concatenates_S4096x16_S4096x16_S4096x16_S4096x16_S4096x16_S4096x16_S4096x16_S4096x16_S4096x128_d1

abbrev negLo : FVec Ideal S4096x16 .f32 := Host.negf (angLo t)
abbrev negHi : FVec Ideal S4096x16 .f32 := Host.negf (angHi t)

abbrev sinPieces : List ((s : Shape) × (s.Idx → EReal)) :=
  [⟨S4096x16, negLo t⟩, ⟨S4096x16, angLo t⟩, ⟨S4096x16, negHi t⟩, ⟨S4096x16, angHi t⟩,
   ⟨S4096x16, negLo t⟩, ⟨S4096x16, angLo t⟩, ⟨S4096x16, negHi t⟩, ⟨S4096x16, angHi t⟩]

abbrev sines : S4096x128.Idx → EReal := concatenate S4096x128 1 (sinPieces t)
  concatenates_S4096x16_S4096x16_S4096x16_S4096x16_S4096x16_S4096x16_S4096x16_S4096x16_S4096x128_d1

theorem cosines_apply (s : Fin 4096) (l : Fin 128) :
    cosines t (ix2 s l) = t (ix3 s ⟨l.val % 64 / 32, by omega⟩ ⟨l.val % 16, by omega⟩) := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rcases hq with h | h | h | h | h | h | h | h
  · refine (piece (cosPieces t) _ 0 (by show 0 < 8; decide) (angLo t) rfl 0 rfl s ⟨l.val % 16, by omega⟩ l (by show 0 + l.val % 16 = l.val; omega)).trans ?_
    rw [angLo_apply]
    exact congrArg (fun a => t (ix3 s a ⟨l.val % 16, by omega⟩)) (Fin.ext (by show 0 = l.val % 64 / 32; omega))
  · refine (piece (cosPieces t) _ 1 (by show 1 < 8; decide) (angLo t) rfl 16 rfl s ⟨l.val % 16, by omega⟩ l (by show 16 + l.val % 16 = l.val; omega)).trans ?_
    rw [angLo_apply]
    exact congrArg (fun a => t (ix3 s a ⟨l.val % 16, by omega⟩)) (Fin.ext (by show 0 = l.val % 64 / 32; omega))
  · refine (piece (cosPieces t) _ 2 (by show 2 < 8; decide) (angHi t) rfl 32 rfl s ⟨l.val % 16, by omega⟩ l (by show 32 + l.val % 16 = l.val; omega)).trans ?_
    rw [angHi_apply]
    exact congrArg (fun a => t (ix3 s a ⟨l.val % 16, by omega⟩)) (Fin.ext (by show 1 = l.val % 64 / 32; omega))
  · refine (piece (cosPieces t) _ 3 (by show 3 < 8; decide) (angHi t) rfl 48 rfl s ⟨l.val % 16, by omega⟩ l (by show 48 + l.val % 16 = l.val; omega)).trans ?_
    rw [angHi_apply]
    exact congrArg (fun a => t (ix3 s a ⟨l.val % 16, by omega⟩)) (Fin.ext (by show 1 = l.val % 64 / 32; omega))
  · refine (piece (cosPieces t) _ 4 (by show 4 < 8; decide) (angLo t) rfl 64 rfl s ⟨l.val % 16, by omega⟩ l (by show 64 + l.val % 16 = l.val; omega)).trans ?_
    rw [angLo_apply]
    exact congrArg (fun a => t (ix3 s a ⟨l.val % 16, by omega⟩)) (Fin.ext (by show 0 = l.val % 64 / 32; omega))
  · refine (piece (cosPieces t) _ 5 (by show 5 < 8; decide) (angLo t) rfl 80 rfl s ⟨l.val % 16, by omega⟩ l (by show 80 + l.val % 16 = l.val; omega)).trans ?_
    rw [angLo_apply]
    exact congrArg (fun a => t (ix3 s a ⟨l.val % 16, by omega⟩)) (Fin.ext (by show 0 = l.val % 64 / 32; omega))
  · refine (piece (cosPieces t) _ 6 (by show 6 < 8; decide) (angHi t) rfl 96 rfl s ⟨l.val % 16, by omega⟩ l (by show 96 + l.val % 16 = l.val; omega)).trans ?_
    rw [angHi_apply]
    exact congrArg (fun a => t (ix3 s a ⟨l.val % 16, by omega⟩)) (Fin.ext (by show 1 = l.val % 64 / 32; omega))
  · refine (piece (cosPieces t) _ 7 (by show 7 < 8; decide) (angHi t) rfl 112 rfl s ⟨l.val % 16, by omega⟩ l (by show 112 + l.val % 16 = l.val; omega)).trans ?_
    rw [angHi_apply]
    exact congrArg (fun a => t (ix3 s a ⟨l.val % 16, by omega⟩)) (Fin.ext (by show 1 = l.val % 64 / 32; omega))

theorem sines_apply (s : Fin 4096) (l : Fin 128) :
    sines t (ix2 s l) = if l.val % 32 < 16 then -t (ix3 s ⟨l.val % 64 / 32, by omega⟩ ⟨l.val % 16, by omega⟩)
      else t (ix3 s ⟨l.val % 64 / 32, by omega⟩ ⟨l.val % 16, by omega⟩) := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rcases hq with h | h | h | h | h | h | h | h
  · refine (piece (sinPieces t) _ 0 (by show 0 < 8; decide) (negLo t) rfl 0 rfl s ⟨l.val % 16, by omega⟩ l (by show 0 + l.val % 16 = l.val; omega)).trans ?_
    rw [if_pos (by omega)]
    refine congrArg (fun x : EReal => -x) ?_
    rw [angLo_apply]
    exact congrArg (fun a => t (ix3 s a ⟨l.val % 16, by omega⟩)) (Fin.ext (by show 0 = l.val % 64 / 32; omega))
  · refine (piece (sinPieces t) _ 1 (by show 1 < 8; decide) (angLo t) rfl 16 rfl s ⟨l.val % 16, by omega⟩ l (by show 16 + l.val % 16 = l.val; omega)).trans ?_
    rw [if_neg (by omega)]
    rw [angLo_apply]
    exact congrArg (fun a => t (ix3 s a ⟨l.val % 16, by omega⟩)) (Fin.ext (by show 0 = l.val % 64 / 32; omega))
  · refine (piece (sinPieces t) _ 2 (by show 2 < 8; decide) (negHi t) rfl 32 rfl s ⟨l.val % 16, by omega⟩ l (by show 32 + l.val % 16 = l.val; omega)).trans ?_
    rw [if_pos (by omega)]
    refine congrArg (fun x : EReal => -x) ?_
    rw [angHi_apply]
    exact congrArg (fun a => t (ix3 s a ⟨l.val % 16, by omega⟩)) (Fin.ext (by show 1 = l.val % 64 / 32; omega))
  · refine (piece (sinPieces t) _ 3 (by show 3 < 8; decide) (angHi t) rfl 48 rfl s ⟨l.val % 16, by omega⟩ l (by show 48 + l.val % 16 = l.val; omega)).trans ?_
    rw [if_neg (by omega)]
    rw [angHi_apply]
    exact congrArg (fun a => t (ix3 s a ⟨l.val % 16, by omega⟩)) (Fin.ext (by show 1 = l.val % 64 / 32; omega))
  · refine (piece (sinPieces t) _ 4 (by show 4 < 8; decide) (negLo t) rfl 64 rfl s ⟨l.val % 16, by omega⟩ l (by show 64 + l.val % 16 = l.val; omega)).trans ?_
    rw [if_pos (by omega)]
    refine congrArg (fun x : EReal => -x) ?_
    rw [angLo_apply]
    exact congrArg (fun a => t (ix3 s a ⟨l.val % 16, by omega⟩)) (Fin.ext (by show 0 = l.val % 64 / 32; omega))
  · refine (piece (sinPieces t) _ 5 (by show 5 < 8; decide) (angLo t) rfl 80 rfl s ⟨l.val % 16, by omega⟩ l (by show 80 + l.val % 16 = l.val; omega)).trans ?_
    rw [if_neg (by omega)]
    rw [angLo_apply]
    exact congrArg (fun a => t (ix3 s a ⟨l.val % 16, by omega⟩)) (Fin.ext (by show 0 = l.val % 64 / 32; omega))
  · refine (piece (sinPieces t) _ 6 (by show 6 < 8; decide) (negHi t) rfl 96 rfl s ⟨l.val % 16, by omega⟩ l (by show 96 + l.val % 16 = l.val; omega)).trans ?_
    rw [if_pos (by omega)]
    refine congrArg (fun x : EReal => -x) ?_
    rw [angHi_apply]
    exact congrArg (fun a => t (ix3 s a ⟨l.val % 16, by omega⟩)) (Fin.ext (by show 1 = l.val % 64 / 32; omega))
  · refine (piece (sinPieces t) _ 7 (by show 7 < 8; decide) (angHi t) rfl 112 rfl s ⟨l.val % 16, by omega⟩ l (by show 112 + l.val % 16 = l.val; omega)).trans ?_
    rw [if_neg (by omega)]
    rw [angHi_apply]
    exact congrArg (fun a => t (ix3 s a ⟨l.val % 16, by omega⟩)) (Fin.ext (by show 1 = l.val % 64 / 32; omega))

end Angles

/-! ## The gains, and the ones beside the values -/

abbrev gainPieces (g : GainShape.Idx → EReal) : List ((s : Shape) × (s.Idx → EReal)) := [⟨S1x64, g⟩, ⟨S1x64, g⟩]

abbrev gains (g : GainShape.Idx → EReal) : S1x128.Idx → EReal := concatenate S1x128 1 (gainPieces g) concatenates_S1x64_S1x64_S1x128_d1

theorem gains_apply (g : GainShape.Idx → EReal) (l : Fin 128) : gains g (ix2 0 l) = g (ix2 0 ⟨l.val % 64, by omega⟩) := by
  by_cases h : l.val < 64
  · exact piece (gainPieces g) _ 0 (by show 0 < 2; decide) g rfl 0 rfl 0 ⟨l.val % 64, by omega⟩ l (by show 0 + l.val % 64 = l.val; omega)
  · exact piece (gainPieces g) _ 1 (by show 1 < 2; decide) g rfl 64 rfl 0 ⟨l.val % 64, by omega⟩ l (by show 64 + l.val % 64 = l.val; omega)

abbrev one1 : FVec Ideal S1x1 .f32 := broadcastInDim S1x1 ![] bcast_S_S1x1 (constant (F := Ideal) S_ .f32 0x3F800000#32)
abbrev zero64 : FVec Ideal S1x64 .f32 := broadcastInDim S1x64 ![] bcast_S_S1x64 (constant (F := Ideal) S_ .f32 0x00000000#32)
abbrev zero63 : FVec Ideal S1x63 .f32 := broadcastInDim S1x63 ![] bcast_S_S1x63 (constant (F := Ideal) S_ .f32 0x00000000#32)

theorem one1_apply (i : S1x1.Idx) : one1 i = 1 := Ideal.ofBits_one_f32
theorem zero64_apply (i : S1x64.Idx) : zero64 i = 0 := Ideal.ofBits_zero_f32
theorem zero63_apply (i : S1x63.Idx) : zero63 i = 0 := Ideal.ofBits_zero_f32

abbrev onesPieces : List ((s : Shape) × (s.Idx → EReal)) :=
  [⟨S1x64, zero64⟩, ⟨S1x1, one1⟩, ⟨S1x63, zero63⟩, ⟨S1x1, one1⟩, ⟨S1x63, zero63⟩, ⟨S1x64, zero64⟩,
   ⟨S1x64, zero64⟩, ⟨S1x1, one1⟩, ⟨S1x63, zero63⟩, ⟨S1x1, one1⟩, ⟨S1x63, zero63⟩, ⟨S1x64, zero64⟩]

abbrev onesRow : S1x512.Idx → EReal := concatenate S1x512 1 onesPieces
  concatenates_S1x64_S1x1_S1x63_S1x1_S1x63_S1x64_S1x64_S1x1_S1x63_S1x1_S1x63_S1x64_S1x512_d1

/-- A one at the first lane of every half block that holds no value lanes. -/
theorem onesRow_apply (c : Fin 512) :
    onesRow (ix2 0 c) = if c.val / 64 % 2 = c.val / 128 % 2 then 0 else if c.val % 64 = 0 then 1 else 0 := by
  have hc := c.isLt
  by_cases h0 : c.val < 64
  · refine (piece onesPieces _ 0 (by show 0 < 12; decide) zero64 rfl 0 rfl 0 ⟨c.val - 0, by omega⟩ c (by show 0 + (c.val - 0) = c.val; omega)).trans ?_
    rw [if_pos (by omega)]
    exact zero64_apply _
  by_cases h1 : c.val < 65
  · refine (piece onesPieces _ 1 (by show 1 < 12; decide) one1 rfl 64 rfl 0 ⟨c.val - 64, by omega⟩ c (by show 64 + (c.val - 64) = c.val; omega)).trans ?_
    rw [if_neg (by omega), if_pos (by omega)]
    exact one1_apply _
  by_cases h2 : c.val < 128
  · refine (piece onesPieces _ 2 (by show 2 < 12; decide) zero63 rfl 65 rfl 0 ⟨c.val - 65, by omega⟩ c (by show 65 + (c.val - 65) = c.val; omega)).trans ?_
    rw [if_neg (by omega), if_neg (by omega)]
    exact zero63_apply _
  by_cases h3 : c.val < 129
  · refine (piece onesPieces _ 3 (by show 3 < 12; decide) one1 rfl 128 rfl 0 ⟨c.val - 128, by omega⟩ c (by show 128 + (c.val - 128) = c.val; omega)).trans ?_
    rw [if_neg (by omega), if_pos (by omega)]
    exact one1_apply _
  by_cases h4 : c.val < 192
  · refine (piece onesPieces _ 4 (by show 4 < 12; decide) zero63 rfl 129 rfl 0 ⟨c.val - 129, by omega⟩ c (by show 129 + (c.val - 129) = c.val; omega)).trans ?_
    rw [if_neg (by omega), if_neg (by omega)]
    exact zero63_apply _
  by_cases h5 : c.val < 256
  · refine (piece onesPieces _ 5 (by show 5 < 12; decide) zero64 rfl 192 rfl 0 ⟨c.val - 192, by omega⟩ c (by show 192 + (c.val - 192) = c.val; omega)).trans ?_
    rw [if_pos (by omega)]
    exact zero64_apply _
  by_cases h6 : c.val < 320
  · refine (piece onesPieces _ 6 (by show 6 < 12; decide) zero64 rfl 256 rfl 0 ⟨c.val - 256, by omega⟩ c (by show 256 + (c.val - 256) = c.val; omega)).trans ?_
    rw [if_pos (by omega)]
    exact zero64_apply _
  by_cases h7 : c.val < 321
  · refine (piece onesPieces _ 7 (by show 7 < 12; decide) one1 rfl 320 rfl 0 ⟨c.val - 320, by omega⟩ c (by show 320 + (c.val - 320) = c.val; omega)).trans ?_
    rw [if_neg (by omega), if_pos (by omega)]
    exact one1_apply _
  by_cases h8 : c.val < 384
  · refine (piece onesPieces _ 8 (by show 8 < 12; decide) zero63 rfl 321 rfl 0 ⟨c.val - 321, by omega⟩ c (by show 321 + (c.val - 321) = c.val; omega)).trans ?_
    rw [if_neg (by omega), if_neg (by omega)]
    exact zero63_apply _
  by_cases h9 : c.val < 385
  · refine (piece onesPieces _ 9 (by show 9 < 12; decide) one1 rfl 384 rfl 0 ⟨c.val - 384, by omega⟩ c (by show 384 + (c.val - 384) = c.val; omega)).trans ?_
    rw [if_neg (by omega), if_pos (by omega)]
    exact one1_apply _
  by_cases h10 : c.val < 448
  · refine (piece onesPieces _ 10 (by show 10 < 12; decide) zero63 rfl 385 rfl 0 ⟨c.val - 385, by omega⟩ c (by show 385 + (c.val - 385) = c.val; omega)).trans ?_
    rw [if_neg (by omega), if_neg (by omega)]
    exact zero63_apply _
  · refine (piece onesPieces _ 11 (by show 11 < 12; decide) zero64 rfl 448 rfl 0 ⟨c.val - 448, by omega⟩ c (by show 448 + (c.val - 448) = c.val; omega)).trans ?_
    rw [if_pos (by omega)]
    exact zero64_apply _

/-! ## The block of ones per head -/

abbrev ones64 : FVec Ideal S64x64 .bf16 := broadcastInDim S64x64 ![] bcast_S_S64x64 (constant (F := Ideal) S_ .bf16 0x3F80#16)
abbrev zeros64 : FVec Ideal S64x64 .bf16 := broadcastInDim S64x64 ![] bcast_S_S64x64 (constant (F := Ideal) S_ .bf16 0x0000#16)

theorem ones64_apply (i : S64x64.Idx) : ones64 i = 1 := by
  show Ideal.ofBits .bf16 0x3F80#16 = 1
  simp [Ideal.ofBits, Ideal.ieee]
  rw [← EReal.coe_mul]
  norm_num

theorem zeros64_apply (i : S64x64.Idx) : zeros64 i = 0 := by
  show Ideal.ofBits .bf16 0x0000#16 = 0
  simp [Ideal.ofBits, Ideal.ieee]

abbrev sideBySide (a b : S64x64.Idx → EReal) : S64x128.Idx → EReal :=
  concatenate S64x128 1 [⟨S64x64, a⟩, ⟨S64x64, b⟩] concatenates_S64x64_S64x64_S64x128_d1

theorem sideBySide_apply (a b : S64x64.Idx → EReal) (k : Fin 64) (l : Fin 128) :
    sideBySide a b (ix2 k l) = if l.val < 64 then a (ix2 k ⟨l.val % 64, by omega⟩) else b (ix2 k ⟨l.val % 64, by omega⟩) := by
  by_cases h : l.val < 64
  · rw [if_pos h]
    exact piece [⟨S64x64, a⟩, ⟨S64x64, b⟩] _ 0 (by show 0 < 2; decide) a rfl 0 rfl k ⟨l.val % 64, by omega⟩ l (by show 0 + l.val % 64 = l.val; omega)
  · rw [if_neg h]
    exact piece [⟨S64x64, a⟩, ⟨S64x64, b⟩] _ 1 (by show 1 < 2; decide) b rfl 64 rfl k ⟨l.val % 64, by omega⟩ l (by show 64 + l.val % 64 = l.val; omega)

abbrev headPieces : List ((s : Shape) × (s.Idx → EReal)) := [⟨S64x128, sideBySide ones64 zeros64⟩, ⟨S64x128, sideBySide zeros64 ones64⟩]

abbrev headOnes : S128x128.Idx → EReal := concatenate S128x128 0 headPieces concatenates_S64x128_S64x128_S128x128_d0

theorem headOnes_apply (k l : Fin 128) : headOnes (ix2 k l) = if k.val / 64 = l.val / 64 then 1 else 0 := by
  by_cases hk : k.val < 64
  · refine (pieceRow headPieces _ 0 (by show 0 < 2; decide) (sideBySide ones64 zeros64) rfl 0 rfl ⟨k.val % 64, by omega⟩ l k (by show 0 + k.val % 64 = k.val; omega)).trans ?_
    rw [sideBySide_apply, ones64_apply, zeros64_apply]
    exact if_congr (by omega) rfl rfl
  · refine (pieceRow headPieces _ 1 (by show 1 < 2; decide) (sideBySide zeros64 ones64) rfl 64 rfl ⟨k.val % 64, by omega⟩ l k (by show 64 + k.val % 64 = k.val; omega)).trans ?_
    rw [sideBySide_apply, ones64_apply, zeros64_apply]
    by_cases hl : l.val < 64
    · rw [if_pos hl, if_neg (by omega)]
    · rw [if_neg hl, if_pos (by omega)]

/-! ## The gates' table and bias -/

section Gates

variable (gw : GateShape.Idx → EReal) (gb : BiasShape.Idx → EReal)

abbrev gateLo : FVec Ideal S16x128 .f32 :=
  shapeCast S16x128 (extractStridedSlice S1x16x128 ![0, 0, 0] gw slices_S2x16x128_S1x16x128_0_0_0) shapeCasts_S1x16x128_S16x128
abbrev gateHi : FVec Ideal S16x128 .f32 :=
  shapeCast S16x128 (extractStridedSlice S1x16x128 ![1, 0, 0] gw slices_S2x16x128_S1x16x128_1_0_0) shapeCasts_S1x16x128_S16x128

theorem gateLo_apply (r : Fin 16) (k : Fin 128) : gateLo gw (ix2 r k) = gw (ix3 0 r k) := by
  refine (shapeCast_apply _ _ (ix2 r k) (ix3 (0 : Fin 1) r k) ?_).trans ?_
  · rw [Shape.rowMajor_val_two, Shape.rowMajor_val_three]
    show (0 * 16 + r.val) * 128 + k.val = r.val * 128 + k.val
    omega
  · refine extractStridedSlice_apply _ _ _ _ (ix3 0 r k) fun a => ?_
    match a with
    | ⟨0, _⟩ => rfl
    | ⟨1, _⟩ => exact (Nat.zero_add _).symm
    | ⟨2, _⟩ => exact (Nat.zero_add _).symm

theorem gateHi_apply (r : Fin 16) (k : Fin 128) : gateHi gw (ix2 r k) = gw (ix3 1 r k) := by
  refine (shapeCast_apply _ _ (ix2 r k) (ix3 (0 : Fin 1) r k) ?_).trans ?_
  · rw [Shape.rowMajor_val_two, Shape.rowMajor_val_three]
    show (0 * 16 + r.val) * 128 + k.val = r.val * 128 + k.val
    omega
  · refine extractStridedSlice_apply _ _ _ _ (ix3 1 r k) fun a => ?_
    match a with
    | ⟨0, _⟩ => rfl
    | ⟨1, _⟩ => exact (Nat.zero_add _).symm
    | ⟨2, _⟩ => exact (Nat.zero_add _).symm

abbrev zeros16 : FVec Ideal S16x128 .f32 := broadcastInDim S16x128 ![] bcast_S_S16x128 (constant (F := Ideal) S_ .f32 0x00000000#32)
abbrev zeros96 : FVec Ideal S96x256 .f32 := broadcastInDim S96x256 ![] bcast_S_S96x256 (constant (F := Ideal) S_ .f32 0x00000000#32)

theorem zeros16_apply (i : S16x128.Idx) : zeros16 i = 0 := Ideal.ofBits_zero_f32
theorem zeros96_apply (i : S96x256.Idx) : zeros96 i = 0 := Ideal.ofBits_zero_f32

abbrev beside (a b : S16x128.Idx → EReal) : S16x256.Idx → EReal :=
  concatenate S16x256 1 [⟨S16x128, a⟩, ⟨S16x128, b⟩] concatenates_S16x128_S16x128_S16x256_d1

theorem beside_apply (a b : S16x128.Idx → EReal) (k : Fin 16) (l : Fin 256) :
    beside a b (ix2 k l) = if l.val < 128 then a (ix2 k ⟨l.val % 128, by omega⟩) else b (ix2 k ⟨l.val % 128, by omega⟩) := by
  have hl := l.isLt
  by_cases h : l.val < 128
  · rw [if_pos h]
    exact piece [⟨S16x128, a⟩, ⟨S16x128, b⟩] _ 0 (by show 0 < 2; decide) a rfl 0 rfl k ⟨l.val % 128, by omega⟩ l (by show 0 + l.val % 128 = l.val; omega)
  · rw [if_neg h]
    exact piece [⟨S16x128, a⟩, ⟨S16x128, b⟩] _ 1 (by show 1 < 2; decide) b rfl 128 rfl k ⟨l.val % 128, by omega⟩ l (by show 128 + l.val % 128 = l.val; omega)

abbrev gatePieces : List ((s : Shape) × (s.Idx → EReal)) := [⟨S16x256, beside (gateLo gw) zeros16⟩, ⟨S16x256, beside zeros16 (gateHi gw)⟩]
abbrev gateRows : S32x256.Idx → EReal := concatenate S32x256 0 (gatePieces gw) concatenates_S16x256_S16x256_S32x256_d0
abbrev gatePadded : List ((s : Shape) × (s.Idx → EReal)) := [⟨S32x256, gateRows gw⟩, ⟨S96x256, zeros96⟩]

abbrev gateTable : FVec Ideal S128x256 .bf16 :=
  truncf .bf16 (concatenate S128x256 0 (gatePadded gw) concatenates_S32x256_S96x256_S128x256_d0 : FVec Ideal S128x256 .f32) bitsLt_bf16_f32

/-- Rows of head `a` at columns of head `a` hold its weights. -/
theorem gateTable_apply (a : Fin 2) (r : Fin 16) (k : Fin 128) (x : Fin 128) (j : Fin 256) (hx : x.val = a.val * 16 + r.val)
    (hj : j.val = a.val * 128 + k.val) : gateTable gw (ix2 x j) = gw (ix3 a r k) := by
  refine (pieceRow (gatePadded gw) concatenates_S32x256_S96x256_S128x256_d0 0 (by show 0 < 2; decide) (gateRows gw) rfl 0 rfl ⟨x.val, by omega⟩ j x (Nat.zero_add _)).trans ?_
  match a with
  | ⟨0, _⟩ =>
    have hx : x.val = 0 * 16 + r.val := hx
    have hj : j.val = 0 * 128 + k.val := hj
    refine (pieceRow (gatePieces gw) _ 0 (by show 0 < 2; decide) (beside (gateLo gw) zeros16) rfl 0 rfl r j ⟨x.val, by omega⟩ (by show 0 + r.val = x.val; omega)).trans ?_
    rw [beside_apply, if_pos (by omega), gateLo_apply]
    exact congrArg (fun q => gw (ix3 0 r q)) (Fin.ext (by show j.val % 128 = k.val; omega))
  | ⟨1, _⟩ =>
    have hx : x.val = 1 * 16 + r.val := hx
    have hj : j.val = 1 * 128 + k.val := hj
    refine (pieceRow (gatePieces gw) _ 1 (by show 1 < 2; decide) (beside zeros16 (gateHi gw)) rfl 16 rfl r j ⟨x.val, by omega⟩ (by show 16 + r.val = x.val; omega)).trans ?_
    rw [beside_apply, if_neg (by omega), gateHi_apply]
    exact congrArg (fun q => gw (ix3 1 r q)) (Fin.ext (by show j.val % 128 = k.val; omega))

/-- Every other row holds zeros. -/
theorem gateTable_zero (x : Fin 128) (j : Fin 256) (hx : x.val / 16 ≠ j.val / 128) : gateTable gw (ix2 x j) = 0 := by
  have hj := j.isLt
  by_cases h : x.val < 32
  · refine (pieceRow (gatePadded gw) concatenates_S32x256_S96x256_S128x256_d0 0 (by show 0 < 2; decide) (gateRows gw) rfl 0 rfl ⟨x.val, by omega⟩ j x (Nat.zero_add _)).trans ?_
    by_cases h' : x.val < 16
    · refine (pieceRow (gatePieces gw) _ 0 (by show 0 < 2; decide) (beside (gateLo gw) zeros16) rfl 0 rfl ⟨x.val, h'⟩ j (⟨x.val, h⟩ : Fin 32) (Nat.zero_add _)).trans ?_
      rw [beside_apply, if_neg (by omega), zeros16_apply]
    · refine (pieceRow (gatePieces gw) _ 1 (by show 1 < 2; decide) (beside zeros16 (gateHi gw)) rfl 16 rfl ⟨x.val - 16, by omega⟩ j ⟨x.val, by omega⟩ (by show 16 + (x.val - 16) = x.val; omega)).trans ?_
      rw [beside_apply, if_pos (by omega), zeros16_apply]
  · refine (pieceRow (gatePadded gw) concatenates_S32x256_S96x256_S128x256_d0 1 (by show 1 < 2; decide) zeros96 rfl 32 rfl ⟨x.val - 32, by omega⟩ j x (by show 32 + (x.val - 32) = x.val; omega)).trans ?_
    exact zeros96_apply _

abbrev biasRow : S1x256.Idx → EReal := shapeCast S1x256 gb shapeCasts_S2x128_S1x256

theorem biasRow_apply (j : Fin 256) : biasRow gb (ix2 0 j) = gb (ix2 ⟨j.val / 128, by omega⟩ ⟨j.val % 128, by omega⟩) := by
  refine shapeCast_apply _ _ (ix2 0 j) (ix2 ⟨j.val / 128, by omega⟩ ⟨j.val % 128, by omega⟩) ?_
  rw [Shape.rowMajor_val_two, Shape.rowMajor_val_two]
  show j.val / 128 * 128 + j.val % 128 = 0 * 256 + j.val
  omega

end Gates

/-! ## The channels' tables -/

section Channels

variable (t : ChanShape.Idx → EReal)

abbrev chan : FVec Ideal S64x64 .bf16 := truncf .bf16 (t : FVec Ideal S64x64 .f32) bitsLt_bf16_f32

abbrev four (a b c d : S64x64.Idx → EReal) : S64x256.Idx → EReal :=
  concatenate S64x256 1 [⟨S64x64, a⟩, ⟨S64x64, b⟩, ⟨S64x64, c⟩, ⟨S64x64, d⟩] concatenates_S64x64_S64x64_S64x64_S64x64_S64x256_d1

theorem four_apply (a b c d : S64x64.Idx → EReal) (k : Fin 64) (l : Fin 256) :
    four a b c d (ix2 k l) = (if l.val / 64 = 0 then a else if l.val / 64 = 1 then b else if l.val / 64 = 2 then c else d)
      (ix2 k ⟨l.val % 64, by omega⟩) := by
  have hl := l.isLt
  have hq : l.val / 64 = 0 ∨ l.val / 64 = 1 ∨ l.val / 64 = 2 ∨ l.val / 64 = 3 := by omega
  rcases hq with h | h | h | h
  · rw [if_pos h]
    exact piece [⟨S64x64, a⟩, ⟨S64x64, b⟩, ⟨S64x64, c⟩, ⟨S64x64, d⟩] _ 0 (by show 0 < 4; decide) a rfl 0 rfl k ⟨l.val % 64, by omega⟩ l (by show 0 + l.val % 64 = l.val; omega)
  · rw [if_neg (by omega), if_pos h]
    exact piece [⟨S64x64, a⟩, ⟨S64x64, b⟩, ⟨S64x64, c⟩, ⟨S64x64, d⟩] _ 1 (by show 1 < 4; decide) b rfl 64 rfl k ⟨l.val % 64, by omega⟩ l (by show 64 + l.val % 64 = l.val; omega)
  · rw [if_neg (by omega), if_neg (by omega), if_pos h]
    exact piece [⟨S64x64, a⟩, ⟨S64x64, b⟩, ⟨S64x64, c⟩, ⟨S64x64, d⟩] _ 2 (by show 2 < 4; decide) c rfl 128 rfl k ⟨l.val % 64, by omega⟩ l (by show 128 + l.val % 64 = l.val; omega)
  · rw [if_neg (by omega), if_neg (by omega), if_neg (by omega)]
    exact piece [⟨S64x64, a⟩, ⟨S64x64, b⟩, ⟨S64x64, c⟩, ⟨S64x64, d⟩] _ 3 (by show 3 < 4; decide) d rfl 192 rfl k ⟨l.val % 64, by omega⟩ l (by show 192 + l.val % 64 = l.val; omega)

abbrev chanPieces : List ((s : Shape) × (s.Idx → EReal)) :=
  [⟨S64x256, four (chan t) zeros64 zeros64 zeros64⟩,
   ⟨S64x256, four zeros64 (chan t) zeros64 zeros64⟩,
   ⟨S64x256, four zeros64 zeros64 (chan t) zeros64⟩,
   ⟨S64x256, four zeros64 zeros64 zeros64 (chan t)⟩]

abbrev chanTable : S256x256.Idx → EReal := concatenate S256x256 0 (chanPieces t) concatenates_S64x256_S64x256_S64x256_S64x256_S256x256_d0

/-- The table on the block diagonal. -/
theorem chanTable_apply (k l : Fin 256) : chanTable t (ix2 k l)
    = if k.val / 64 = l.val / 64 then t (ix2 ⟨k.val % 64, by omega⟩ ⟨l.val % 64, by omega⟩) else 0 := by
  have hk := k.isLt
  have hl := l.isLt
  have hq : k.val / 64 = 0 ∨ k.val / 64 = 1 ∨ k.val / 64 = 2 ∨ k.val / 64 = 3 := by omega
  rcases hq with h | h | h | h
  · refine (pieceRow (chanPieces t) _ 0 (by show 0 < 4; decide) (four (chan t) zeros64 zeros64 zeros64) rfl 0 rfl ⟨k.val % 64, by omega⟩ l k (by show 0 + k.val % 64 = k.val; omega)).trans ?_
    rw [four_apply, h]
    by_cases e : l.val / 64 = 0
    · rw [if_pos e.symm]
      simp only [e]
      rfl
    · rw [if_neg (show ¬ (0 = l.val / 64) from fun q => e q.symm)]
      first
        | (split_ifs <;> first | exact zeros64_apply _ | omega)
  · refine (pieceRow (chanPieces t) _ 1 (by show 1 < 4; decide) (four zeros64 (chan t) zeros64 zeros64) rfl 64 rfl ⟨k.val % 64, by omega⟩ l k (by show 64 + k.val % 64 = k.val; omega)).trans ?_
    rw [four_apply, h]
    by_cases e : l.val / 64 = 1
    · rw [if_pos e.symm]
      simp only [e]
      rfl
    · rw [if_neg (show ¬ (1 = l.val / 64) from fun q => e q.symm)]
      first
        | (split_ifs <;> first | exact zeros64_apply _ | omega)
  · refine (pieceRow (chanPieces t) _ 2 (by show 2 < 4; decide) (four zeros64 zeros64 (chan t) zeros64) rfl 128 rfl ⟨k.val % 64, by omega⟩ l k (by show 128 + k.val % 64 = k.val; omega)).trans ?_
    rw [four_apply, h]
    by_cases e : l.val / 64 = 2
    · rw [if_pos e.symm]
      simp only [e]
      rfl
    · rw [if_neg (show ¬ (2 = l.val / 64) from fun q => e q.symm)]
      first
        | (split_ifs <;> first | exact zeros64_apply _ | omega)
  · refine (pieceRow (chanPieces t) _ 3 (by show 3 < 4; decide) (four zeros64 zeros64 zeros64 (chan t)) rfl 192 rfl ⟨k.val % 64, by omega⟩ l k (by show 192 + k.val % 64 = k.val; omega)).trans ?_
    rw [four_apply, h]
    by_cases e : l.val / 64 = 3
    · rw [if_pos e.symm]
      simp only [e]
      rfl
    · rw [if_neg (show ¬ (3 = l.val / 64) from fun q => e q.symm)]
      first
        | (split_ifs <;> first | exact zeros64_apply _ | omega)

end Channels

end Cert.ProjIdeal.Host

end
-- ==== Proof.ProjectionWeights.lean ====
/-
  The weight the launch is given, read column by column: which column of the projection each of its columns is.
-/
module

public import proofs.«01_k».proof.Proof.ProjectionPieces
public import proofs.«01_k».proof.Proof.Projection
public import proofs.«01_k».proof.Proof.ProjectionLaunch

@[expose] public section

set_option maxRecDepth 16384

noncomputable section

namespace Cert.ProjIdeal.Host

open Cert.ProjIdeal Cert.ProjIdeal.Gen Cert.ProjIdeal.Run
open Idealize.ShloMosaic Idealize.ShloMosaic.TcCoe Idealize.ShloMosaic.ValueIdx
open Cert.Projection

/-! ## The weights -/

section Weights

variable (w : WShape.Idx → EReal)

abbrev wQ : FVec Ideal S1024x512 .f32 := extractStridedSlice S1024x512 ![0, 0] w slices_S1024x1824_S1024x512_0_0
abbrev wK : FVec Ideal S1024x128 .f32 := extractStridedSlice S1024x128 ![0, 512] w slices_S1024x1824_S1024x128_0_512
abbrev wV : FVec Ideal S1024x128 .f32 := extractStridedSlice S1024x128 ![0, 640] w slices_S1024x1824_S1024x128_0_640
abbrev wGQ : FVec Ideal S1024x128 .f32 := extractStridedSlice S1024x128 ![0, 768] w slices_S1024x1824_S1024x128_0_768
abbrev wGK : FVec Ideal S1024x128 .f32 := extractStridedSlice S1024x128 ![0, 896] w slices_S1024x1824_S1024x128_0_896
abbrev wGV : FVec Ideal S1024x256 .f32 := extractStridedSlice S1024x256 ![0, 1024] w slices_S1024x1824_S1024x256_0_1024
abbrev wGR : FVec Ideal S1024x256 .f32 := extractStridedSlice S1024x256 ![0, 1280] w slices_S1024x1824_S1024x256_0_1280
abbrev wLow : FVec Ideal S1024x32 .f32 := extractStridedSlice S1024x32 ![0, 1536] w slices_S1024x1824_S1024x32_0_1536
abbrev wFeat : FVec Ideal S1024x256 .f32 := extractStridedSlice S1024x256 ![0, 1568] w slices_S1024x1824_S1024x256_0_1568
abbrev wK0 : FVec Ideal S1024x64 .f32 := extractStridedSlice S1024x64 ![0, 0] (wK w) slices_S1024x128_S1024x64_0_0
abbrev wK1 : FVec Ideal S1024x64 .f32 := extractStridedSlice S1024x64 ![0, 64] (wK w) slices_S1024x128_S1024x64_0_64
abbrev wV0 : FVec Ideal S1024x64 .f32 := extractStridedSlice S1024x64 ![0, 0] (wV w) slices_S1024x128_S1024x64_0_0
abbrev wV1 : FVec Ideal S1024x64 .f32 := extractStridedSlice S1024x64 ![0, 64] (wV w) slices_S1024x128_S1024x64_0_64
abbrev wZero : FVec Ideal S1024x64 .f32 := broadcastInDim S1024x64 ![] bcast_S_S1024x64 (constant (F := Ideal) S_ .f32 0x00000000#32)
abbrev wPad : FVec Ideal S1024x96 .f32 := broadcastInDim S1024x96 ![] bcast_S_S1024x96 (constant (F := Ideal) S_ .f32 0x00000000#32)

theorem wZero_apply (i : S1024x64.Idx) : wZero i = 0 := Ideal.ofBits_zero_f32
theorem wPad_apply (i : S1024x96.Idx) : wPad i = 0 := Ideal.ofBits_zero_f32

abbrev leftPieces : List ((s : Shape) × (s.Idx → EReal)) :=
  [⟨S1024x512, wQ w⟩, ⟨S1024x64, wK0 w⟩, ⟨S1024x64, wK0 w⟩, ⟨S1024x64, wK1 w⟩, ⟨S1024x64, wK1 w⟩, ⟨S1024x64, wV0 w⟩, ⟨S1024x64, wZero⟩, ⟨S1024x64, wZero⟩, ⟨S1024x64, wV0 w⟩, ⟨S1024x64, wV1 w⟩, ⟨S1024x64, wZero⟩, ⟨S1024x64, wZero⟩, ⟨S1024x64, wV1 w⟩, ⟨S1024x128, wGQ w⟩, ⟨S1024x128, wGK w⟩, ⟨S1024x256, wGV w⟩]
abbrev leftWidths : List Nat := [512, 64, 64, 64, 64, 64, 64, 64, 64, 64, 64, 64, 64, 128, 128, 256]
theorem leftPieces_shapes : (leftPieces w).map (·.1) = leftWidths.map fun n => (⟨2, ![1024, n]⟩ : Shape) := rfl
abbrev rightPieces : List ((s : Shape) × (s.Idx → EReal)) :=
  [⟨S1024x256, wGR w⟩, ⟨S1024x32, wLow w⟩, ⟨S1024x96, wPad⟩, ⟨S1024x256, wFeat w⟩]
abbrev wLeft : S1024x1792.Idx → EReal := concatenate S1024x1792 1 (leftPieces w) concatenates_S1024x512_S1024x64_S1024x64_S1024x64_S1024x64_S1024x64_S1024x64_S1024x64_S1024x64_S1024x64_S1024x64_S1024x64_S1024x64_S1024x128_S1024x128_S1024x256_S1024x1792_d1
abbrev wRight : S1024x640.Idx → EReal := concatenate S1024x640 1 (rightPieces w) concatenates_S1024x256_S1024x32_S1024x96_S1024x256_S1024x640_d1
abbrev wPieces : List ((s : Shape) × (s.Idx → EReal)) := [⟨S1024x1792, wLeft w⟩, ⟨S1024x640, wRight w⟩]

abbrev laidOut : FVec Ideal S1024x2432 .bf16 :=
  truncf .bf16 (concatenate S1024x2432 1 (wPieces w) concatenates_S1024x1792_S1024x640_S1024x2432_d1 : FVec Ideal S1024x2432 .f32) bitsLt_bf16_f32

theorem left_apply (d : Fin 1024) (c : Fin 2432) (h : c.val < 1792) : laidOut w (ix2 d c) = wLeft w (ix2 d ⟨c.val, h⟩) :=
  piece (wPieces w) concatenates_S1024x1792_S1024x640_S1024x2432_d1 0 (by show 0 < 2; decide) (wLeft w) rfl 0 rfl d ⟨c.val, h⟩ c (Nat.zero_add _)

theorem right_apply (d : Fin 1024) (c : Fin 2432) (h : 1792 ≤ c.val) :
    laidOut w (ix2 d c) = wRight w (ix2 d ⟨c.val - 1792, by omega⟩) :=
  piece (wPieces w) concatenates_S1024x1792_S1024x640_S1024x2432_d1 1 (by show 1 < 2; decide) (wRight w) rfl 1792 rfl d ⟨c.val - 1792, by omega⟩ c (by show 1792 + (c.val - 1792) = c.val; omega)

set_option maxHeartbeats 4000000 in
theorem laidOut_q (d : Fin 1024) (c : Fin 2432) (e : Fin 1824) (h : c.val < 512) (he : e.val = c.val) :
    laidOut w (ix2 d c) = w (ix2 d e) := by
  rw [left_apply w d c (by omega)]
  refine (pieceOf (leftPieces w) leftWidths (leftPieces_shapes w) _ 0 (by show 0 < 16; decide) (wQ w) rfl 0 (by decide) d ⟨c.val - 0, by omega⟩ ⟨c.val, by omega⟩ (by show 0 + (c.val - 0) = c.val; omega)).trans ?_
  exact cut_apply w 0 _ d ⟨c.val - 0, by omega⟩ _ (by show _ = 0 + (c.val - 0); omega)

set_option maxHeartbeats 4000000 in
/-- The keys' columns, each head twice. -/
theorem laidOut_k (d : Fin 1024) (c : Fin 2432) (e : Fin 1824) (h : 512 ≤ c.val) (h' : c.val < 768)
    (he : e.val = 512 + (c.val - 512) / 128 * 64 + c.val % 64) : laidOut w (ix2 d c) = w (ix2 d e) := by
  have hq : c.val / 64 = 8 ∨ c.val / 64 = 9 ∨ c.val / 64 = 10 ∨ c.val / 64 = 11 := by omega
  rcases hq with hq | hq | hq | hq
  · rw [left_apply w d c (by omega)]
    refine (pieceOf (leftPieces w) leftWidths (leftPieces_shapes w) _ 1 (by show 1 < 16; decide) (wK0 w) rfl 512 (by decide) d ⟨c.val - 512, by omega⟩ ⟨c.val, by omega⟩ (by show 512 + (c.val - 512) = c.val; omega)).trans ?_
    refine (cut_apply (wK w) 0 _ d ⟨c.val - 512, by omega⟩ ⟨0 + (c.val - 512), by omega⟩ rfl).trans ?_
    exact cut_apply w 512 _ d ⟨0 + (c.val - 512), by omega⟩ _ (by show _ = 512 + (0 + (c.val - 512)); omega)
  · rw [left_apply w d c (by omega)]
    refine (pieceOf (leftPieces w) leftWidths (leftPieces_shapes w) _ 2 (by show 2 < 16; decide) (wK0 w) rfl 576 (by decide) d ⟨c.val - 576, by omega⟩ ⟨c.val, by omega⟩ (by show 576 + (c.val - 576) = c.val; omega)).trans ?_
    refine (cut_apply (wK w) 0 _ d ⟨c.val - 576, by omega⟩ ⟨0 + (c.val - 576), by omega⟩ rfl).trans ?_
    exact cut_apply w 512 _ d ⟨0 + (c.val - 576), by omega⟩ _ (by show _ = 512 + (0 + (c.val - 576)); omega)
  · rw [left_apply w d c (by omega)]
    refine (pieceOf (leftPieces w) leftWidths (leftPieces_shapes w) _ 3 (by show 3 < 16; decide) (wK1 w) rfl 640 (by decide) d ⟨c.val - 640, by omega⟩ ⟨c.val, by omega⟩ (by show 640 + (c.val - 640) = c.val; omega)).trans ?_
    refine (cut_apply (wK w) 64 _ d ⟨c.val - 640, by omega⟩ ⟨64 + (c.val - 640), by omega⟩ rfl).trans ?_
    exact cut_apply w 512 _ d ⟨64 + (c.val - 640), by omega⟩ _ (by show _ = 512 + (64 + (c.val - 640)); omega)
  · rw [left_apply w d c (by omega)]
    refine (pieceOf (leftPieces w) leftWidths (leftPieces_shapes w) _ 4 (by show 4 < 16; decide) (wK1 w) rfl 704 (by decide) d ⟨c.val - 704, by omega⟩ ⟨c.val, by omega⟩ (by show 704 + (c.val - 704) = c.val; omega)).trans ?_
    refine (cut_apply (wK w) 64 _ d ⟨c.val - 704, by omega⟩ ⟨64 + (c.val - 704), by omega⟩ rfl).trans ?_
    exact cut_apply w 512 _ d ⟨64 + (c.val - 704), by omega⟩ _ (by show _ = 512 + (64 + (c.val - 704)); omega)

set_option maxHeartbeats 4000000 in
/-- The values' columns: a head's lanes low, then high; zeros in the other halves. -/
theorem laidOut_v (d : Fin 1024) (c : Fin 2432) (e : Fin 1824) (h : 768 ≤ c.val) (h' : c.val < 1280)
    (he : e.val = 640 + (c.val - 768) / 256 * 64 + c.val % 64) :
    laidOut w (ix2 d c) = if (c.val - 768) / 64 % 2 = (c.val - 768) / 128 % 2 then w (ix2 d e) else 0 := by
  have hq := eight (q := c.val / 64) 12 (by clear he; omega) (by clear he; omega)
  rcases hq with hq | hq | hq | hq | hq | hq | hq | hq
  · rw [if_pos (by omega)]
    rw [left_apply w d c (by omega)]
    refine (pieceOf (leftPieces w) leftWidths (leftPieces_shapes w) _ 5 (by show 5 < 16; decide) (wV0 w) rfl 768 (by decide) d ⟨c.val - 768, by omega⟩ ⟨c.val, by omega⟩ (by show 768 + (c.val - 768) = c.val; omega)).trans ?_
    refine (cut_apply (wV w) 0 _ d ⟨c.val - 768, by omega⟩ ⟨0 + (c.val - 768), by omega⟩ rfl).trans ?_
    exact cut_apply w 640 _ d ⟨0 + (c.val - 768), by omega⟩ _ (by show _ = 640 + (0 + (c.val - 768)); omega)
  · rw [if_neg (by omega)]
    rw [left_apply w d c (by omega)]
    refine (pieceOf (leftPieces w) leftWidths (leftPieces_shapes w) _ 6 (by show 6 < 16; decide) (wZero) rfl 832 (by decide) d ⟨c.val - 832, by omega⟩ ⟨c.val, by omega⟩ (by show 832 + (c.val - 832) = c.val; omega)).trans ?_
    exact wZero_apply _
  · rw [if_neg (by omega)]
    rw [left_apply w d c (by omega)]
    refine (pieceOf (leftPieces w) leftWidths (leftPieces_shapes w) _ 7 (by show 7 < 16; decide) (wZero) rfl 896 (by decide) d ⟨c.val - 896, by omega⟩ ⟨c.val, by omega⟩ (by show 896 + (c.val - 896) = c.val; omega)).trans ?_
    exact wZero_apply _
  · rw [if_pos (by omega)]
    rw [left_apply w d c (by omega)]
    refine (pieceOf (leftPieces w) leftWidths (leftPieces_shapes w) _ 8 (by show 8 < 16; decide) (wV0 w) rfl 960 (by decide) d ⟨c.val - 960, by omega⟩ ⟨c.val, by omega⟩ (by show 960 + (c.val - 960) = c.val; omega)).trans ?_
    refine (cut_apply (wV w) 0 _ d ⟨c.val - 960, by omega⟩ ⟨0 + (c.val - 960), by omega⟩ rfl).trans ?_
    exact cut_apply w 640 _ d ⟨0 + (c.val - 960), by omega⟩ _ (by show _ = 640 + (0 + (c.val - 960)); omega)
  · rw [if_pos (by omega)]
    rw [left_apply w d c (by omega)]
    refine (pieceOf (leftPieces w) leftWidths (leftPieces_shapes w) _ 9 (by show 9 < 16; decide) (wV1 w) rfl 1024 (by decide) d ⟨c.val - 1024, by omega⟩ ⟨c.val, by omega⟩ (by show 1024 + (c.val - 1024) = c.val; omega)).trans ?_
    refine (cut_apply (wV w) 64 _ d ⟨c.val - 1024, by omega⟩ ⟨64 + (c.val - 1024), by omega⟩ rfl).trans ?_
    exact cut_apply w 640 _ d ⟨64 + (c.val - 1024), by omega⟩ _ (by show _ = 640 + (64 + (c.val - 1024)); omega)
  · rw [if_neg (by omega)]
    rw [left_apply w d c (by omega)]
    refine (pieceOf (leftPieces w) leftWidths (leftPieces_shapes w) _ 10 (by show 10 < 16; decide) (wZero) rfl 1088 (by decide) d ⟨c.val - 1088, by omega⟩ ⟨c.val, by omega⟩ (by show 1088 + (c.val - 1088) = c.val; omega)).trans ?_
    exact wZero_apply _
  · rw [if_neg (by omega)]
    rw [left_apply w d c (by omega)]
    refine (pieceOf (leftPieces w) leftWidths (leftPieces_shapes w) _ 11 (by show 11 < 16; decide) (wZero) rfl 1152 (by decide) d ⟨c.val - 1152, by omega⟩ ⟨c.val, by omega⟩ (by show 1152 + (c.val - 1152) = c.val; omega)).trans ?_
    exact wZero_apply _
  · rw [if_pos (by omega)]
    rw [left_apply w d c (by omega)]
    refine (pieceOf (leftPieces w) leftWidths (leftPieces_shapes w) _ 12 (by show 12 < 16; decide) (wV1 w) rfl 1216 (by decide) d ⟨c.val - 1216, by omega⟩ ⟨c.val, by omega⟩ (by show 1216 + (c.val - 1216) = c.val; omega)).trans ?_
    refine (cut_apply (wV w) 64 _ d ⟨c.val - 1216, by omega⟩ ⟨64 + (c.val - 1216), by omega⟩ rfl).trans ?_
    exact cut_apply w 640 _ d ⟨64 + (c.val - 1216), by omega⟩ _ (by show _ = 640 + (64 + (c.val - 1216)); omega)

set_option maxHeartbeats 4000000 in
/-- The gated layer's columns and the gates' low-rank columns keep their order. -/
theorem laidOut_g (d : Fin 1024) (c : Fin 2432) (e : Fin 1824) (h : 1280 ≤ c.val) (h' : c.val < 2080) (he : e.val = c.val - 512) :
    laidOut w (ix2 d c) = w (ix2 d e) := by
  by_cases h1 : c.val < 1408
  · rw [left_apply w d c (by omega)]
    refine (pieceOf (leftPieces w) leftWidths (leftPieces_shapes w) _ 13 (by show 13 < 16; decide) (wGQ w) rfl 1280 (by decide) d ⟨c.val - 1280, by omega⟩ ⟨c.val, by omega⟩ (by show 1280 + (c.val - 1280) = c.val; omega)).trans ?_
    exact cut_apply w 768 _ d ⟨c.val - 1280, by omega⟩ _ (by show _ = 768 + (c.val - 1280); omega)
  by_cases h2 : c.val < 1536
  · rw [left_apply w d c (by omega)]
    refine (pieceOf (leftPieces w) leftWidths (leftPieces_shapes w) _ 14 (by show 14 < 16; decide) (wGK w) rfl 1408 (by decide) d ⟨c.val - 1408, by omega⟩ ⟨c.val, by omega⟩ (by show 1408 + (c.val - 1408) = c.val; omega)).trans ?_
    exact cut_apply w 896 _ d ⟨c.val - 1408, by omega⟩ _ (by show _ = 896 + (c.val - 1408); omega)
  by_cases h3 : c.val < 1792
  · rw [left_apply w d c (by omega)]
    refine (pieceOf (leftPieces w) leftWidths (leftPieces_shapes w) _ 15 (by show 15 < 16; decide) (wGV w) rfl 1536 (by decide) d ⟨c.val - 1536, by omega⟩ ⟨c.val, by omega⟩ (by show 1536 + (c.val - 1536) = c.val; omega)).trans ?_
    exact cut_apply w 1024 _ d ⟨c.val - 1536, by omega⟩ _ (by show _ = 1024 + (c.val - 1536); omega)
  by_cases h4 : c.val < 2048
  · rw [right_apply w d c (by omega)]
    refine (piece (rightPieces w) _ 0 (by show 0 < 4; decide) (wGR w) rfl 0 rfl d ⟨(c.val - 1792) - 0, by omega⟩ ⟨(c.val - 1792), by omega⟩ (by show 0 + ((c.val - 1792) - 0) = (c.val - 1792); omega)).trans ?_
    exact cut_apply w 1280 _ d ⟨(c.val - 1792) - 0, by omega⟩ _ (by show _ = 1280 + ((c.val - 1792) - 0); omega)
  · rw [right_apply w d c (by omega)]
    refine (piece (rightPieces w) _ 1 (by show 1 < 4; decide) (wLow w) rfl 256 rfl d ⟨(c.val - 1792) - 256, by omega⟩ ⟨(c.val - 1792), by omega⟩ (by show 256 + ((c.val - 1792) - 256) = (c.val - 1792); omega)).trans ?_
    exact cut_apply w 1536 _ d ⟨(c.val - 1792) - 256, by omega⟩ _ (by show _ = 1536 + ((c.val - 1792) - 256); omega)

set_option maxHeartbeats 4000000 in
theorem laidOut_f (d : Fin 1024) (c : Fin 2432) (e : Fin 1824) (h : 2176 ≤ c.val) (he : e.val = c.val - 608) :
    laidOut w (ix2 d c) = w (ix2 d e) := by
  have hc := c.isLt
  rw [right_apply w d c (by omega)]
  refine (piece (rightPieces w) _ 3 (by show 3 < 4; decide) (wFeat w) rfl 384 rfl d ⟨(c.val - 1792) - 384, by omega⟩ ⟨(c.val - 1792), by omega⟩ (by show 384 + ((c.val - 1792) - 384) = (c.val - 1792); omega)).trans ?_
  exact cut_apply w 1568 _ d ⟨(c.val - 1792) - 384, by omega⟩ _ (by show _ = 1568 + ((c.val - 1792) - 384); omega)

end Weights

end Cert.ProjIdeal.Host

end
-- ==== Proof.ProjectionReads.lean ====
/-
  The arrays the in-projection's launch reads are the tables of `ProjectionHost` and `ProjectionWeights`.
-/
module

public import proofs.«01_k».proof.Proof.ProjectionHost
public import proofs.«01_k».proof.Proof.ProjectionWeights
public import Idealize.ShloMosaic.Lib.StableHlo.RunRead

@[expose] public section

set_option maxRecDepth 16384

noncomputable section

namespace Cert.ProjIdeal.Host

open Cert.ProjIdeal Cert.ProjIdeal.Gen Cert.ProjIdeal.Run
open Idealize.ShloMosaic Idealize.ShloMosaic.TcCoe Idealize.ShloMosaic.ValueIdx
open Cert.Projection

/-! ## The arrays the kernel's windows read -/

variable (m : (ℓ : Loc nD τ sig) → Buf (Elt Ideal) ℓ) (c : Dev nD)

set_option maxHeartbeats 4000000 in
theorem V_v75 : (V m c main_v75 : S1024x2432.Idx → EReal) = laidOut (m ((c : Thread nD τ).loc main_arg1)) := by
  unfold V
  after_reads_simp
  rfl

set_option maxHeartbeats 4000000 in
theorem V_v8 : (V m c main_v8 : S4096x128.Idx → EReal) = cosines (m ((c : Thread nD τ).loc main_arg2)) := by
  unfold V
  after_reads_simp
  rfl

set_option maxHeartbeats 4000000 in
theorem V_v13 : (V m c main_v13 : S4096x128.Idx → EReal) = sines (m ((c : Thread nD τ).loc main_arg3)) := by
  unfold V
  after_reads_simp
  rfl

set_option maxHeartbeats 4000000 in
theorem V_v14 : (V m c main_v14 : S1x128.Idx → EReal) = gains (m ((c : Thread nD τ).loc main_arg4)) := by
  unfold V
  after_reads_simp
  rfl

set_option maxHeartbeats 4000000 in
theorem V_v15 : (V m c main_v15 : S1x128.Idx → EReal) = gains (m ((c : Thread nD τ).loc main_arg5)) := by
  unfold V
  after_reads_simp
  rfl

set_option maxHeartbeats 4000000 in
theorem V_v25 : (V m c main_v25 : S1x512.Idx → EReal) = onesRow := by
  unfold V
  after_reads_simp
  rfl

set_option maxHeartbeats 4000000 in
theorem V_v30 : (V m c main_v30 : S128x128.Idx → EReal) = headOnes := by
  unfold V
  after_reads_simp
  rfl

set_option maxHeartbeats 4000000 in
theorem V_v41 : (V m c main_v41 : S128x256.Idx → EReal) = gateTable (m ((c : Thread nD τ).loc main_arg6)) := by
  unfold V
  after_reads_simp
  rfl

set_option maxHeartbeats 4000000 in
theorem V_v56 : (V m c main_v56 : S1x256.Idx → EReal) = biasRow (m ((c : Thread nD τ).loc main_arg7)) := by
  unfold V
  after_reads_simp
  rfl

set_option maxHeartbeats 4000000 in
theorem V_v48 : (V m c main_v48 : S256x256.Idx → EReal) = chanTable (m ((c : Thread nD τ).loc main_arg8)) := by
  unfold V
  after_reads_simp
  rfl

set_option maxHeartbeats 4000000 in
theorem V_v55 : (V m c main_v55 : S256x256.Idx → EReal) = chanTable (m ((c : Thread nD τ).loc main_arg9)) := by
  unfold V
  after_reads_simp
  rfl

end Cert.ProjIdeal.Host

end
-- ==== Proof.ProjectionKernel.lean ====
/-
  The projection kernel's ten result arrays: every grid point writes its blocks of `Projection`'s functions of the
  arguments, and the blocks tile the arrays.
-/
module

public import proofs.«01_k».proof.Proof.ProjectionBody
public import proofs.«01_k».proof.Proof.ProjectionReads
public import Idealize.ShloMosaic.Lib.Pipeline.Covers

@[expose] public section

set_option maxRecDepth 16384

noncomputable section

namespace Cert.ProjIdeal.Results

open Cert.ProjIdeal Cert.ProjIdeal.Gen Cert.ProjIdeal.Run Cert.ProjIdeal.Body Cert.ProjIdeal.Host
open Idealize.ShloMosaic Idealize.ShloMosaic.TcCoe Idealize.ShloMosaic.ValueIdx Idealize.SL.Sem
open Idealize.ShloMosaic.Pipeline (Dat)
open Cert.Projection

variable (m : (ℓ : Loc nD τ sig) → Buf (Elt Ideal) ℓ) (ρ : Dev nD → PrngReg) (c : Dev nD) (t : Fin cfg0.N)

/-! ## The windows' blocks -/

/-- The point's block of 512 tokens. -/
def blkOf : Fin 64 := grid0.coords t 0

/-- The token of row `r` of the point's block, and its position. -/
def row (r : Fin 512) : Fin 32768 := ⟨(blkOf t).val * 512 + r.val, by omega⟩

theorem pos_row (r : Fin 512) : (pos (row t r)).val = (blkOf t).val % 8 * 512 + r.val := by
  show ((blkOf t).val * 512 + r.val) % 4096 = _
  omega

theorem index_0 : ∀ t : Fin grid0.N, win0_0.index t = ![(grid0.coords t 0).val, 0] := by decide +kernel
theorem index_1 : ∀ t : Fin grid0.N, win0_1.index t = ![0, 0] := by decide +kernel
theorem index_2 : ∀ t : Fin grid0.N, win0_2.index t = ![(grid0.coords t 0).val % 8, 0] := by decide +kernel
theorem index_3 : ∀ t : Fin grid0.N, win0_3.index t = ![(grid0.coords t 0).val % 8, 0] := by decide +kernel
theorem index_4 : ∀ t : Fin grid0.N, win0_4.index t = ![0, 0] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![0, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0] := by decide +kernel
theorem index_11 : ∀ t : Fin grid0.N, win0_11.index t = ![0, 0] := by decide +kernel
theorem index_12 : ∀ t : Fin grid0.N, win0_12.index t = ![(grid0.coords t 0).val, 0] := by decide +kernel
theorem index_13 : ∀ t : Fin grid0.N, win0_13.index t = ![(grid0.coords t 0).val, 0] := by decide +kernel
theorem index_14 : ∀ t : Fin grid0.N, win0_14.index t = ![(grid0.coords t 0).val, 0] := by decide +kernel
theorem index_15 : ∀ t : Fin grid0.N, win0_15.index t = ![(grid0.coords t 0).val, 0] := by decide +kernel
theorem index_16 : ∀ t : Fin grid0.N, win0_16.index t = ![(grid0.coords t 0).val, 0] := by decide +kernel
theorem index_17 : ∀ t : Fin grid0.N, win0_17.index t = ![(grid0.coords t 0).val, 0] := by decide +kernel
theorem index_18 : ∀ t : Fin grid0.N, win0_18.index t = ![(grid0.coords t 0).val, 0] := by decide +kernel
theorem index_19 : ∀ t : Fin grid0.N, win0_19.index t = ![(grid0.coords t 0).val, 0] := by decide +kernel
theorem index_20 : ∀ t : Fin grid0.N, win0_20.index t = ![(grid0.coords t 0).val % 8, (grid0.coords t 0).val / 8] := by decide +kernel
theorem index_21 : ∀ t : Fin grid0.N, win0_21.index t = ![(grid0.coords t 0).val % 8, (grid0.coords t 0).val / 8] := by decide +kernel

theorem emb_0 (r : Fin 512) (l : Fin 1024) : (win0_0.rect t).emb (ix2 r l) = (ix2 (row t r) l : S32768x1024.Idx) := by
  funext a
  refine Fin.ext ((win0_0.rect_emb_val t _ a).trans ?_)
  rw [index_0]
  match a with
  | ⟨0, _⟩ =>
    rfl
  | ⟨1, _⟩ =>
    show 0 * 1024 + l.val = l.val
    omega

theorem emb_1 (d : Fin 1024) (l : Fin 2432) : (win0_1.rect t).emb (ix2 d l) = (ix2 d l : S1024x2432.Idx) := by
  funext a
  refine Fin.ext ((win0_1.rect_emb_val t _ a).trans ?_)
  rw [index_1]
  match a with
  | ⟨0, _⟩ =>
    show 0 * 1024 + d.val = d.val
    omega
  | ⟨1, _⟩ =>
    show 0 * 2432 + l.val = l.val
    omega

theorem emb_2 (r : Fin 512) (l : Fin 128) : (win0_2.rect t).emb (ix2 r l) = (ix2 (pos (row t r)) l : S4096x128.Idx) := by
  funext a
  refine Fin.ext ((win0_2.rect_emb_val t _ a).trans ?_)
  rw [index_2]
  match a with
  | ⟨0, _⟩ =>
    show (blkOf t).val % 8 * 512 + r.val = (pos (row t r)).val
    rw [pos_row]
  | ⟨1, _⟩ =>
    show 0 * 128 + l.val = l.val
    omega

theorem emb_3 (r : Fin 512) (l : Fin 128) : (win0_3.rect t).emb (ix2 r l) = (ix2 (pos (row t r)) l : S4096x128.Idx) := by
  funext a
  refine Fin.ext ((win0_3.rect_emb_val t _ a).trans ?_)
  rw [index_3]
  match a with
  | ⟨0, _⟩ =>
    show (blkOf t).val % 8 * 512 + r.val = (pos (row t r)).val
    rw [pos_row]
  | ⟨1, _⟩ =>
    show 0 * 128 + l.val = l.val
    omega

theorem emb_4 (d : Fin 1) (l : Fin 128) : (win0_4.rect t).emb (ix2 d l) = (ix2 d l : S1x128.Idx) := by
  funext a
  refine Fin.ext ((win0_4.rect_emb_val t _ a).trans ?_)
  rw [index_4]
  match a with
  | ⟨0, _⟩ =>
    show 0 * 1 + d.val = d.val
    omega
  | ⟨1, _⟩ =>
    show 0 * 128 + l.val = l.val
    omega

theorem emb_5 (d : Fin 1) (l : Fin 128) : (win0_5.rect t).emb (ix2 d l) = (ix2 d l : S1x128.Idx) := by
  funext a
  refine Fin.ext ((win0_5.rect_emb_val t _ a).trans ?_)
  rw [index_5]
  match a with
  | ⟨0, _⟩ =>
    show 0 * 1 + d.val = d.val
    omega
  | ⟨1, _⟩ =>
    show 0 * 128 + l.val = l.val
    omega

theorem emb_6 (d : Fin 1) (l : Fin 512) : (win0_6.rect t).emb (ix2 d l) = (ix2 d l : S1x512.Idx) := by
  funext a
  refine Fin.ext ((win0_6.rect_emb_val t _ a).trans ?_)
  rw [index_6]
  match a with
  | ⟨0, _⟩ =>
    show 0 * 1 + d.val = d.val
    omega
  | ⟨1, _⟩ =>
    show 0 * 512 + l.val = l.val
    omega

theorem emb_7 (d : Fin 128) (l : Fin 128) : (win0_7.rect t).emb (ix2 d l) = (ix2 d l : S128x128.Idx) := by
  funext a
  refine Fin.ext ((win0_7.rect_emb_val t _ a).trans ?_)
  rw [index_7]
  match a with
  | ⟨0, _⟩ =>
    show 0 * 128 + d.val = d.val
    omega
  | ⟨1, _⟩ =>
    show 0 * 128 + l.val = l.val
    omega

theorem emb_8 (d : Fin 128) (l : Fin 256) : (win0_8.rect t).emb (ix2 d l) = (ix2 d l : S128x256.Idx) := by
  funext a
  refine Fin.ext ((win0_8.rect_emb_val t _ a).trans ?_)
  rw [index_8]
  match a with
  | ⟨0, _⟩ =>
    show 0 * 128 + d.val = d.val
    omega
  | ⟨1, _⟩ =>
    show 0 * 256 + l.val = l.val
    omega

theorem emb_9 (d : Fin 1) (l : Fin 256) : (win0_9.rect t).emb (ix2 d l) = (ix2 d l : S1x256.Idx) := by
  funext a
  refine Fin.ext ((win0_9.rect_emb_val t _ a).trans ?_)
  rw [index_9]
  match a with
  | ⟨0, _⟩ =>
    show 0 * 1 + d.val = d.val
    omega
  | ⟨1, _⟩ =>
    show 0 * 256 + l.val = l.val
    omega

theorem emb_10 (d : Fin 256) (l : Fin 256) : (win0_10.rect t).emb (ix2 d l) = (ix2 d l : S256x256.Idx) := by
  funext a
  refine Fin.ext ((win0_10.rect_emb_val t _ a).trans ?_)
  rw [index_10]
  match a with
  | ⟨0, _⟩ =>
    show 0 * 256 + d.val = d.val
    omega
  | ⟨1, _⟩ =>
    show 0 * 256 + l.val = l.val
    omega

theorem emb_11 (d : Fin 256) (l : Fin 256) : (win0_11.rect t).emb (ix2 d l) = (ix2 d l : S256x256.Idx) := by
  funext a
  refine Fin.ext ((win0_11.rect_emb_val t _ a).trans ?_)
  rw [index_11]
  match a with
  | ⟨0, _⟩ =>
    show 0 * 256 + d.val = d.val
    omega
  | ⟨1, _⟩ =>
    show 0 * 256 + l.val = l.val
    omega

theorem emb_12 (r : Fin 512) (l : Fin 512) : (win0_12.rect t).emb (ix2 r l) = (ix2 (row t r) l : S32768x512.Idx) := by
  funext a
  refine Fin.ext ((win0_12.rect_emb_val t _ a).trans ?_)
  rw [index_12]
  match a with
  | ⟨0, _⟩ =>
    rfl
  | ⟨1, _⟩ =>
    show 0 * 512 + l.val = l.val
    omega

theorem emb_13 (r : Fin 512) (l : Fin 256) : (win0_13.rect t).emb (ix2 r l) = (ix2 (row t r) l : S32768x256.Idx) := by
  funext a
  refine Fin.ext ((win0_13.rect_emb_val t _ a).trans ?_)
  rw [index_13]
  match a with
  | ⟨0, _⟩ =>
    rfl
  | ⟨1, _⟩ =>
    show 0 * 256 + l.val = l.val
    omega

theorem emb_14 (r : Fin 512) (l : Fin 512) : (win0_14.rect t).emb (ix2 r l) = (ix2 (row t r) l : S32768x512.Idx) := by
  funext a
  refine Fin.ext ((win0_14.rect_emb_val t _ a).trans ?_)
  rw [index_14]
  match a with
  | ⟨0, _⟩ =>
    rfl
  | ⟨1, _⟩ =>
    show 0 * 512 + l.val = l.val
    omega

theorem emb_15 (r : Fin 512) (l : Fin 128) : (win0_15.rect t).emb (ix2 r l) = (ix2 (row t r) l : S32768x128.Idx) := by
  funext a
  refine Fin.ext ((win0_15.rect_emb_val t _ a).trans ?_)
  rw [index_15]
  match a with
  | ⟨0, _⟩ =>
    rfl
  | ⟨1, _⟩ =>
    show 0 * 128 + l.val = l.val
    omega

theorem emb_16 (r : Fin 512) (l : Fin 128) : (win0_16.rect t).emb (ix2 r l) = (ix2 (row t r) l : S32768x128.Idx) := by
  funext a
  refine Fin.ext ((win0_16.rect_emb_val t _ a).trans ?_)
  rw [index_16]
  match a with
  | ⟨0, _⟩ =>
    rfl
  | ⟨1, _⟩ =>
    show 0 * 128 + l.val = l.val
    omega

theorem emb_17 (r : Fin 512) (l : Fin 256) : (win0_17.rect t).emb (ix2 r l) = (ix2 (row t r) l : S32768x256.Idx) := by
  funext a
  refine Fin.ext ((win0_17.rect_emb_val t _ a).trans ?_)
  rw [index_17]
  match a with
  | ⟨0, _⟩ =>
    rfl
  | ⟨1, _⟩ =>
    show 0 * 256 + l.val = l.val
    omega

theorem emb_18 (r : Fin 512) (l : Fin 256) : (win0_18.rect t).emb (ix2 r l) = (ix2 (row t r) l : S32768x256.Idx) := by
  funext a
  refine Fin.ext ((win0_18.rect_emb_val t _ a).trans ?_)
  rw [index_18]
  match a with
  | ⟨0, _⟩ =>
    rfl
  | ⟨1, _⟩ =>
    show 0 * 256 + l.val = l.val
    omega

theorem emb_19 (r : Fin 512) (l : Fin 256) : (win0_19.rect t).emb (ix2 r l) = (ix2 (row t r) l : S32768x256.Idx) := by
  funext a
  refine Fin.ext ((win0_19.rect_emb_val t _ a).trans ?_)
  rw [index_19]
  match a with
  | ⟨0, _⟩ =>
    rfl
  | ⟨1, _⟩ =>
    show 0 * 256 + l.val = l.val
    omega

theorem emb_20 (r : Fin 512) (l : Fin 256) : (win0_20.rect t).emb (ix2 r l) = (ix2 (pos (row t r)) ⟨(blkOf t).val / 8 * 256 + l.val, by omega⟩ : S4096x2048.Idx) := by
  funext a
  refine Fin.ext ((win0_20.rect_emb_val t _ a).trans ?_)
  rw [index_20]
  match a with
  | ⟨0, _⟩ =>
    show (blkOf t).val % 8 * 512 + r.val = (pos (row t r)).val
    rw [pos_row]
  | ⟨1, _⟩ =>
    rfl

theorem emb_21 (r : Fin 512) (l : Fin 256) : (win0_21.rect t).emb (ix2 r l) = (ix2 (pos (row t r)) ⟨(blkOf t).val / 8 * 256 + l.val, by omega⟩ : S4096x2048.Idx) := by
  funext a
  refine Fin.ext ((win0_21.rect_emb_val t _ a).trans ?_)
  rw [index_21]
  match a with
  | ⟨0, _⟩ =>
    show (blkOf t).val % 8 * 512 + r.val = (pos (row t r)).val
    rw [pos_row]
  | ⟨1, _⟩ =>
    rfl

abbrev arg0 : HShape.Idx → EReal := m ((c : Thread nD τ).loc main_arg0)
abbrev arg1 : WShape.Idx → EReal := m ((c : Thread nD τ).loc main_arg1)
abbrev arg2 : RopeShape.Idx → EReal := m ((c : Thread nD τ).loc main_arg2)
abbrev arg3 : RopeShape.Idx → EReal := m ((c : Thread nD τ).loc main_arg3)
abbrev arg4 : GainShape.Idx → EReal := m ((c : Thread nD τ).loc main_arg4)
abbrev arg5 : GainShape.Idx → EReal := m ((c : Thread nD τ).loc main_arg5)
abbrev arg6 : GateShape.Idx → EReal := m ((c : Thread nD τ).loc main_arg6)
abbrev arg7 : BiasShape.Idx → EReal := m ((c : Thread nD τ).loc main_arg7)
abbrev arg8 : ChanShape.Idx → EReal := m ((c : Thread nD τ).loc main_arg8)
abbrev arg9 : ChanShape.Idx → EReal := m ((c : Thread nD τ).loc main_arg9)

abbrev blk0 : Vec Ideal S512x1024 .f32 := iblk m c 0 t
abbrev blk1 : Vec Ideal S1024x2432 .bf16 := iblk m c 1 t
abbrev blk2 : Vec Ideal S512x128 .f32 := iblk m c 2 t
abbrev blk3 : Vec Ideal S512x128 .f32 := iblk m c 3 t
abbrev blk4 : Vec Ideal S1x128 .f32 := iblk m c 4 t
abbrev blk5 : Vec Ideal S1x128 .f32 := iblk m c 5 t
abbrev blk6 : Vec Ideal S1x512 .f32 := iblk m c 6 t
abbrev blk7 : Vec Ideal S128x128 .bf16 := iblk m c 7 t
abbrev blk8 : Vec Ideal S128x256 .bf16 := iblk m c 8 t
abbrev blk9 : Vec Ideal S1x256 .f32 := iblk m c 9 t
abbrev blk10 : Vec Ideal S256x256 .bf16 := iblk m c 10 t
abbrev blk11 : Vec Ideal S256x256 .bf16 := iblk m c 11 t

theorem blk0_apply (r : Fin 512) (d : Fin 1024) : blk0 m c t (ix2 r d) = arg0 m c (ix2 (row t r) d) := by
  show V m c main_arg0 ((win0_0.rect t).emb (ix2 r d)) = _
  rw [V_main_arg0, emb_0]

theorem blk2_apply (r : Fin 512) (l : Fin 128) :
    blk2 m c t (ix2 r l) = arg2 m c (ix3 (pos (row t r)) ⟨l.val % 64 / 32, by omega⟩ ⟨l.val % 16, by omega⟩) := by
  show (V m c main_v8 : S4096x128.Idx → EReal) ((win0_2.rect t).emb (ix2 r l)) = _
  rw [V_v8, emb_2]
  exact cosines_apply (arg2 m c) (pos (row t r)) l

theorem blk3_apply (r : Fin 512) (l : Fin 128) :
    blk3 m c t (ix2 r l) = if l.val % 32 < 16 then -arg3 m c (ix3 (pos (row t r)) ⟨l.val % 64 / 32, by omega⟩ ⟨l.val % 16, by omega⟩)
      else arg3 m c (ix3 (pos (row t r)) ⟨l.val % 64 / 32, by omega⟩ ⟨l.val % 16, by omega⟩) := by
  show (V m c main_v13 : S4096x128.Idx → EReal) ((win0_3.rect t).emb (ix2 r l)) = _
  rw [V_v13, emb_3]
  exact sines_apply (arg3 m c) (pos (row t r)) l

theorem blk1_apply (d : Fin 1024) (l : Fin 2432) : blk1 m c t (ix2 d l) = laidOut (arg1 m c) (ix2 d l) := by
  show (V m c main_v75 : S1024x2432.Idx → EReal) ((win0_1.rect t).emb (ix2 d l)) = _
  rw [V_v75, emb_1]

theorem blk4_apply (l : Fin 128) : blk4 m c t (ix2 0 l) = arg4 m c (ix2 0 ⟨l.val % 64, by omega⟩) := by
  show (V m c main_v14 : S1x128.Idx → EReal) ((win0_4.rect t).emb (ix2 0 l)) = _
  rw [V_v14, emb_4]
  exact gains_apply (arg4 m c) l

theorem blk5_apply (l : Fin 128) : blk5 m c t (ix2 0 l) = arg5 m c (ix2 0 ⟨l.val % 64, by omega⟩) := by
  show (V m c main_v15 : S1x128.Idx → EReal) ((win0_5.rect t).emb (ix2 0 l)) = _
  rw [V_v15, emb_5]
  exact gains_apply (arg5 m c) l

theorem blk6_apply (l : Fin 512) : blk6 m c t (ix2 0 l) = if l.val / 64 % 2 = l.val / 128 % 2 then 0 else if l.val % 64 = 0 then 1 else 0 := by
  show (V m c main_v25 : S1x512.Idx → EReal) ((win0_6.rect t).emb (ix2 0 l)) = _
  rw [V_v25, emb_6]
  exact onesRow_apply l

theorem blk7_apply (k l : Fin 128) : blk7 m c t (ix2 k l) = if k.val / 64 = l.val / 64 then 1 else 0 := by
  show (V m c main_v30 : S128x128.Idx → EReal) ((win0_7.rect t).emb (ix2 k l)) = _
  rw [V_v30, emb_7]
  exact headOnes_apply k l

theorem blk8_apply (k : Fin 128) (l : Fin 256) : blk8 m c t (ix2 k l) = gateTable (arg6 m c) (ix2 k l) := by
  show (V m c main_v41 : S128x256.Idx → EReal) ((win0_8.rect t).emb (ix2 k l)) = _
  rw [V_v41, emb_8]

theorem blk9_apply (l : Fin 256) : blk9 m c t (ix2 0 l) = arg7 m c (ix2 ⟨l.val / 128, by omega⟩ ⟨l.val % 128, by omega⟩) := by
  show (V m c main_v56 : S1x256.Idx → EReal) ((win0_9.rect t).emb (ix2 0 l)) = _
  rw [V_v56, emb_9]
  exact biasRow_apply (arg7 m c) l

theorem blk10_apply (k l : Fin 256) : blk10 m c t (ix2 k l) = if k.val / 64 = l.val / 64 then arg8 m c (ix2 ⟨k.val % 64, by omega⟩ ⟨l.val % 64, by omega⟩) else 0 := by
  show (V m c main_v48 : S256x256.Idx → EReal) ((win0_10.rect t).emb (ix2 k l)) = _
  rw [V_v48, emb_10]
  exact chanTable_apply (arg8 m c) k l

theorem blk11_apply (k l : Fin 256) : blk11 m c t (ix2 k l) = if k.val / 64 = l.val / 64 then arg9 m c (ix2 ⟨k.val % 64, by omega⟩ ⟨l.val % 64, by omega⟩) else 0 := by
  show (V m c main_v55 : S256x256.Idx → EReal) ((win0_11.rect t).emb (ix2 k l)) = _
  rw [V_v55, emb_11]
  exact chanTable_apply (arg9 m c) k l

/-! ## The loads -/

theorem hz2 : (![0, 0] : Fin 2 → Nat) = fun _ => 0 := funext fun a => by fin_cases a <;> rfl

theorem ld_0 (x : Vec Ideal S512x1024 .f32) : View.ld (Val := Elt Ideal) (e' := .f32) x r0_0 = x :=
  View.ld_unit_zero (Val := Elt Ideal) (e := .f32) (S := S512x1024) hz2 inb_S512x1024_S512x1024_0_0 x
theorem ld_1 (x : Vec Ideal S1024x2432 .bf16) : View.ld (Val := Elt Ideal) (e' := .bf16) x r0_1 = x :=
  View.ld_unit_zero (Val := Elt Ideal) (e := .bf16) (S := S1024x2432) hz2 inb_S1024x2432_S1024x2432_0_0 x
theorem ld_2 (x : Vec Ideal S512x128 .f32) : View.ld (Val := Elt Ideal) (e' := .f32) x r0_2 = x :=
  View.ld_unit_zero (Val := Elt Ideal) (e := .f32) (S := S512x128) hz2 inb_S512x128_S512x128_0_0 x
theorem ld_3 (x : Vec Ideal S128x128 .bf16) : View.ld (Val := Elt Ideal) (e' := .bf16) x r0_3 = x :=
  View.ld_unit_zero (Val := Elt Ideal) (e := .bf16) (S := S128x128) hz2 inb_S128x128_S128x128_0_0 x
theorem ld_4 (x : Vec Ideal S1x128 .f32) : View.ld (Val := Elt Ideal) (e' := .f32) x r0_4 = x :=
  View.ld_unit_zero (Val := Elt Ideal) (e := .f32) (S := S1x128) hz2 inb_S1x128_S1x128_0_0 x
theorem ld_11 (x : Vec Ideal S1x512 .f32) : View.ld (Val := Elt Ideal) (e' := .f32) x r0_11 = x :=
  View.ld_unit_zero (Val := Elt Ideal) (e := .f32) (S := S1x512) hz2 inb_S1x512_S1x512_0_0 x
theorem ld_14 (x : Vec Ideal S128x256 .bf16) : View.ld (Val := Elt Ideal) (e' := .bf16) x r0_14 = x :=
  View.ld_unit_zero (Val := Elt Ideal) (e := .bf16) (S := S128x256) hz2 inb_S128x256_S128x256_0_0 x
theorem ld_15 (x : Vec Ideal S1x256 .f32) : View.ld (Val := Elt Ideal) (e' := .f32) x r0_15 = x :=
  View.ld_unit_zero (Val := Elt Ideal) (e := .f32) (S := S1x256) hz2 inb_S1x256_S1x256_0_0 x
theorem ld_16 (x : Vec Ideal S256x256 .bf16) : View.ld (Val := Elt Ideal) (e' := .bf16) x r0_16 = x :=
  View.ld_unit_zero (Val := Elt Ideal) (e := .bf16) (S := S256x256) hz2 inb_S256x256_S256x256_0_0 x

theorem cast3 (x : Vec Ideal S512x128 .f32) : k0_pay3 x = x := shapeCast_self _ _
theorem cast4 (x : Vec Ideal S512x128 .f32) : k0_pay4 x = x := shapeCast_self _ _
theorem cast5 (x : Vec Ideal S128x128 .bf16) : k0_pay5 x = x := shapeCast_self _ _

/-! ## The projection's columns -/

/-- The point's block of the whole projection. -/
abbrev prod : FVec Ideal S512x2432 .f32 := k0_pay2 (F := Ideal) (blk0 m c t) (blk1 m c t)

/-- A column that is column `e` of the weights holds column `e` of the projection. -/
theorem prod_col (r : Fin 512) (l : Fin 2432) (e : Fin 1824)
    (h : ∀ d, laidOut (arg1 m c) (ix2 d l) = arg1 m c (ix2 d e)) :
    prod m c t (ix2 r l) = proj (arg0 m c) (arg1 m c) (row t r) e := by
  refine (product_apply _ _ r l).trans (Finset.sum_congr rfl fun d _ => ?_)
  rw [blk0_apply, blk1_apply, h]

/-- A column of zeros holds zeros. -/
theorem prod_zero (r : Fin 512) (l : Fin 2432) (h : ∀ d, laidOut (arg1 m c) (ix2 d l) = 0) : prod m c t (ix2 r l) = 0 := by
  refine (product_apply _ _ r l).trans (Finset.sum_eq_zero fun d _ => ?_)
  rw [blk1_apply, h, mul_zero]

/-! ## Each result's block -/

abbrev res12 : (⟨2, ![32768, 512]⟩ : Shape).Idx → EReal := queries (arg0 m c) (arg1 m c) (arg2 m c) (arg3 m c) (arg4 m c)
abbrev res13 : (⟨2, ![32768, 256]⟩ : Shape).Idx → EReal := keys (arg0 m c) (arg1 m c) (arg2 m c) (arg3 m c) (arg5 m c)
abbrev res14 : (⟨2, ![32768, 512]⟩ : Shape).Idx → EReal := values (arg0 m c) (arg1 m c)
abbrev res15 : (⟨2, ![32768, 128]⟩ : Shape).Idx → EReal := gateQ (arg0 m c) (arg1 m c)
abbrev res16 : (⟨2, ![32768, 128]⟩ : Shape).Idx → EReal := gateK (arg0 m c) (arg1 m c)
abbrev res17 : (⟨2, ![32768, 256]⟩ : Shape).Idx → EReal := gateV (arg0 m c) (arg1 m c)
abbrev res18 : (⟨2, ![32768, 256]⟩ : Shape).Idx → EReal := gateR (arg0 m c) (arg1 m c)
abbrev res19 : (⟨2, ![32768, 256]⟩ : Shape).Idx → EReal := decay (arg0 m c) (arg1 m c) (arg6 m c) (arg7 m c)
abbrev res20 : (⟨2, ![4096, 2048]⟩ : Shape).Idx → EReal := channels (arg0 m c) (arg1 m c) (arg8 m c)
abbrev res21 : (⟨2, ![4096, 2048]⟩ : Shape).Idx → EReal := channels (arg0 m c) (arg1 m c) (arg9 m c)

/-- Two query heads. -/
theorem query_lane (X : FVec Ideal S512x128 .f32) (p : Nat) (hp : p < 4) (r : Fin 512)
    (hX : ∀ l : Fin 128, X (ix2 r l) = prod m c t (ix2 r ⟨p * 128 + l.val, by omega⟩)) (l : Fin 128) :
    turnedBlk (normedBlk X (blk4 m c t) (blk7 m c t)) (blk2 m c t) (blk3 m c t) k0_pay6 0x3E000000#32 (ix2 r l)
      = res12 m c (ix2 (row t r) ⟨p * 128 + l.val, by omega⟩) := by
  refine (head_lane X (blk2 m c t) (blk3 m c t) (blk4 m c t) (blk7 m c t) r ⟨l.val / 64, by omega⟩
    (headQ (arg0 m c) (arg1 m c) (row t r) ⟨p * 2 + l.val / 64, by omega⟩) (fun x => arg4 m c (ix2 0 x))
    (fun a f => arg2 m c (ix3 (pos (row t r)) a f)) (fun a f => arg3 m c (ix3 (pos (row t r)) a f))
    (fun x => ?_) (blk7_apply m c t) (blk4_apply m c t) (blk2_apply m c t r) (blk3_apply m c t r) 0x3E000000#32 l rfl).trans ?_
  · rw [hX]
    exact prod_col m c t r _ _ fun d => laidOut_q (arg1 m c) d _ _
      (by show p * 128 + (l.val / 64 * 64 + x.val) < 512; omega)
      (by show (p * 2 + l.val / 64) * 64 + x.val = p * 128 + (l.val / 64 * 64 + x.val); omega)
  · unfold res12 queries roped
    refine congrArg₂ (fun (hd : Fin 8) (x : Fin 64) => turned (normed (headQ (arg0 m c) (arg1 m c) (row t r) hd)
      fun x => arg4 m c (ix2 0 x)) (fun a f => arg2 m c (ix3 (pos (row t r)) a f)) (fun a f => arg3 m c (ix3 (pos (row t r)) a f)) x
      * inv8) (Fin.ext ?_) (Fin.ext ?_)
    · show p * 2 + l.val / 64 = (p * 128 + l.val) / 64
      omega
    · show l.val % 64 = (p * 128 + l.val) % 64
      omega

/-- A key head, twice. -/
theorem key_lane (X : FVec Ideal S512x128 .f32) (p : Fin 2) (r : Fin 512)
    (hX : ∀ l : Fin 128, X (ix2 r l) = prod m c t (ix2 r ⟨512 + p.val * 128 + l.val, by omega⟩)) (l : Fin 128) :
    turnedBlk (normedBlk X (blk5 m c t) (blk7 m c t)) (blk2 m c t) (blk3 m c t) k0_pay6 0x3F800000#32 (ix2 r l)
      = res13 m c (ix2 (row t r) ⟨p.val * 128 + l.val, by omega⟩) := by
  refine (head_lane X (blk2 m c t) (blk3 m c t) (blk5 m c t) (blk7 m c t) r ⟨l.val / 64, by omega⟩
    (headK (arg0 m c) (arg1 m c) (row t r) p) (fun x => arg5 m c (ix2 0 x))
    (fun a f => arg2 m c (ix3 (pos (row t r)) a f)) (fun a f => arg3 m c (ix3 (pos (row t r)) a f))
    (fun x => ?_) (blk7_apply m c t) (blk5_apply m c t) (blk2_apply m c t r) (blk3_apply m c t r) 0x3F800000#32 l rfl).trans ?_
  · rw [hX]
    exact prod_col m c t r _ _ fun d => laidOut_k (arg1 m c) d _ _
      (by show 512 ≤ 512 + p.val * 128 + (l.val / 64 * 64 + x.val); omega)
      (by show 512 + p.val * 128 + (l.val / 64 * 64 + x.val) < 768; omega)
      (by show 512 + p.val * 64 + x.val = 512 + (512 + p.val * 128 + (l.val / 64 * 64 + x.val) - 512) / 128 * 64
            + (512 + p.val * 128 + (l.val / 64 * 64 + x.val)) % 64; omega)
  · rw [Ideal.ofBits_one_f32, mul_one]
    unfold res13 keys roped
    refine congrArg₂ (fun (hd : Fin 2) (x : Fin 64) => turned (normed (headK (arg0 m c) (arg1 m c) (row t r) hd)
      fun x => arg5 m c (ix2 0 x)) (fun a f => arg2 m c (ix3 (pos (row t r)) a f)) (fun a f => arg3 m c (ix3 (pos (row t r)) a f)) x)
      (Fin.ext ?_) (Fin.ext ?_)
    · show p.val = (p.val * 128 + l.val) / 128
      omega
    · show l.val % 64 = (p.val * 128 + l.val) % 64
      omega

theorem value_lane (r j : Fin 512) : k0_pay21 (prod m c t) (blk6 m c t) (ix2 r j) = res14 m c (ix2 (row t r) j) := by
  have hj := j.isLt
  rw [values_apply, blk6_apply]
  show _ = if j.val / 64 % 2 = j.val / 128 % 2 then _ else _
  by_cases h : j.val / 64 % 2 = j.val / 128 % 2
  · rw [if_pos h, if_pos h, add_zero]
    refine prod_col m c t r _ ⟨640 + j.val / 256 * 64 + j.val % 64, by omega⟩ fun d => ?_
    rw [laidOut_v (arg1 m c) d ⟨768 + j.val, by omega⟩ ⟨640 + j.val / 256 * 64 + j.val % 64, by omega⟩
      (by show 768 ≤ 768 + j.val; omega) (by show 768 + j.val < 1280; omega)
      (by show 640 + j.val / 256 * 64 + j.val % 64 = 640 + (768 + j.val - 768) / 256 * 64 + (768 + j.val) % 64; omega)]
    exact if_pos (by show (768 + j.val - 768) / 64 % 2 = (768 + j.val - 768) / 128 % 2; omega)
  · rw [if_neg h, if_neg h]
    rw [prod_zero m c t r _ fun d => ?_, zero_add]
    rw [laidOut_v (arg1 m c) d ⟨768 + j.val, by omega⟩ ⟨640 + j.val / 256 * 64 + j.val % 64, by omega⟩
      (by show 768 ≤ 768 + j.val; omega) (by show 768 + j.val < 1280; omega)
      (by show 640 + j.val / 256 * 64 + j.val % 64 = 640 + (768 + j.val - 768) / 256 * 64 + (768 + j.val) % 64; omega)]
    exact if_neg (by show ¬ (768 + j.val - 768) / 64 % 2 = (768 + j.val - 768) / 128 % 2; omega)

/-- The columns that keep their order. -/
theorem prod_g (r : Fin 512) (l : Fin 2432) (e : Fin 1824) (h : 1280 ≤ l.val) (h' : l.val < 2080) (he : e.val = l.val - 512) :
    prod m c t (ix2 r l) = proj (arg0 m c) (arg1 m c) (row t r) e :=
  prod_col m c t r l e fun d => laidOut_g (arg1 m c) d l e h h' he

theorem gateQ_lane (r : Fin 512) (j : Fin 128) : k0_pay22 (prod m c t) (ix2 r j) = res15 m c (ix2 (row t r) j) :=
  (gateQ_apply _ r j).trans (congrArg (· * gqScale) (prod_g m c t r ⟨1280 + j.val, by omega⟩ ⟨768 + j.val, by omega⟩ (by show 1280 ≤ 1280 + j.val; omega) (by show 1280 + j.val < 2080; omega) (by show 768 + j.val = 1280 + j.val - 512; omega)))

theorem gateK_lane (r : Fin 512) (j : Fin 128) : k0_pay23 (prod m c t) (ix2 r j) = res16 m c (ix2 (row t r) j) :=
  (gateK_apply _ r j).trans (prod_g m c t r ⟨1408 + j.val, by omega⟩ ⟨896 + j.val, by omega⟩ (by show 1280 ≤ 1408 + j.val; omega) (by show 1408 + j.val < 2080; omega) (by show 896 + j.val = 1408 + j.val - 512; omega))

theorem gateV_lane (r : Fin 512) (j : Fin 256) : k0_pay24 (prod m c t) (ix2 r j) = res17 m c (ix2 (row t r) j) :=
  (gateV_apply _ r j).trans (prod_g m c t r ⟨1536 + j.val, by omega⟩ ⟨1024 + j.val, by omega⟩ (by show 1280 ≤ 1536 + j.val; omega) (by show 1536 + j.val < 2080; omega) (by show 1024 + j.val = 1536 + j.val - 512; omega))

theorem gateR_lane (r : Fin 512) (j : Fin 256) : k0_pay25 (prod m c t) (ix2 r j) = res18 m c (ix2 (row t r) j) :=
  (gateR_apply _ r j).trans (prod_g m c t r ⟨1792 + j.val, by omega⟩ ⟨1280 + j.val, by omega⟩ (by show 1280 ≤ 1792 + j.val; omega) (by show 1792 + j.val < 2080; omega) (by show 1280 + j.val = 1792 + j.val - 512; omega))

theorem decay_lane (r : Fin 512) (j : Fin 256) :
    k0_pay26 (prod m c t) (blk8 m c t) (blk9 m c t) (ix2 r j) = res19 m c (ix2 (row t r) j) := by
  have hj := j.isLt
  rw [decay_apply, blk9_apply]
  show _ = logSig (decayArg _ _ _ _ (row t r) ⟨j.val / 128, _⟩ ⟨j.val % 128, _⟩) * inv16
  unfold decayArg
  refine congrArg₂ (fun a b : EReal => logSig (a + b) * inv16) ?_ rfl
  rw [sum_window _ (j.val / 128 * 16) (n := 16) (by omega) fun x hx => by
    rw [blk8_apply, gateTable_zero _ _ _ (by omega), mul_zero]]
  refine Finset.sum_congr rfl fun x _ => ?_
  rw [blk8_apply, gateTable_apply _ ⟨j.val / 128, by omega⟩ x ⟨j.val % 128, by omega⟩ _ _ rfl
    (by show j.val = j.val / 128 * 128 + j.val % 128; omega)]
  refine congrArg (· * _) (prod_g m c t r _ _ ?_ ?_ ?_)
  · show 1280 ≤ 2048 + (j.val / 128 * 16 + x.val)
    omega
  · show 2048 + (j.val / 128 * 16 + x.val) < 2080
    omega
  · show 1536 + j.val / 128 * 16 + x.val = 2048 + (j.val / 128 * 16 + x.val) - 512
    omega

/-- The channels mixed with a table on the block diagonal. -/
theorem channel_lane (T : Vec Ideal S256x256 .bf16) (ch : ChanShape.Idx → EReal)
    (hT : ∀ k l : Fin 256, T (ix2 k l) = if k.val / 64 = l.val / 64 then ch (ix2 ⟨k.val % 64, by omega⟩ ⟨l.val % 64, by omega⟩) else 0)
    (r : Fin 512) (j : Fin 256) :
    ∑ x : Fin 256, prod m c t (ix2 r ⟨2176 + x.val, by omega⟩) * T (ix2 x j)
      = channels (arg0 m c) (arg1 m c) ch (ix2 (pos (row t r)) ⟨(blkOf t).val / 8 * 256 + j.val, by omega⟩) := by
  have hj := j.isLt
  rw [sum_window _ (j.val / 64 * 64) (n := 64) (by omega) fun x hx => by rw [hT, if_neg (by omega), mul_zero]]
  refine Finset.sum_congr rfl fun x _ => ?_
  rw [hT, if_pos (by show (j.val / 64 * 64 + x.val) / 64 = j.val / 64; omega)]
  refine congrArg₂ (· * ·) ((prod_col m c t r _
      ⟨1568 + (((blkOf t).val / 8 * 256 + j.val) % 256 / 64 * 64) + x.val, by omega⟩ fun d =>
        laidOut_f (arg1 m c) d _ _ ?_ ?_).trans ?_) ?_
  · show 2176 ≤ 2176 + (j.val / 64 * 64 + x.val)
    omega
  · show 1568 + (((blkOf t).val / 8 * 256 + j.val) % 256 / 64 * 64) + x.val = 2176 + (j.val / 64 * 64 + x.val) - 608
    omega
  · refine congrArg (fun n => proj (arg0 m c) (arg1 m c) n _) (Fin.ext ?_)
    show (blkOf t).val * 512 + r.val = ((blkOf t).val / 8 * 256 + j.val) / 256 * 4096 + (pos (row t r)).val
    rw [pos_row]
    omega
  · refine congrArg₂ (fun a b => ch (ix2 a b)) (Fin.ext ?_) (Fin.ext ?_)
    · show (j.val / 64 * 64 + x.val) % 64 = x.val
      omega
    · show j.val % 64 = ((blkOf t).val / 8 * 256 + j.val) % 64
      omega

/-! ## What every point writes back -/

theorem query0 (r : Fin 512) (l : Fin 128) :
    k0_pay11 (F := Ideal) (blk2 m c t) (blk3 m c t) k0_pay6 (k0_pay7 (blk0 m c t) (blk1 m c t)) (k0_pay8 (blk4 m c t)) (k0_pay9 (blk0 m c t) (blk1 m c t) (blk7 m c t)) k0_pay10 (ix2 r l)
      = res12 m c (ix2 (row t r) ⟨0 * 128 + l.val, by omega⟩) := by
  rw [store_q0 (blk0 m c t) (blk1 m c t) (blk2 m c t) (blk3 m c t) (blk4 m c t) (blk7 m c t), cast5]
  have hX : ∀ l : Fin 128, extractStridedSlice S512x128 ![0, 0] (prod m c t) slices_S512x2432_o0_0_S512x128 (ix2 r l)
      = prod m c t (ix2 r ⟨0 * 128 + l.val, by omega⟩) := fun l =>
    columns_apply (prod m c t) r 0 slices_S512x2432_o0_0_S512x128 l ⟨0 * 128 + l.val, by omega⟩ (by show 0 * 128 + l.val = 0 + l.val; omega)
  exact query_lane m c t _ 0 (by omega) r hX l

theorem query1 (r : Fin 512) (l : Fin 128) :
    k0_pay12 (F := Ideal) (prod m c t) (blk2 m c t) (blk3 m c t) (blk7 m c t) k0_pay6 (blk4 m c t) (ix2 r l)
      = res12 m c (ix2 (row t r) ⟨1 * 128 + l.val, by omega⟩) := by
  rw [store_q1 (prod m c t) (blk2 m c t) (blk3 m c t) (blk4 m c t) (blk7 m c t)]
  have hX : ∀ l : Fin 128, extractStridedSlice S512x128 ![0, 128] (prod m c t) slices_S512x2432_o0_128_S512x128 (ix2 r l)
      = prod m c t (ix2 r ⟨1 * 128 + l.val, by omega⟩) := fun l =>
    columns_apply (prod m c t) r 128 slices_S512x2432_o0_128_S512x128 l ⟨1 * 128 + l.val, by omega⟩ (by show 1 * 128 + l.val = 128 + l.val; omega)
  exact query_lane m c t _ 1 (by omega) r hX l

theorem query2 (r : Fin 512) (l : Fin 128) :
    k0_pay13 (F := Ideal) (prod m c t) (blk2 m c t) (blk3 m c t) (blk7 m c t) k0_pay6 (blk4 m c t) (ix2 r l)
      = res12 m c (ix2 (row t r) ⟨2 * 128 + l.val, by omega⟩) := by
  rw [store_q2 (prod m c t) (blk2 m c t) (blk3 m c t) (blk4 m c t) (blk7 m c t)]
  have hX : ∀ l : Fin 128, extractStridedSlice S512x128 ![0, 256] (prod m c t) slices_S512x2432_o0_256_S512x128 (ix2 r l)
      = prod m c t (ix2 r ⟨2 * 128 + l.val, by omega⟩) := fun l =>
    columns_apply (prod m c t) r 256 slices_S512x2432_o0_256_S512x128 l ⟨2 * 128 + l.val, by omega⟩ (by show 2 * 128 + l.val = 256 + l.val; omega)
  exact query_lane m c t _ 2 (by omega) r hX l

theorem query3 (r : Fin 512) (l : Fin 128) :
    k0_pay15 (F := Ideal) (blk2 m c t) (blk3 m c t) k0_pay6 (k0_pay14 (prod m c t) (blk7 m c t) (blk4 m c t)) 112#32 (ix2 r l)
      = res12 m c (ix2 (row t r) ⟨3 * 128 + l.val, by omega⟩) := by
  rw [store_q3 (prod m c t) (blk2 m c t) (blk3 m c t) (blk4 m c t) (blk7 m c t)]
  have hX : ∀ l : Fin 128, extractStridedSlice S512x128 ![0, 384] (prod m c t) slices_S512x2432_o0_384_S512x128 (ix2 r l)
      = prod m c t (ix2 r ⟨3 * 128 + l.val, by omega⟩) := fun l =>
    columns_apply (prod m c t) r 384 slices_S512x2432_o0_384_S512x128 l ⟨3 * 128 + l.val, by omega⟩ (by show 3 * 128 + l.val = 384 + l.val; omega)
  exact query_lane m c t _ 3 (by omega) r hX l

/-- The block of result 0 at the point. -/
def part12 : (⟨2, ![512, 512]⟩ : Shape).Idx → EReal := fun y =>
  (fun (r : Fin 512) (l : Fin 512) => res12 m c (ix2 (row t r) l)) (y 0) (y 1)

set_option maxHeartbeats 1000000 in
theorem out_12 : out0_12 (F := Ideal) (blk0 m c t) (blk1 m c t) (blk2 m c t) (blk3 m c t) (blk4 m c t) (blk7 m c t) = part12 m c t := by
  funext y
  unfold out0_12
  simp only [ld_0, ld_1, ld_2, ld_3, ld_4, cast3, cast4, cast5]
  refine View.canon_apply_of_pieces (Val := Elt Ideal) (part12 m c t) _ ?_ y (cover0_12 _ _ _ _ y)
  intro pc hp z
  simp only [List.mem_cons, List.not_mem_nil, or_false] at hp
  rcases hp with rfl | rfl | rfl | rfl
  · obtain ⟨r, l, rfl⟩ : ∃ (r : Fin 512) (l : Fin 128), z = ix2 r l := ⟨z 0, z 1, eq_ix2 z⟩
    refine (query3 m c t r l).trans (congrArg₂ (fun a b => res12 m c (ix2 (row t a) b)) (Fin.ext ?_) (Fin.ext ?_))
    · show r.val = 0 + 1 * r.val
      omega
    · show 3 * 128 + l.val = 384 + 1 * l.val
      omega
  · obtain ⟨r, l, rfl⟩ : ∃ (r : Fin 512) (l : Fin 128), z = ix2 r l := ⟨z 0, z 1, eq_ix2 z⟩
    refine (query2 m c t r l).trans (congrArg₂ (fun a b => res12 m c (ix2 (row t a) b)) (Fin.ext ?_) (Fin.ext ?_))
    · show r.val = 0 + 1 * r.val
      omega
    · show 2 * 128 + l.val = 256 + 1 * l.val
      omega
  · obtain ⟨r, l, rfl⟩ : ∃ (r : Fin 512) (l : Fin 128), z = ix2 r l := ⟨z 0, z 1, eq_ix2 z⟩
    refine (query1 m c t r l).trans (congrArg₂ (fun a b => res12 m c (ix2 (row t a) b)) (Fin.ext ?_) (Fin.ext ?_))
    · show r.val = 0 + 1 * r.val
      omega
    · show 1 * 128 + l.val = 128 + 1 * l.val
      omega
  · obtain ⟨r, l, rfl⟩ : ∃ (r : Fin 512) (l : Fin 128), z = ix2 r l := ⟨z 0, z 1, eq_ix2 z⟩
    refine (query0 m c t r l).trans (congrArg₂ (fun a b => res12 m c (ix2 (row t a) b)) (Fin.ext ?_) (Fin.ext ?_))
    · show r.val = 0 + 1 * r.val
      omega
    · show 0 * 128 + l.val = 0 + 1 * l.val
      omega

theorem flushed_12 : (dats m 0 c).flushed 12 t = ((cfg0.win 12).blk t).view.read (Elt Ideal) (res12 m c) := by
  show (cfg0.win 12).cut (grid0.coords t) ((dats m 0 c).after 12 t) = _
  rw [after0_12, out_12]
  funext y
  obtain ⟨r, l, rfl⟩ : ∃ (r : Fin 512) (l : Fin 512), y = ix2 r l := ⟨y 0, y 1, eq_ix2 y⟩
  show part12 m c t (ix2 r l) = res12 m c ((win0_12.rect t).emb (ix2 r l))
  rw [emb_12]
  rfl

theorem cover_12 (i : S32768x512.Idx) : ∃ t : Fin cfg0.N, (cfg0.win 12).flush t = true ∧ i ∈ ((cfg0.win 12).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_12 t, ?_⟩
  show i ∈ ((View.whole main_v76_0).slice (win0_12.rect t)).set
  rw [View.set_slice_whole]
  have e : (win0_12.rect t).emb (ix2 ⟨(i 0).val % 512, by omega⟩ (i 1) : S512x512.Idx) = i := by
    refine (emb_12 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_12 : (dats m 0 c).arrAt 12 cfg0.N = res12 m c :=
  (dats m 0 c).arrAt_eq_of_cover 12 (res12 m c) (fun t _ => flushed_12 m c t) cover_12

/-- The block of result 1 at the point. -/
def part13 : (⟨2, ![512, 256]⟩ : Shape).Idx → EReal := fun y =>
  (fun (r : Fin 512) (l : Fin 256) => res13 m c (ix2 (row t r) l)) (y 0) (y 1)

theorem out_13 : out0_13 (F := Ideal) (blk0 m c t) (blk1 m c t) (blk2 m c t) (blk3 m c t) (blk5 m c t) (blk7 m c t) = part13 m c t := by
  funext y
  unfold out0_13
  simp only [ld_0, ld_1, ld_2, ld_3, ld_4, cast3, cast4, cast5]
  refine View.canon_apply_of_pieces (Val := Elt Ideal) (part13 m c t) _ ?_ y (cover0_13 _ _ y)
  intro pc hp z
  simp only [List.mem_cons, List.not_mem_nil, or_false] at hp
  rcases hp with rfl | rfl
  · obtain ⟨r, l, rfl⟩ : ∃ (r : Fin 512) (l : Fin 128), z = ix2 r l := ⟨z 0, z 1, eq_ix2 z⟩
    refine Eq.trans ?_ ((key_lane m c t (extractStridedSlice S512x128 ![0, 640] (prod m c t) slices_S512x2432_o0_640_S512x128) 1 r (fun l => ?_) l).trans ?_)
    · rfl
    · exact columns_apply (prod m c t) r 640 slices_S512x2432_o0_640_S512x128 l _ (by show 512 + 1 * 128 + l.val = 640 + l.val; omega)
    · refine congrArg₂ (fun a b => res13 m c (ix2 (row t a) b)) (Fin.ext ?_) (Fin.ext ?_)
      · show r.val = 0 + 1 * r.val
        omega
      · show 1 * 128 + l.val = 128 + 1 * l.val
        omega
  · obtain ⟨r, l, rfl⟩ : ∃ (r : Fin 512) (l : Fin 128), z = ix2 r l := ⟨z 0, z 1, eq_ix2 z⟩
    refine Eq.trans ?_ ((key_lane m c t (extractStridedSlice S512x128 ![0, 512] (prod m c t) slices_S512x2432_o0_512_S512x128) 0 r (fun l => ?_) l).trans ?_)
    · rfl
    · exact columns_apply (prod m c t) r 512 slices_S512x2432_o0_512_S512x128 l _ (by show 512 + 0 * 128 + l.val = 512 + l.val; omega)
    · refine congrArg₂ (fun a b => res13 m c (ix2 (row t a) b)) (Fin.ext ?_) (Fin.ext ?_)
      · show r.val = 0 + 1 * r.val
        omega
      · show 0 * 128 + l.val = 0 + 1 * l.val
        omega

theorem flushed_13 : (dats m 0 c).flushed 13 t = ((cfg0.win 13).blk t).view.read (Elt Ideal) (res13 m c) := by
  show (cfg0.win 13).cut (grid0.coords t) ((dats m 0 c).after 13 t) = _
  rw [after0_13, out_13]
  funext y
  obtain ⟨r, l, rfl⟩ : ∃ (r : Fin 512) (l : Fin 256), y = ix2 r l := ⟨y 0, y 1, eq_ix2 y⟩
  show part13 m c t (ix2 r l) = res13 m c ((win0_13.rect t).emb (ix2 r l))
  rw [emb_13]
  rfl

theorem cover_13 (i : S32768x256.Idx) : ∃ t : Fin cfg0.N, (cfg0.win 13).flush t = true ∧ i ∈ ((cfg0.win 13).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_13 t, ?_⟩
  show i ∈ ((View.whole main_v76_1).slice (win0_13.rect t)).set
  rw [View.set_slice_whole]
  have e : (win0_13.rect t).emb (ix2 ⟨(i 0).val % 512, by omega⟩ (i 1) : S512x256.Idx) = i := by
    refine (emb_13 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_13 : (dats m 0 c).arrAt 13 cfg0.N = res13 m c :=
  (dats m 0 c).arrAt_eq_of_cover 13 (res13 m c) (fun t _ => flushed_13 m c t) cover_13

/-- The block of result 2 at the point. -/
def part14 : (⟨2, ![512, 512]⟩ : Shape).Idx → EReal := fun y =>
  (fun (r : Fin 512) (l : Fin 512) => res14 m c (ix2 (row t r) l)) (y 0) (y 1)

theorem out_14 : out0_14 (F := Ideal) (blk0 m c t) (blk1 m c t) (blk6 m c t) = part14 m c t := by
  funext y
  unfold out0_14
  simp only [ld_0, ld_1, ld_11]
  refine View.canon_apply_of_pieces (Val := Elt Ideal) (part14 m c t) _ ?_ y (cover0_14 _ y)
  intro pc hp z
  simp only [List.mem_cons, List.not_mem_nil, or_false] at hp
  obtain rfl := hp
  obtain ⟨r, l, rfl⟩ : ∃ (r : Fin 512) (l : Fin 512), z = ix2 r l := ⟨z 0, z 1, eq_ix2 z⟩
  refine Eq.trans (value_lane m c t r l) ?_
  refine congrArg₂ (fun (a : Fin 512) (b : Fin 512) => res14 m c (ix2 (row t a) b)) (Fin.ext ?_) (Fin.ext ?_)
  · show r.val = 0 + 1 * r.val
    omega
  · show l.val = 0 + 1 * l.val
    omega

theorem flushed_14 : (dats m 0 c).flushed 14 t = ((cfg0.win 14).blk t).view.read (Elt Ideal) (res14 m c) := by
  show (cfg0.win 14).cut (grid0.coords t) ((dats m 0 c).after 14 t) = _
  rw [after0_14, out_14]
  funext y
  obtain ⟨r, l, rfl⟩ : ∃ (r : Fin 512) (l : Fin 512), y = ix2 r l := ⟨y 0, y 1, eq_ix2 y⟩
  show part14 m c t (ix2 r l) = res14 m c ((win0_14.rect t).emb (ix2 r l))
  rw [emb_14]
  rfl

theorem cover_14 (i : S32768x512.Idx) : ∃ t : Fin cfg0.N, (cfg0.win 14).flush t = true ∧ i ∈ ((cfg0.win 14).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_14 t, ?_⟩
  show i ∈ ((View.whole main_v76_2).slice (win0_14.rect t)).set
  rw [View.set_slice_whole]
  have e : (win0_14.rect t).emb (ix2 ⟨(i 0).val % 512, by omega⟩ (i 1) : S512x512.Idx) = i := by
    refine (emb_14 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_14 : (dats m 0 c).arrAt 14 cfg0.N = res14 m c :=
  (dats m 0 c).arrAt_eq_of_cover 14 (res14 m c) (fun t _ => flushed_14 m c t) cover_14

/-- The block of result 3 at the point. -/
def part15 : (⟨2, ![512, 128]⟩ : Shape).Idx → EReal := fun y =>
  (fun (r : Fin 512) (l : Fin 128) => res15 m c (ix2 (row t r) l)) (y 0) (y 1)

theorem out_15 : out0_15 (F := Ideal) (blk0 m c t) (blk1 m c t) = part15 m c t := by
  funext y
  unfold out0_15
  simp only [ld_0, ld_1]
  refine View.canon_apply_of_pieces (Val := Elt Ideal) (part15 m c t) _ ?_ y (cover0_15 _ y)
  intro pc hp z
  simp only [List.mem_cons, List.not_mem_nil, or_false] at hp
  obtain rfl := hp
  obtain ⟨r, l, rfl⟩ : ∃ (r : Fin 512) (l : Fin 128), z = ix2 r l := ⟨z 0, z 1, eq_ix2 z⟩
  refine Eq.trans (gateQ_lane m c t r l) ?_
  refine congrArg₂ (fun (a : Fin 512) (b : Fin 128) => res15 m c (ix2 (row t a) b)) (Fin.ext ?_) (Fin.ext ?_)
  · show r.val = 0 + 1 * r.val
    omega
  · show l.val = 0 + 1 * l.val
    omega

theorem flushed_15 : (dats m 0 c).flushed 15 t = ((cfg0.win 15).blk t).view.read (Elt Ideal) (res15 m c) := by
  show (cfg0.win 15).cut (grid0.coords t) ((dats m 0 c).after 15 t) = _
  rw [after0_15, out_15]
  funext y
  obtain ⟨r, l, rfl⟩ : ∃ (r : Fin 512) (l : Fin 128), y = ix2 r l := ⟨y 0, y 1, eq_ix2 y⟩
  show part15 m c t (ix2 r l) = res15 m c ((win0_15.rect t).emb (ix2 r l))
  rw [emb_15]
  rfl

theorem cover_15 (i : S32768x128.Idx) : ∃ t : Fin cfg0.N, (cfg0.win 15).flush t = true ∧ i ∈ ((cfg0.win 15).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_15 t, ?_⟩
  show i ∈ ((View.whole main_v76_3).slice (win0_15.rect t)).set
  rw [View.set_slice_whole]
  have e : (win0_15.rect t).emb (ix2 ⟨(i 0).val % 512, by omega⟩ (i 1) : S512x128.Idx) = i := by
    refine (emb_15 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_15 : (dats m 0 c).arrAt 15 cfg0.N = res15 m c :=
  (dats m 0 c).arrAt_eq_of_cover 15 (res15 m c) (fun t _ => flushed_15 m c t) cover_15

/-- The block of result 4 at the point. -/
def part16 : (⟨2, ![512, 128]⟩ : Shape).Idx → EReal := fun y =>
  (fun (r : Fin 512) (l : Fin 128) => res16 m c (ix2 (row t r) l)) (y 0) (y 1)

theorem out_16 : out0_16 (F := Ideal) (blk0 m c t) (blk1 m c t) = part16 m c t := by
  funext y
  unfold out0_16
  simp only [ld_0, ld_1]
  refine View.canon_apply_of_pieces (Val := Elt Ideal) (part16 m c t) _ ?_ y (cover0_16 _ y)
  intro pc hp z
  simp only [List.mem_cons, List.not_mem_nil, or_false] at hp
  obtain rfl := hp
  obtain ⟨r, l, rfl⟩ : ∃ (r : Fin 512) (l : Fin 128), z = ix2 r l := ⟨z 0, z 1, eq_ix2 z⟩
  refine Eq.trans (gateK_lane m c t r l) ?_
  refine congrArg₂ (fun (a : Fin 512) (b : Fin 128) => res16 m c (ix2 (row t a) b)) (Fin.ext ?_) (Fin.ext ?_)
  · show r.val = 0 + 1 * r.val
    omega
  · show l.val = 0 + 1 * l.val
    omega

theorem flushed_16 : (dats m 0 c).flushed 16 t = ((cfg0.win 16).blk t).view.read (Elt Ideal) (res16 m c) := by
  show (cfg0.win 16).cut (grid0.coords t) ((dats m 0 c).after 16 t) = _
  rw [after0_16, out_16]
  funext y
  obtain ⟨r, l, rfl⟩ : ∃ (r : Fin 512) (l : Fin 128), y = ix2 r l := ⟨y 0, y 1, eq_ix2 y⟩
  show part16 m c t (ix2 r l) = res16 m c ((win0_16.rect t).emb (ix2 r l))
  rw [emb_16]
  rfl

theorem cover_16 (i : S32768x128.Idx) : ∃ t : Fin cfg0.N, (cfg0.win 16).flush t = true ∧ i ∈ ((cfg0.win 16).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_16 t, ?_⟩
  show i ∈ ((View.whole main_v76_4).slice (win0_16.rect t)).set
  rw [View.set_slice_whole]
  have e : (win0_16.rect t).emb (ix2 ⟨(i 0).val % 512, by omega⟩ (i 1) : S512x128.Idx) = i := by
    refine (emb_16 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_16 : (dats m 0 c).arrAt 16 cfg0.N = res16 m c :=
  (dats m 0 c).arrAt_eq_of_cover 16 (res16 m c) (fun t _ => flushed_16 m c t) cover_16

/-- The block of result 5 at the point. -/
def part17 : (⟨2, ![512, 256]⟩ : Shape).Idx → EReal := fun y =>
  (fun (r : Fin 512) (l : Fin 256) => res17 m c (ix2 (row t r) l)) (y 0) (y 1)

theorem out_17 : out0_17 (F := Ideal) (blk0 m c t) (blk1 m c t) = part17 m c t := by
  funext y
  unfold out0_17
  simp only [ld_0, ld_1]
  refine View.canon_apply_of_pieces (Val := Elt Ideal) (part17 m c t) _ ?_ y (cover0_17 _ y)
  intro pc hp z
  simp only [List.mem_cons, List.not_mem_nil, or_false] at hp
  obtain rfl := hp
  obtain ⟨r, l, rfl⟩ : ∃ (r : Fin 512) (l : Fin 256), z = ix2 r l := ⟨z 0, z 1, eq_ix2 z⟩
  refine Eq.trans (gateV_lane m c t r l) ?_
  refine congrArg₂ (fun (a : Fin 512) (b : Fin 256) => res17 m c (ix2 (row t a) b)) (Fin.ext ?_) (Fin.ext ?_)
  · show r.val = 0 + 1 * r.val
    omega
  · show l.val = 0 + 1 * l.val
    omega

theorem flushed_17 : (dats m 0 c).flushed 17 t = ((cfg0.win 17).blk t).view.read (Elt Ideal) (res17 m c) := by
  show (cfg0.win 17).cut (grid0.coords t) ((dats m 0 c).after 17 t) = _
  rw [after0_17, out_17]
  funext y
  obtain ⟨r, l, rfl⟩ : ∃ (r : Fin 512) (l : Fin 256), y = ix2 r l := ⟨y 0, y 1, eq_ix2 y⟩
  show part17 m c t (ix2 r l) = res17 m c ((win0_17.rect t).emb (ix2 r l))
  rw [emb_17]
  rfl

theorem cover_17 (i : S32768x256.Idx) : ∃ t : Fin cfg0.N, (cfg0.win 17).flush t = true ∧ i ∈ ((cfg0.win 17).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_17 t, ?_⟩
  show i ∈ ((View.whole main_v76_5).slice (win0_17.rect t)).set
  rw [View.set_slice_whole]
  have e : (win0_17.rect t).emb (ix2 ⟨(i 0).val % 512, by omega⟩ (i 1) : S512x256.Idx) = i := by
    refine (emb_17 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_17 : (dats m 0 c).arrAt 17 cfg0.N = res17 m c :=
  (dats m 0 c).arrAt_eq_of_cover 17 (res17 m c) (fun t _ => flushed_17 m c t) cover_17

/-- The block of result 6 at the point. -/
def part18 : (⟨2, ![512, 256]⟩ : Shape).Idx → EReal := fun y =>
  (fun (r : Fin 512) (l : Fin 256) => res18 m c (ix2 (row t r) l)) (y 0) (y 1)

theorem out_18 : out0_18 (F := Ideal) (blk0 m c t) (blk1 m c t) = part18 m c t := by
  funext y
  unfold out0_18
  simp only [ld_0, ld_1]
  refine View.canon_apply_of_pieces (Val := Elt Ideal) (part18 m c t) _ ?_ y (cover0_18 _ y)
  intro pc hp z
  simp only [List.mem_cons, List.not_mem_nil, or_false] at hp
  obtain rfl := hp
  obtain ⟨r, l, rfl⟩ : ∃ (r : Fin 512) (l : Fin 256), z = ix2 r l := ⟨z 0, z 1, eq_ix2 z⟩
  refine Eq.trans (gateR_lane m c t r l) ?_
  refine congrArg₂ (fun (a : Fin 512) (b : Fin 256) => res18 m c (ix2 (row t a) b)) (Fin.ext ?_) (Fin.ext ?_)
  · show r.val = 0 + 1 * r.val
    omega
  · show l.val = 0 + 1 * l.val
    omega

theorem flushed_18 : (dats m 0 c).flushed 18 t = ((cfg0.win 18).blk t).view.read (Elt Ideal) (res18 m c) := by
  show (cfg0.win 18).cut (grid0.coords t) ((dats m 0 c).after 18 t) = _
  rw [after0_18, out_18]
  funext y
  obtain ⟨r, l, rfl⟩ : ∃ (r : Fin 512) (l : Fin 256), y = ix2 r l := ⟨y 0, y 1, eq_ix2 y⟩
  show part18 m c t (ix2 r l) = res18 m c ((win0_18.rect t).emb (ix2 r l))
  rw [emb_18]
  rfl

theorem cover_18 (i : S32768x256.Idx) : ∃ t : Fin cfg0.N, (cfg0.win 18).flush t = true ∧ i ∈ ((cfg0.win 18).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_18 t, ?_⟩
  show i ∈ ((View.whole main_v76_6).slice (win0_18.rect t)).set
  rw [View.set_slice_whole]
  have e : (win0_18.rect t).emb (ix2 ⟨(i 0).val % 512, by omega⟩ (i 1) : S512x256.Idx) = i := by
    refine (emb_18 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_18 : (dats m 0 c).arrAt 18 cfg0.N = res18 m c :=
  (dats m 0 c).arrAt_eq_of_cover 18 (res18 m c) (fun t _ => flushed_18 m c t) cover_18

/-- The block of result 7 at the point. -/
def part19 : (⟨2, ![512, 256]⟩ : Shape).Idx → EReal := fun y =>
  (fun (r : Fin 512) (l : Fin 256) => res19 m c (ix2 (row t r) l)) (y 0) (y 1)

theorem out_19 : out0_19 (F := Ideal) (blk0 m c t) (blk1 m c t) (blk8 m c t) (blk9 m c t) = part19 m c t := by
  funext y
  unfold out0_19
  simp only [ld_0, ld_1, ld_14, ld_15]
  refine View.canon_apply_of_pieces (Val := Elt Ideal) (part19 m c t) _ ?_ y (cover0_19 _ y)
  intro pc hp z
  simp only [List.mem_cons, List.not_mem_nil, or_false] at hp
  obtain rfl := hp
  obtain ⟨r, l, rfl⟩ : ∃ (r : Fin 512) (l : Fin 256), z = ix2 r l := ⟨z 0, z 1, eq_ix2 z⟩
  refine Eq.trans (decay_lane m c t r l) ?_
  refine congrArg₂ (fun (a : Fin 512) (b : Fin 256) => res19 m c (ix2 (row t a) b)) (Fin.ext ?_) (Fin.ext ?_)
  · show r.val = 0 + 1 * r.val
    omega
  · show l.val = 0 + 1 * l.val
    omega

theorem flushed_19 : (dats m 0 c).flushed 19 t = ((cfg0.win 19).blk t).view.read (Elt Ideal) (res19 m c) := by
  show (cfg0.win 19).cut (grid0.coords t) ((dats m 0 c).after 19 t) = _
  rw [after0_19, out_19]
  funext y
  obtain ⟨r, l, rfl⟩ : ∃ (r : Fin 512) (l : Fin 256), y = ix2 r l := ⟨y 0, y 1, eq_ix2 y⟩
  show part19 m c t (ix2 r l) = res19 m c ((win0_19.rect t).emb (ix2 r l))
  rw [emb_19]
  rfl

theorem cover_19 (i : S32768x256.Idx) : ∃ t : Fin cfg0.N, (cfg0.win 19).flush t = true ∧ i ∈ ((cfg0.win 19).blk t).view.set := by
  have h0 : (i 0).val < 32768 := (i 0).isLt
  obtain ⟨t, ht⟩ := grid0.coords_surjective (fun a => match a with
    | ⟨0, _⟩ => (⟨(i 0).val / 512, by omega⟩ : Fin 64))
  have eb : (blkOf t).val = (i 0).val / 512 := congrArg (fun f : grid0.Coords => (f 0).val) ht
  refine ⟨t, flush0_19 t, ?_⟩
  show i ∈ ((View.whole main_v76_7).slice (win0_19.rect t)).set
  rw [View.set_slice_whole]
  have e : (win0_19.rect t).emb (ix2 ⟨(i 0).val % 512, by omega⟩ (i 1) : S512x256.Idx) = i := by
    refine (emb_19 t ⟨(i 0).val % 512, by omega⟩ (i 1)).trans (funext fun a => ?_)
    match a with
    | ⟨0, _⟩ => exact Fin.ext (by show (blkOf t).val * 512 + (i 0).val % 512 = (i 0).val; omega)
    | ⟨1, _⟩ => rfl
  rw [← e, ← Rect.map_emb_univ]
  exact Finset.mem_map_of_mem _ (Finset.mem_univ _)

theorem final_19 : (dats m 0 c).arrAt 19 cfg0.N = res19 m c :=
  (dats m 0 c).arrAt_eq_of_cover 19 (res19 m c) (fun t _ => flushed_19 m c t) cover_19

/-- The block of result 8 at the point. -/
def part20 : (⟨2, ![512, 256]⟩ : Shape).Idx → EReal := fun y =>
  (fun (r : Fin 512) (l : Fin 256) => res20 m c (ix2 (pos (row t r)) ⟨(blkOf t).val / 8 * 256 + (l).val, by omega⟩)) (y 0) (y 1)

theorem out_20 : out0_20 (F := Ideal) (blk0 m c t) (blk1 m c t) (blk10 m c t) = part20 m c t := by
  funext y
  unfold out0_20
  simp only [ld_0, ld_1, ld_16]
  refine View.canon_apply_of_pieces (Val := Elt Ideal) (part20 m c t) _ ?_ y (cover0_20 _ y)
  intro pc hp z
  simp only [List.mem_cons, List.not_mem_nil, or_false] at hp
  obtain rfl := hp
  obtain ⟨r, l, rfl⟩ : ∃ (r : Fin 512) (l : Fin 256), z = ix2 r l := ⟨z 0, z 1, eq_ix2 z⟩
  refine Eq.trans ((mixedC_apply _ r _ l).trans (channel_lane m c t _ (arg8 m c) (blk10_apply m c t) r l)) ?_
  refine congrArg₂ (fun (a : Fin 512) (b : Fin 256) => res20 m c (ix2 (pos (row t a)) ⟨(blkOf t).val / 8 * 256 + (b).val, by omega⟩)) (Fin.ext ?_) (Fin.ext ?_)
  · show r.val = 0 + 1 * r.val
    omega
  · show l.val = 0 + 1 * l.val
    omega

theorem flushed_20 : (dats m 0 c).flushed 20 t = ((cfg0.win 20).blk t).view.read (Elt Ideal) (res20 m c) := by
  show (cfg0.win 20).cut (grid0.coords t) ((dats m 0 c).after 20 t) = _
  rw [after0_20, out_20]
  funext y
  obtain ⟨r, l, rfl⟩ : ∃ (r : Fin 512) (l : Fin 256), y = ix2 r l := ⟨y 0, y 1, eq_ix2 y⟩
  show part20 m c t (ix2 r l) = res20 m c ((win0_20.rect t).emb (ix2 r l))
  rw [emb_20]
  rfl

theorem cover_20 (i : S4096x2048.Idx) : ∃ t : Fin cfg0.N, (cfg0.win 20).flush t = true ∧ i ∈ ((cfg0.win 20).blk t).view.set := by
  have h0 : (i 0).val < 4096 := (i 0).isLt
  have h1 : (i 1).val < 2048 := (i 1).isLt
  obtain ⟨t, ht⟩ := grid0.coords_surjective (fun a => match a with
    | ⟨0, _⟩ => (⟨(i 1).val / 256 * 8 + (i 0).val / 512, by omega⟩ : Fin 64))
  have eb : (blkOf t).val = (i 1).val / 256 * 8 + (i 0).val / 512 := congrArg (fun f : grid0.Coords => (f 0).val) ht
  refine ⟨t, flush0_20 t, ?_⟩
  show i ∈ ((View.whole main_v76_8).slice (win0_20.rect t)).set
  rw [View.set_slice_whole]
  have e : (win0_20.rect t).emb (ix2 ⟨(i 0).val % 512, by omega⟩ ⟨(i 1).val % 256, by omega⟩ : S512x256.Idx) = i := by
    rw [emb_20]
    funext a
    match a with
    | ⟨0, _⟩ => exact Fin.ext (by
        show (pos (row t ⟨(i 0).val % 512, _⟩)).val = (i 0).val
        rw [pos_row]
        show (blkOf t).val % 8 * 512 + (i 0).val % 512 = (i 0).val
        omega)
    | ⟨1, _⟩ => exact Fin.ext (by show (blkOf t).val / 8 * 256 + (i 1).val % 256 = (i 1).val; omega)
  rw [← e, ← Rect.map_emb_univ]
  exact Finset.mem_map_of_mem _ (Finset.mem_univ _)

theorem final_20 : (dats m 0 c).arrAt 20 cfg0.N = res20 m c :=
  (dats m 0 c).arrAt_eq_of_cover 20 (res20 m c) (fun t _ => flushed_20 m c t) cover_20

/-- The block of result 9 at the point. -/
def part21 : (⟨2, ![512, 256]⟩ : Shape).Idx → EReal := fun y =>
  (fun (r : Fin 512) (l : Fin 256) => res21 m c (ix2 (pos (row t r)) ⟨(blkOf t).val / 8 * 256 + (l).val, by omega⟩)) (y 0) (y 1)

theorem out_21 : out0_21 (F := Ideal) (blk0 m c t) (blk1 m c t) (blk11 m c t) = part21 m c t := by
  funext y
  unfold out0_21
  simp only [ld_0, ld_1, ld_16]
  refine View.canon_apply_of_pieces (Val := Elt Ideal) (part21 m c t) _ ?_ y (cover0_21 _ y)
  intro pc hp z
  simp only [List.mem_cons, List.not_mem_nil, or_false] at hp
  obtain rfl := hp
  obtain ⟨r, l, rfl⟩ : ∃ (r : Fin 512) (l : Fin 256), z = ix2 r l := ⟨z 0, z 1, eq_ix2 z⟩
  refine Eq.trans ((mixedS_apply _ r _ l).trans (channel_lane m c t _ (arg9 m c) (blk11_apply m c t) r l)) ?_
  refine congrArg₂ (fun (a : Fin 512) (b : Fin 256) => res21 m c (ix2 (pos (row t a)) ⟨(blkOf t).val / 8 * 256 + (b).val, by omega⟩)) (Fin.ext ?_) (Fin.ext ?_)
  · show r.val = 0 + 1 * r.val
    omega
  · show l.val = 0 + 1 * l.val
    omega

theorem flushed_21 : (dats m 0 c).flushed 21 t = ((cfg0.win 21).blk t).view.read (Elt Ideal) (res21 m c) := by
  show (cfg0.win 21).cut (grid0.coords t) ((dats m 0 c).after 21 t) = _
  rw [after0_21, out_21]
  funext y
  obtain ⟨r, l, rfl⟩ : ∃ (r : Fin 512) (l : Fin 256), y = ix2 r l := ⟨y 0, y 1, eq_ix2 y⟩
  show part21 m c t (ix2 r l) = res21 m c ((win0_21.rect t).emb (ix2 r l))
  rw [emb_21]
  rfl

theorem cover_21 (i : S4096x2048.Idx) : ∃ t : Fin cfg0.N, (cfg0.win 21).flush t = true ∧ i ∈ ((cfg0.win 21).blk t).view.set := by
  have h0 : (i 0).val < 4096 := (i 0).isLt
  have h1 : (i 1).val < 2048 := (i 1).isLt
  obtain ⟨t, ht⟩ := grid0.coords_surjective (fun a => match a with
    | ⟨0, _⟩ => (⟨(i 1).val / 256 * 8 + (i 0).val / 512, by omega⟩ : Fin 64))
  have eb : (blkOf t).val = (i 1).val / 256 * 8 + (i 0).val / 512 := congrArg (fun f : grid0.Coords => (f 0).val) ht
  refine ⟨t, flush0_21 t, ?_⟩
  show i ∈ ((View.whole main_v76_9).slice (win0_21.rect t)).set
  rw [View.set_slice_whole]
  have e : (win0_21.rect t).emb (ix2 ⟨(i 0).val % 512, by omega⟩ ⟨(i 1).val % 256, by omega⟩ : S512x256.Idx) = i := by
    rw [emb_21]
    funext a
    match a with
    | ⟨0, _⟩ => exact Fin.ext (by
        show (pos (row t ⟨(i 0).val % 512, _⟩)).val = (i 0).val
        rw [pos_row]
        show (blkOf t).val % 8 * 512 + (i 0).val % 512 = (i 0).val
        omega)
    | ⟨1, _⟩ => exact Fin.ext (by show (blkOf t).val / 8 * 256 + (i 1).val % 256 = (i 1).val; omega)
  rw [← e, ← Rect.map_emb_univ]
  exact Finset.mem_map_of_mem _ (Finset.mem_univ _)

theorem final_21 : (dats m 0 c).arrAt 21 cfg0.N = res21 m c :=
  (dats m 0 c).arrAt_eq_of_cover 21 (res21 m c) (fun t _ => flushed_21 m c t) cover_21

set_option maxHeartbeats 4000000 in
/-- The run: the ten arrays hold the projection's results, and the arguments are unchanged. -/
theorem run : θ_run defs (onTc (τ := τ) (main (F := Ideal))) ⟨m, fun _ => 0, ρ⟩ fun r => ∀ c : Dev nD,
      r.2.mem ((c : Thread nD τ).loc main_v76_0) = res12 m c
      ∧ r.2.mem ((c : Thread nD τ).loc main_v76_1) = res13 m c
      ∧ r.2.mem ((c : Thread nD τ).loc main_v76_2) = res14 m c
      ∧ r.2.mem ((c : Thread nD τ).loc main_v76_3) = res15 m c
      ∧ r.2.mem ((c : Thread nD τ).loc main_v76_4) = res16 m c
      ∧ r.2.mem ((c : Thread nD τ).loc main_v76_5) = res17 m c
      ∧ r.2.mem ((c : Thread nD τ).loc main_v76_6) = res18 m c
      ∧ r.2.mem ((c : Thread nD τ).loc main_v76_7) = res19 m c
      ∧ r.2.mem ((c : Thread nD τ).loc main_v76_8) = res20 m c
      ∧ r.2.mem ((c : Thread nD τ).loc main_v76_9) = res21 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1 c).1 12).trans (final_12 m c), ((h.1 c).1 13).trans (final_13 m c), ((h.1 c).1 14).trans (final_14 m c), ((h.1 c).1 15).trans (final_15 m c), ((h.1 c).1 16).trans (final_16 m c), ((h.1 c).1 17).trans (final_17 m c), ((h.1 c).1 18).trans (final_18 m c), ((h.1 c).1 19).trans (final_19 m c), ((h.1 c).1 20).trans (final_20 m c), ((h.1 c).1 21).trans (final_21 m c), h.2 c⟩)
    (θ_run_and (run_main m ρ) (unchanged m ρ))

end Cert.ProjIdeal.Results

end
-- ==== Proof.ProjectionRef.lean ====
/-
  The in-projection's reference, read index by index: its ten results are `Projection`'s functions of the arguments.
-/
module

public import proofs.«01_k».proof.Proof.Projection
public import proofs.«01_k».proof.Proof.ProjectionPieces
public import proofs.«01_k».proof.Proof.Gen.ProjRefIdeal.Read
public import Idealize.ShloMosaic.Lib.ValueIdxRank6

@[expose] public section

set_option maxRecDepth 16384

noncomputable section

namespace Cert.ProjRefIdeal.Results

open Cert.ProjRefIdeal Cert.ProjRefIdeal.Gen Cert.ProjRefIdeal.Read
open Idealize.ShloMosaic Idealize.ShloMosaic.TcCoe Idealize.ShloMosaic.ValueIdx
open Cert.Projection

variable (x0 : HShape.Idx → EReal) (x1 : WShape.Idx → EReal) (x2 x3 : RopeShape.Idx → EReal) (x4 x5 : GainShape.Idx → EReal)
  (x6 : GateShape.Idx → EReal) (x7 : BiasShape.Idx → EReal) (x8 x9 : ChanShape.Idx → EReal)

/-! ## The projection's columns -/

theorem whole_apply (n : Fin 32768) (c : Fin 1824) : val_main_v0 (F := Ideal) x0 x1 (ix2 n c) = proj x0 x1 n c := by
  refine (val_main_v0_apply x0 x1 (ix2 n c)).trans (Finset.sum_congr rfl fun d _ => ?_)
  refine congrArg₂ (fun i j => x0 i * x1 j) (funext fun a => ?_) (funext fun a => ?_)
  · match a with
    | ⟨0, _⟩ => rfl
    | ⟨1, _⟩ => rfl
  · match a with
    | ⟨0, _⟩ => rfl
    | ⟨1, _⟩ => rfl

theorem cols1_apply (n : Fin 32768) (j : Fin 512) : val_main_v1 (F := Ideal) x0 x1 (ix2 n j) = proj x0 x1 n ⟨0 + j.val, by omega⟩ := by
  unfold val_main_v1
  exact (cut_apply _ 0 _ n j ⟨0 + j.val, by omega⟩ rfl).trans (whole_apply x0 x1 n _)

theorem cols2_apply (n : Fin 32768) (j : Fin 128) : val_main_v2 (F := Ideal) x0 x1 (ix2 n j) = proj x0 x1 n ⟨512 + j.val, by omega⟩ := by
  unfold val_main_v2
  exact (cut_apply _ 512 _ n j ⟨512 + j.val, by omega⟩ rfl).trans (whole_apply x0 x1 n _)

theorem cols3_apply (n : Fin 32768) (j : Fin 128) : val_main_v3 (F := Ideal) x0 x1 (ix2 n j) = proj x0 x1 n ⟨640 + j.val, by omega⟩ := by
  unfold val_main_v3
  exact (cut_apply _ 640 _ n j ⟨640 + j.val, by omega⟩ rfl).trans (whole_apply x0 x1 n _)

theorem cols4_apply (n : Fin 32768) (j : Fin 128) : val_main_v4 (F := Ideal) x0 x1 (ix2 n j) = proj x0 x1 n ⟨768 + j.val, by omega⟩ := by
  unfold val_main_v4
  exact (cut_apply _ 768 _ n j ⟨768 + j.val, by omega⟩ rfl).trans (whole_apply x0 x1 n _)

theorem cols5_apply (n : Fin 32768) (j : Fin 128) : val_main_v5 (F := Ideal) x0 x1 (ix2 n j) = proj x0 x1 n ⟨896 + j.val, by omega⟩ := by
  unfold val_main_v5
  exact (cut_apply _ 896 _ n j ⟨896 + j.val, by omega⟩ rfl).trans (whole_apply x0 x1 n _)

theorem cols6_apply (n : Fin 32768) (j : Fin 256) : val_main_v6 (F := Ideal) x0 x1 (ix2 n j) = proj x0 x1 n ⟨1024 + j.val, by omega⟩ := by
  unfold val_main_v6
  exact (cut_apply _ 1024 _ n j ⟨1024 + j.val, by omega⟩ rfl).trans (whole_apply x0 x1 n _)

theorem cols7_apply (n : Fin 32768) (j : Fin 256) : val_main_v7 (F := Ideal) x0 x1 (ix2 n j) = proj x0 x1 n ⟨1280 + j.val, by omega⟩ := by
  unfold val_main_v7
  exact (cut_apply _ 1280 _ n j ⟨1280 + j.val, by omega⟩ rfl).trans (whole_apply x0 x1 n _)

theorem cols8_apply (n : Fin 32768) (j : Fin 32) : val_main_v8 (F := Ideal) x0 x1 (ix2 n j) = proj x0 x1 n ⟨1536 + j.val, by omega⟩ := by
  unfold val_main_v8
  exact (cut_apply _ 1536 _ n j ⟨1536 + j.val, by omega⟩ rfl).trans (whole_apply x0 x1 n _)

theorem cols9_apply (n : Fin 32768) (j : Fin 256) : val_main_v9 (F := Ideal) x0 x1 (ix2 n j) = proj x0 x1 n ⟨1568 + j.val, by omega⟩ := by
  unfold val_main_v9
  exact (cut_apply _ 1568 _ n j ⟨1568 + j.val, by omega⟩ rfl).trans (whole_apply x0 x1 n _)

/-! ## The query heads -/

theorem query_lanes (b : Fin 8) (s : Fin 4096) (hd : Fin 8) (x : Fin 64) :
    val_main_v12 (F := Ideal) x0 x1 (ix4 b s hd x) = headQ x0 x1 (token b s) hd x := by
  unfold val_main_v12
  refine (shapeCast_apply _ _ (ix4 b s hd x) (ix2 (token b s) ⟨hd.val * 64 + x.val, by omega⟩) ?_).trans ?_
  · rw [Shape.rowMajor_val_two, Shape.rowMajor_val_four]
    show (b.val * 4096 + s.val) * 512 + (hd.val * 64 + x.val) = ((b.val * 4096 + s.val) * 8 + hd.val) * 64 + x.val
    omega
  · refine (cols1_apply x0 x1 _ _).trans (congrArg (proj x0 x1 (token b s)) (Fin.ext ?_))
    show 0 + (hd.val * 64 + x.val) = hd.val * 64 + x.val
    omega

theorem query_scale (b : Fin 8) (s : Fin 4096) (hd : Fin 8) (x : Fin 64) :
    val_main_v22 (F := Ideal) x0 x1 (ix4 b s hd x)
      = Ideal.rsqrt ((∑ z : Fin 64, headQ x0 x1 (token b s) hd z * headQ x0 x1 (token b s) hd z) * inv64 + eps) := by
  refine (val_main_v22_apply (F := Ideal) x0 x1 (ix4 b s hd x)).trans ?_
  show Ideal.rsqrt (Ideal.div (val_main_v16 (F := Ideal) x0 x1 (idx_main_v22 (ix4 b s hd x))) (Ideal.ofBits .f32 0x42800000#32) + eps) = _
  rw [div_64, val_main_v16_apply (F := Ideal)]
  refine congrArg (fun z : EReal => Ideal.rsqrt (z * inv64 + eps)) ?_
  refine (val_main_v15_apply x0 x1 _).trans ?_
  refine (congrArg (· + _) (Ideal.ofBits_zero_f32 : _ = (0 : EReal))).trans ((zero_add _).trans (Finset.sum_congr rfl fun z _ => ?_))
  have e : val_main_v12 (F := Ideal) x0 x1 (idx_main_v15 (idx_main_v16 (idx_main_v22 (ix4 b s hd x))) z) = headQ x0 x1 (token b s) hd z := by
    refine (congrArg (val_main_v12 (F := Ideal) x0 x1) (funext fun a => ?_)).trans (query_lanes x0 x1 b s hd z)
    match a with
    | ⟨0, _⟩ => rfl
    | ⟨1, _⟩ => rfl
    | ⟨2, _⟩ => rfl
    | ⟨3, _⟩ => rfl
  exact congrArg₂ (· * ·) e e

theorem query_gain (i : (⟨4, ![8, 4096, 8, 64]⟩ : Shape).Idx) (x : Fin 64) (hx : (i 3).val = x.val) :
    val_main_v25 (F := Ideal) x4 i = x4 (ix2 0 x) := by
  refine (val_main_v25_apply (F := Ideal) x4 i).trans ((val_main_v24_apply (F := Ideal) x4 _).trans ?_)
  unfold val_main_v13
  refine shapeCast_apply _ _ _ (ix2 0 x) ?_
  rw [Shape.rowMajor_val_two, Shape.rowMajor_val_one]
  show 0 * 64 + x.val = (i 3).val
  omega

theorem query_normed (b : Fin 8) (s : Fin 4096) (hd : Fin 8) (x : Fin 64) :
    val_main_v26 (F := Ideal) x0 x1 x4 (ix4 b s hd x) = normed (headQ x0 x1 (token b s) hd) (fun x => x4 (ix2 0 x)) x := by
  show val_main_v12 (F := Ideal) x0 x1 (ix4 b s hd x) * val_main_v22 (F := Ideal) x0 x1 (ix4 b s hd x) * val_main_v25 (F := Ideal) x4 (ix4 b s hd x) = _
  rw [query_lanes, query_scale, query_gain x4 _ x rfl]
  rfl

theorem query_half0 (b : Fin 8) (s : Fin 4096) (hd : Fin 8) (a : Fin 2) (f : Fin 16) :
    val_main_v29 (F := Ideal) x0 x1 x4 (ix5 b s hd a f)
      = normed (headQ x0 x1 (token b s) hd) (fun x => x4 (ix2 0 x)) ⟨a.val * 32 + 0 + f.val, by omega⟩ := by
  unfold val_main_v29
  refine (shapeCast_apply _ _ (ix5 b s hd a f) (ix6 b s hd a (0 : Fin 1) f) ?_).trans ?_
  · rw [Shape.rowMajor_val_five, Shape.rowMajor_val_six]
    show ((((b.val * 4096 + s.val) * 8 + hd.val) * 2 + a.val) * 1 + 0) * 16 + f.val
      = (((b.val * 4096 + s.val) * 8 + hd.val) * 2 + a.val) * 16 + f.val
    omega
  · refine (val_main_v28_apply (F := Ideal) x0 x1 x4 _).trans ?_
    have e : idx_main_v28 (ix6 b s hd a (0 : Fin 1) f) = ix6 b s hd a (0 : Fin 2) f := funext fun i => by
      match i with
      | ⟨0, _⟩ => rfl
      | ⟨1, _⟩ => rfl
      | ⟨2, _⟩ => rfl
      | ⟨3, _⟩ => rfl
      | ⟨4, _⟩ => rfl
      | ⟨5, _⟩ => rfl
    rw [e]
    unfold val_main_v27
    refine (shapeCast_apply _ _ (ix6 b s hd a (0 : Fin 2) f) (ix4 b s hd (⟨a.val * 32 + 0 + f.val, by omega⟩ : Fin 64)) ?_).trans (query_normed x0 x1 x4 b s hd _)
    rw [Shape.rowMajor_val_six, Shape.rowMajor_val_four]
    show ((b.val * 4096 + s.val) * 8 + hd.val) * 64 + (a.val * 32 + 0 + f.val)
      = ((((b.val * 4096 + s.val) * 8 + hd.val) * 2 + a.val) * 2 + 0) * 16 + f.val
    omega

theorem query_half1 (b : Fin 8) (s : Fin 4096) (hd : Fin 8) (a : Fin 2) (f : Fin 16) :
    val_main_v31 (F := Ideal) x0 x1 x4 (ix5 b s hd a f)
      = normed (headQ x0 x1 (token b s) hd) (fun x => x4 (ix2 0 x)) ⟨a.val * 32 + 16 + f.val, by omega⟩ := by
  unfold val_main_v31
  refine (shapeCast_apply _ _ (ix5 b s hd a f) (ix6 b s hd a (0 : Fin 1) f) ?_).trans ?_
  · rw [Shape.rowMajor_val_five, Shape.rowMajor_val_six]
    show ((((b.val * 4096 + s.val) * 8 + hd.val) * 2 + a.val) * 1 + 0) * 16 + f.val
      = (((b.val * 4096 + s.val) * 8 + hd.val) * 2 + a.val) * 16 + f.val
    omega
  · refine (val_main_v30_apply (F := Ideal) x0 x1 x4 _).trans ?_
    have e : idx_main_v30 (ix6 b s hd a (0 : Fin 1) f) = ix6 b s hd a (1 : Fin 2) f := funext fun i => by
      match i with
      | ⟨0, _⟩ => rfl
      | ⟨1, _⟩ => rfl
      | ⟨2, _⟩ => rfl
      | ⟨3, _⟩ => rfl
      | ⟨4, _⟩ => rfl
      | ⟨5, _⟩ => rfl
    rw [e]
    unfold val_main_v27
    refine (shapeCast_apply _ _ (ix6 b s hd a (1 : Fin 2) f) (ix4 b s hd (⟨a.val * 32 + 16 + f.val, by omega⟩ : Fin 64)) ?_).trans (query_normed x0 x1 x4 b s hd _)
    rw [Shape.rowMajor_val_six, Shape.rowMajor_val_four]
    show ((b.val * 4096 + s.val) * 8 + hd.val) * 64 + (a.val * 32 + 16 + f.val)
      = ((((b.val * 4096 + s.val) * 8 + hd.val) * 2 + a.val) * 2 + 1) * 16 + f.val
    omega

theorem query_angle33 (b : Fin 8) (s : Fin 4096) (hd : Fin 8) (a : Fin 2) (f : Fin 16) :
    val_main_v33 (F := Ideal) x2 (ix5 b s hd a f) = x2 (ix3 s a f) := by
  refine (val_main_v33_apply (F := Ideal) x2 _).trans ((val_main_v32_apply (F := Ideal) x2 _).trans ((val_main_v10_apply (F := Ideal) x2 _).trans (congrArg x2 (funext fun i => ?_))))
  match i with
  | ⟨0, _⟩ => rfl
  | ⟨1, _⟩ => rfl
  | ⟨2, _⟩ => rfl

theorem query_angle36 (b : Fin 8) (s : Fin 4096) (hd : Fin 8) (a : Fin 2) (f : Fin 16) :
    val_main_v36 (F := Ideal) x3 (ix5 b s hd a f) = x3 (ix3 s a f) := by
  refine (val_main_v36_apply (F := Ideal) x3 _).trans ((val_main_v35_apply (F := Ideal) x3 _).trans ((val_main_v11_apply (F := Ideal) x3 _).trans (congrArg x3 (funext fun i => ?_))))
  match i with
  | ⟨0, _⟩ => rfl
  | ⟨1, _⟩ => rfl
  | ⟨2, _⟩ => rfl

theorem query_angle40 (b : Fin 8) (s : Fin 4096) (hd : Fin 8) (a : Fin 2) (f : Fin 16) :
    val_main_v40 (F := Ideal) x3 (ix5 b s hd a f) = x3 (ix3 s a f) := by
  refine (val_main_v40_apply (F := Ideal) x3 _).trans ((val_main_v39_apply (F := Ideal) x3 _).trans ((val_main_v11_apply (F := Ideal) x3 _).trans (congrArg x3 (funext fun i => ?_))))
  match i with
  | ⟨0, _⟩ => rfl
  | ⟨1, _⟩ => rfl
  | ⟨2, _⟩ => rfl

theorem query_angle43 (b : Fin 8) (s : Fin 4096) (hd : Fin 8) (a : Fin 2) (f : Fin 16) :
    val_main_v43 (F := Ideal) x2 (ix5 b s hd a f) = x2 (ix3 s a f) := by
  refine (val_main_v43_apply (F := Ideal) x2 _).trans ((val_main_v42_apply (F := Ideal) x2 _).trans ((val_main_v10_apply (F := Ideal) x2 _).trans (congrArg x2 (funext fun i => ?_))))
  match i with
  | ⟨0, _⟩ => rfl
  | ⟨1, _⟩ => rfl
  | ⟨2, _⟩ => rfl

theorem query_pair0 (b : Fin 8) (s : Fin 4096) (hd : Fin 8) (a : Fin 2) (f : Fin 16) :
    val_main_v48 (F := Ideal) x0 x1 x2 x3 x4 (ix6 b s hd a 0 f) = val_main_v38 (F := Ideal) x0 x1 x2 x3 x4 (ix5 b s hd a f) := by
  unfold val_main_v48
  refine Eq.trans (concatenate_apply_piece (t := ⟨6, ![8, 4096, 8, 2, 2, 16]⟩) 4 _ _ (ix6 b s hd a 0 f) 0 (by show 0 < 2; decide) ⟨6, ![8, 4096, 8, 2, 1, 16]⟩
    (val_main_v46 (F := Ideal) x0 x1 x2 x3 x4) rfl rfl 0 rfl (ix6 b s hd a (0 : Fin 1) f) (fun i hi => ?_) rfl) ?_
  · match i with
    | ⟨0, _⟩ => rfl
    | ⟨1, _⟩ => rfl
    | ⟨2, _⟩ => rfl
    | ⟨3, _⟩ => rfl
    | ⟨4, _⟩ => exact absurd rfl hi
    | ⟨5, _⟩ => rfl
  · refine (val_main_v46_apply (F := Ideal) x0 x1 x2 x3 x4 _).trans (congrArg (val_main_v38 (F := Ideal) x0 x1 x2 x3 x4) (funext fun i => ?_))
    match i with
    | ⟨0, _⟩ => rfl
    | ⟨1, _⟩ => rfl
    | ⟨2, _⟩ => rfl
    | ⟨3, _⟩ => rfl
    | ⟨4, _⟩ => rfl

theorem query_pair1 (b : Fin 8) (s : Fin 4096) (hd : Fin 8) (a : Fin 2) (f : Fin 16) :
    val_main_v48 (F := Ideal) x0 x1 x2 x3 x4 (ix6 b s hd a 1 f) = val_main_v45 (F := Ideal) x0 x1 x2 x3 x4 (ix5 b s hd a f) := by
  unfold val_main_v48
  refine Eq.trans (concatenate_apply_piece (t := ⟨6, ![8, 4096, 8, 2, 2, 16]⟩) 4 _ _ (ix6 b s hd a 1 f) 1 (by show 1 < 2; decide) ⟨6, ![8, 4096, 8, 2, 1, 16]⟩
    (val_main_v47 (F := Ideal) x0 x1 x2 x3 x4) rfl rfl 1 rfl (ix6 b s hd a (0 : Fin 1) f) (fun i hi => ?_) rfl) ?_
  · match i with
    | ⟨0, _⟩ => rfl
    | ⟨1, _⟩ => rfl
    | ⟨2, _⟩ => rfl
    | ⟨3, _⟩ => rfl
    | ⟨4, _⟩ => exact absurd rfl hi
    | ⟨5, _⟩ => rfl
  · refine (val_main_v47_apply (F := Ideal) x0 x1 x2 x3 x4 _).trans (congrArg (val_main_v45 (F := Ideal) x0 x1 x2 x3 x4) (funext fun i => ?_))
    match i with
    | ⟨0, _⟩ => rfl
    | ⟨1, _⟩ => rfl
    | ⟨2, _⟩ => rfl
    | ⟨3, _⟩ => rfl
    | ⟨4, _⟩ => rfl

theorem query_turned (b : Fin 8) (s : Fin 4096) (hd : Fin 8) (x : Fin 64) :
    val_main_v49 (F := Ideal) x0 x1 x2 x3 x4 (ix4 b s hd x) = roped x2 x3 x4 (headQ x0 x1 (token b s) hd) (token b s) x := by
  have hx := x.isLt
  have ep : pos (token b s) = s := Fin.ext (by show (b.val * 4096 + s.val) % 4096 = s.val; omega)
  unfold val_main_v49 roped turned
  rw [ep]
  have cell : ∀ u : Fin 2, x.val % 32 / 16 = u.val → ((⟨6, ![8, 4096, 8, 2, 2, 16]⟩ : Shape).rowMajor
        (ix6 b s hd (⟨x.val / 32, by omega⟩ : Fin 2) u (⟨x.val % 16, by omega⟩ : Fin 16))).val
      = ((⟨4, ![8, 4096, 8, 64]⟩ : Shape).rowMajor (ix4 b s hd x)).val := fun u hu => by
    rw [Shape.rowMajor_val_six, Shape.rowMajor_val_four]
    show ((((b.val * 4096 + s.val) * 8 + hd.val) * 2 + x.val / 32) * 2 + u.val) * 16 + x.val % 16
      = ((b.val * 4096 + s.val) * 8 + hd.val) * 64 + x.val
    omega
  by_cases h : x.val % 32 < 16
  · rw [if_pos h]
    refine (shapeCast_apply _ _ (ix4 b s hd x) (ix6 b s hd ⟨x.val / 32, by omega⟩ 0 ⟨x.val % 16, by omega⟩) (cell 0 (by show x.val % 32 / 16 = 0; omega))).trans ?_
    rw [query_pair0]
    show val_main_v29 (F := Ideal) x0 x1 x4 _ * val_main_v33 (F := Ideal) x2 _ - val_main_v31 (F := Ideal) x0 x1 x4 _ * val_main_v36 (F := Ideal) x3 _ = _
    rw [query_half0, query_half1, query_angle33, query_angle36]
    refine congrArg₂ (fun i j => normed _ _ i * _ - normed _ _ j * _) (Fin.ext ?_) (Fin.ext ?_)
    · show x.val / 32 * 32 + 0 + x.val % 16 = x.val
      omega
    · show x.val / 32 * 32 + 16 + x.val % 16 = (x.val + 16) % 64
      omega
  · rw [if_neg h]
    refine (shapeCast_apply _ _ (ix4 b s hd x) (ix6 b s hd ⟨x.val / 32, by omega⟩ 1 ⟨x.val % 16, by omega⟩) (cell 1 (by show x.val % 32 / 16 = 1; omega))).trans ?_
    rw [query_pair1]
    show val_main_v29 (F := Ideal) x0 x1 x4 _ * val_main_v40 (F := Ideal) x3 _ + val_main_v31 (F := Ideal) x0 x1 x4 _ * val_main_v43 (F := Ideal) x2 _ = _
    rw [query_half0, query_half1, query_angle40, query_angle43]
    refine congrArg₂ (fun i j => normed _ _ i * _ + normed _ _ j * _) (Fin.ext ?_) (Fin.ext ?_)
    · show x.val / 32 * 32 + 0 + x.val % 16 = (x.val + 48) % 64
      omega
    · show x.val / 32 * 32 + 16 + x.val % 16 = x.val
      omega

/-! ## The key heads -/

theorem key_lanes (b : Fin 8) (s : Fin 4096) (hd : Fin 2) (x : Fin 64) :
    val_main_v52 (F := Ideal) x0 x1 (ix4 b s hd x) = headK x0 x1 (token b s) hd x := by
  unfold val_main_v52
  refine (shapeCast_apply _ _ (ix4 b s hd x) (ix2 (token b s) ⟨hd.val * 64 + x.val, by omega⟩) ?_).trans ?_
  · rw [Shape.rowMajor_val_two, Shape.rowMajor_val_four]
    show (b.val * 4096 + s.val) * 128 + (hd.val * 64 + x.val) = ((b.val * 4096 + s.val) * 2 + hd.val) * 64 + x.val
    omega
  · refine (cols2_apply x0 x1 _ _).trans (congrArg (proj x0 x1 (token b s)) (Fin.ext ?_))
    show 512 + (hd.val * 64 + x.val) = 512 + hd.val * 64 + x.val
    omega

theorem key_scale (b : Fin 8) (s : Fin 4096) (hd : Fin 2) (x : Fin 64) :
    val_main_v62 (F := Ideal) x0 x1 (ix4 b s hd x)
      = Ideal.rsqrt ((∑ z : Fin 64, headK x0 x1 (token b s) hd z * headK x0 x1 (token b s) hd z) * inv64 + eps) := by
  refine (val_main_v62_apply (F := Ideal) x0 x1 (ix4 b s hd x)).trans ?_
  show Ideal.rsqrt (Ideal.div (val_main_v56 (F := Ideal) x0 x1 (idx_main_v62 (ix4 b s hd x))) (Ideal.ofBits .f32 0x42800000#32) + eps) = _
  rw [div_64, val_main_v56_apply (F := Ideal)]
  refine congrArg (fun z : EReal => Ideal.rsqrt (z * inv64 + eps)) ?_
  refine (val_main_v55_apply x0 x1 _).trans ?_
  refine (congrArg (· + _) (Ideal.ofBits_zero_f32 : _ = (0 : EReal))).trans ((zero_add _).trans (Finset.sum_congr rfl fun z _ => ?_))
  have e : val_main_v52 (F := Ideal) x0 x1 (idx_main_v55 (idx_main_v56 (idx_main_v62 (ix4 b s hd x))) z) = headK x0 x1 (token b s) hd z := by
    refine (congrArg (val_main_v52 (F := Ideal) x0 x1) (funext fun a => ?_)).trans (key_lanes x0 x1 b s hd z)
    match a with
    | ⟨0, _⟩ => rfl
    | ⟨1, _⟩ => rfl
    | ⟨2, _⟩ => rfl
    | ⟨3, _⟩ => rfl
  exact congrArg₂ (· * ·) e e

theorem key_gain (i : (⟨4, ![8, 4096, 2, 64]⟩ : Shape).Idx) (x : Fin 64) (hx : (i 3).val = x.val) :
    val_main_v65 (F := Ideal) x5 i = x5 (ix2 0 x) := by
  refine (val_main_v65_apply (F := Ideal) x5 i).trans ((val_main_v64_apply (F := Ideal) x5 _).trans ?_)
  unfold val_main_v53
  refine shapeCast_apply _ _ _ (ix2 0 x) ?_
  rw [Shape.rowMajor_val_two, Shape.rowMajor_val_one]
  show 0 * 64 + x.val = (i 3).val
  omega

theorem key_normed (b : Fin 8) (s : Fin 4096) (hd : Fin 2) (x : Fin 64) :
    val_main_v66 (F := Ideal) x0 x1 x5 (ix4 b s hd x) = normed (headK x0 x1 (token b s) hd) (fun x => x5 (ix2 0 x)) x := by
  show val_main_v52 (F := Ideal) x0 x1 (ix4 b s hd x) * val_main_v62 (F := Ideal) x0 x1 (ix4 b s hd x) * val_main_v65 (F := Ideal) x5 (ix4 b s hd x) = _
  rw [key_lanes, key_scale, key_gain x5 _ x rfl]
  rfl

theorem key_half0 (b : Fin 8) (s : Fin 4096) (hd : Fin 2) (a : Fin 2) (f : Fin 16) :
    val_main_v69 (F := Ideal) x0 x1 x5 (ix5 b s hd a f)
      = normed (headK x0 x1 (token b s) hd) (fun x => x5 (ix2 0 x)) ⟨a.val * 32 + 0 + f.val, by omega⟩ := by
  unfold val_main_v69
  refine (shapeCast_apply _ _ (ix5 b s hd a f) (ix6 b s hd a (0 : Fin 1) f) ?_).trans ?_
  · rw [Shape.rowMajor_val_five, Shape.rowMajor_val_six]
    show ((((b.val * 4096 + s.val) * 2 + hd.val) * 2 + a.val) * 1 + 0) * 16 + f.val
      = (((b.val * 4096 + s.val) * 2 + hd.val) * 2 + a.val) * 16 + f.val
    omega
  · refine (val_main_v68_apply (F := Ideal) x0 x1 x5 _).trans ?_
    have e : idx_main_v68 (ix6 b s hd a (0 : Fin 1) f) = ix6 b s hd a (0 : Fin 2) f := funext fun i => by
      match i with
      | ⟨0, _⟩ => rfl
      | ⟨1, _⟩ => rfl
      | ⟨2, _⟩ => rfl
      | ⟨3, _⟩ => rfl
      | ⟨4, _⟩ => rfl
      | ⟨5, _⟩ => rfl
    rw [e]
    unfold val_main_v67
    refine (shapeCast_apply _ _ (ix6 b s hd a (0 : Fin 2) f) (ix4 b s hd (⟨a.val * 32 + 0 + f.val, by omega⟩ : Fin 64)) ?_).trans (key_normed x0 x1 x5 b s hd _)
    rw [Shape.rowMajor_val_six, Shape.rowMajor_val_four]
    show ((b.val * 4096 + s.val) * 2 + hd.val) * 64 + (a.val * 32 + 0 + f.val)
      = ((((b.val * 4096 + s.val) * 2 + hd.val) * 2 + a.val) * 2 + 0) * 16 + f.val
    omega

theorem key_half1 (b : Fin 8) (s : Fin 4096) (hd : Fin 2) (a : Fin 2) (f : Fin 16) :
    val_main_v71 (F := Ideal) x0 x1 x5 (ix5 b s hd a f)
      = normed (headK x0 x1 (token b s) hd) (fun x => x5 (ix2 0 x)) ⟨a.val * 32 + 16 + f.val, by omega⟩ := by
  unfold val_main_v71
  refine (shapeCast_apply _ _ (ix5 b s hd a f) (ix6 b s hd a (0 : Fin 1) f) ?_).trans ?_
  · rw [Shape.rowMajor_val_five, Shape.rowMajor_val_six]
    show ((((b.val * 4096 + s.val) * 2 + hd.val) * 2 + a.val) * 1 + 0) * 16 + f.val
      = (((b.val * 4096 + s.val) * 2 + hd.val) * 2 + a.val) * 16 + f.val
    omega
  · refine (val_main_v70_apply (F := Ideal) x0 x1 x5 _).trans ?_
    have e : idx_main_v70 (ix6 b s hd a (0 : Fin 1) f) = ix6 b s hd a (1 : Fin 2) f := funext fun i => by
      match i with
      | ⟨0, _⟩ => rfl
      | ⟨1, _⟩ => rfl
      | ⟨2, _⟩ => rfl
      | ⟨3, _⟩ => rfl
      | ⟨4, _⟩ => rfl
      | ⟨5, _⟩ => rfl
    rw [e]
    unfold val_main_v67
    refine (shapeCast_apply _ _ (ix6 b s hd a (1 : Fin 2) f) (ix4 b s hd (⟨a.val * 32 + 16 + f.val, by omega⟩ : Fin 64)) ?_).trans (key_normed x0 x1 x5 b s hd _)
    rw [Shape.rowMajor_val_six, Shape.rowMajor_val_four]
    show ((b.val * 4096 + s.val) * 2 + hd.val) * 64 + (a.val * 32 + 16 + f.val)
      = ((((b.val * 4096 + s.val) * 2 + hd.val) * 2 + a.val) * 2 + 1) * 16 + f.val
    omega

theorem key_angle33 (b : Fin 8) (s : Fin 4096) (hd : Fin 2) (a : Fin 2) (f : Fin 16) :
    val_main_v73 (F := Ideal) x2 (ix5 b s hd a f) = x2 (ix3 s a f) := by
  refine (val_main_v73_apply (F := Ideal) x2 _).trans ((val_main_v72_apply (F := Ideal) x2 _).trans ((val_main_v10_apply (F := Ideal) x2 _).trans (congrArg x2 (funext fun i => ?_))))
  match i with
  | ⟨0, _⟩ => rfl
  | ⟨1, _⟩ => rfl
  | ⟨2, _⟩ => rfl

theorem key_angle36 (b : Fin 8) (s : Fin 4096) (hd : Fin 2) (a : Fin 2) (f : Fin 16) :
    val_main_v76 (F := Ideal) x3 (ix5 b s hd a f) = x3 (ix3 s a f) := by
  refine (val_main_v76_apply (F := Ideal) x3 _).trans ((val_main_v75_apply (F := Ideal) x3 _).trans ((val_main_v11_apply (F := Ideal) x3 _).trans (congrArg x3 (funext fun i => ?_))))
  match i with
  | ⟨0, _⟩ => rfl
  | ⟨1, _⟩ => rfl
  | ⟨2, _⟩ => rfl

theorem key_angle40 (b : Fin 8) (s : Fin 4096) (hd : Fin 2) (a : Fin 2) (f : Fin 16) :
    val_main_v80 (F := Ideal) x3 (ix5 b s hd a f) = x3 (ix3 s a f) := by
  refine (val_main_v80_apply (F := Ideal) x3 _).trans ((val_main_v79_apply (F := Ideal) x3 _).trans ((val_main_v11_apply (F := Ideal) x3 _).trans (congrArg x3 (funext fun i => ?_))))
  match i with
  | ⟨0, _⟩ => rfl
  | ⟨1, _⟩ => rfl
  | ⟨2, _⟩ => rfl

theorem key_angle43 (b : Fin 8) (s : Fin 4096) (hd : Fin 2) (a : Fin 2) (f : Fin 16) :
    val_main_v83 (F := Ideal) x2 (ix5 b s hd a f) = x2 (ix3 s a f) := by
  refine (val_main_v83_apply (F := Ideal) x2 _).trans ((val_main_v82_apply (F := Ideal) x2 _).trans ((val_main_v10_apply (F := Ideal) x2 _).trans (congrArg x2 (funext fun i => ?_))))
  match i with
  | ⟨0, _⟩ => rfl
  | ⟨1, _⟩ => rfl
  | ⟨2, _⟩ => rfl

theorem key_pair0 (b : Fin 8) (s : Fin 4096) (hd : Fin 2) (a : Fin 2) (f : Fin 16) :
    val_main_v88 (F := Ideal) x0 x1 x2 x3 x5 (ix6 b s hd a 0 f) = val_main_v78 (F := Ideal) x0 x1 x2 x3 x5 (ix5 b s hd a f) := by
  unfold val_main_v88
  refine Eq.trans (concatenate_apply_piece (t := ⟨6, ![8, 4096, 2, 2, 2, 16]⟩) 4 _ _ (ix6 b s hd a 0 f) 0 (by show 0 < 2; decide) ⟨6, ![8, 4096, 2, 2, 1, 16]⟩
    (val_main_v86 (F := Ideal) x0 x1 x2 x3 x5) rfl rfl 0 rfl (ix6 b s hd a (0 : Fin 1) f) (fun i hi => ?_) rfl) ?_
  · match i with
    | ⟨0, _⟩ => rfl
    | ⟨1, _⟩ => rfl
    | ⟨2, _⟩ => rfl
    | ⟨3, _⟩ => rfl
    | ⟨4, _⟩ => exact absurd rfl hi
    | ⟨5, _⟩ => rfl
  · refine (val_main_v86_apply (F := Ideal) x0 x1 x2 x3 x5 _).trans (congrArg (val_main_v78 (F := Ideal) x0 x1 x2 x3 x5) (funext fun i => ?_))
    match i with
    | ⟨0, _⟩ => rfl
    | ⟨1, _⟩ => rfl
    | ⟨2, _⟩ => rfl
    | ⟨3, _⟩ => rfl
    | ⟨4, _⟩ => rfl

theorem key_pair1 (b : Fin 8) (s : Fin 4096) (hd : Fin 2) (a : Fin 2) (f : Fin 16) :
    val_main_v88 (F := Ideal) x0 x1 x2 x3 x5 (ix6 b s hd a 1 f) = val_main_v85 (F := Ideal) x0 x1 x2 x3 x5 (ix5 b s hd a f) := by
  unfold val_main_v88
  refine Eq.trans (concatenate_apply_piece (t := ⟨6, ![8, 4096, 2, 2, 2, 16]⟩) 4 _ _ (ix6 b s hd a 1 f) 1 (by show 1 < 2; decide) ⟨6, ![8, 4096, 2, 2, 1, 16]⟩
    (val_main_v87 (F := Ideal) x0 x1 x2 x3 x5) rfl rfl 1 rfl (ix6 b s hd a (0 : Fin 1) f) (fun i hi => ?_) rfl) ?_
  · match i with
    | ⟨0, _⟩ => rfl
    | ⟨1, _⟩ => rfl
    | ⟨2, _⟩ => rfl
    | ⟨3, _⟩ => rfl
    | ⟨4, _⟩ => exact absurd rfl hi
    | ⟨5, _⟩ => rfl
  · refine (val_main_v87_apply (F := Ideal) x0 x1 x2 x3 x5 _).trans (congrArg (val_main_v85 (F := Ideal) x0 x1 x2 x3 x5) (funext fun i => ?_))
    match i with
    | ⟨0, _⟩ => rfl
    | ⟨1, _⟩ => rfl
    | ⟨2, _⟩ => rfl
    | ⟨3, _⟩ => rfl
    | ⟨4, _⟩ => rfl

theorem key_turned (b : Fin 8) (s : Fin 4096) (hd : Fin 2) (x : Fin 64) :
    val_main_v89 (F := Ideal) x0 x1 x2 x3 x5 (ix4 b s hd x) = roped x2 x3 x5 (headK x0 x1 (token b s) hd) (token b s) x := by
  have hx := x.isLt
  have ep : pos (token b s) = s := Fin.ext (by show (b.val * 4096 + s.val) % 4096 = s.val; omega)
  unfold val_main_v89 roped turned
  rw [ep]
  have cell : ∀ u : Fin 2, x.val % 32 / 16 = u.val → ((⟨6, ![8, 4096, 2, 2, 2, 16]⟩ : Shape).rowMajor
        (ix6 b s hd (⟨x.val / 32, by omega⟩ : Fin 2) u (⟨x.val % 16, by omega⟩ : Fin 16))).val
      = ((⟨4, ![8, 4096, 2, 64]⟩ : Shape).rowMajor (ix4 b s hd x)).val := fun u hu => by
    rw [Shape.rowMajor_val_six, Shape.rowMajor_val_four]
    show ((((b.val * 4096 + s.val) * 2 + hd.val) * 2 + x.val / 32) * 2 + u.val) * 16 + x.val % 16
      = ((b.val * 4096 + s.val) * 2 + hd.val) * 64 + x.val
    omega
  by_cases h : x.val % 32 < 16
  · rw [if_pos h]
    refine (shapeCast_apply _ _ (ix4 b s hd x) (ix6 b s hd ⟨x.val / 32, by omega⟩ 0 ⟨x.val % 16, by omega⟩) (cell 0 (by show x.val % 32 / 16 = 0; omega))).trans ?_
    rw [key_pair0]
    show val_main_v69 (F := Ideal) x0 x1 x5 _ * val_main_v73 (F := Ideal) x2 _ - val_main_v71 (F := Ideal) x0 x1 x5 _ * val_main_v76 (F := Ideal) x3 _ = _
    rw [key_half0, key_half1, key_angle33, key_angle36]
    refine congrArg₂ (fun i j => normed _ _ i * _ - normed _ _ j * _) (Fin.ext ?_) (Fin.ext ?_)
    · show x.val / 32 * 32 + 0 + x.val % 16 = x.val
      omega
    · show x.val / 32 * 32 + 16 + x.val % 16 = (x.val + 16) % 64
      omega
  · rw [if_neg h]
    refine (shapeCast_apply _ _ (ix4 b s hd x) (ix6 b s hd ⟨x.val / 32, by omega⟩ 1 ⟨x.val % 16, by omega⟩) (cell 1 (by show x.val % 32 / 16 = 1; omega))).trans ?_
    rw [key_pair1]
    show val_main_v69 (F := Ideal) x0 x1 x5 _ * val_main_v80 (F := Ideal) x3 _ + val_main_v71 (F := Ideal) x0 x1 x5 _ * val_main_v83 (F := Ideal) x2 _ = _
    rw [key_half0, key_half1, key_angle40, key_angle43]
    refine congrArg₂ (fun i j => normed _ _ i * _ + normed _ _ j * _) (Fin.ext ?_) (Fin.ext ?_)
    · show x.val / 32 * 32 + 0 + x.val % 16 = (x.val + 48) % 64
      omega
    · show x.val / 32 * 32 + 16 + x.val % 16 = x.val
      omega

/-! ## The first three results -/

theorem token_eq (n : Fin 32768) : token ⟨n.val / 4096, by omega⟩ ⟨n.val % 4096, by omega⟩ = n :=
  Fin.ext (by show n.val / 4096 * 4096 + n.val % 4096 = n.val; omega)

theorem queries_eq : val_main_v114 (F := Ideal) x0 x1 x2 x3 x4 = queries x0 x1 x2 x3 x4 := by
  funext i
  obtain ⟨n, c, rfl⟩ : ∃ (n : Fin 32768) (c : Fin 512), i = ix2 n c := ⟨i 0, i 1, eq_ix2 i⟩
  show val_main_v113 (F := Ideal) x0 x1 x2 x3 x4 (ix2 n c) = _
  unfold val_main_v113
  refine (shapeCast_apply _ _ (ix2 n c) (ix4 ⟨n.val / 4096, by omega⟩ ⟨n.val % 4096, by omega⟩ ⟨c.val / 64, by omega⟩ ⟨c.val % 64, by omega⟩) ?_).trans ?_
  · rw [Shape.rowMajor_val_two, Shape.rowMajor_val_four]
    show ((n.val / 4096 * 4096 + n.val % 4096) * 8 + c.val / 64) * 64 + c.val % 64 = n.val * 512 + c.val
    omega
  · refine (val_main_v51_apply (F := Ideal) x0 x1 x2 x3 x4 _).trans ?_
    rw [query_turned, token_eq]
    exact congrArg (roped x2 x3 x4 (headQ x0 x1 n ⟨c.val / 64, by omega⟩) n ⟨c.val % 64, by omega⟩ * ·) (val_main_v50_apply (F := Ideal) _)

theorem keyRows_apply (n : Fin 32768) (c : Fin 128) : val_main_v104 (F := Ideal) x0 x1 x2 x3 x5 (ix2 n c)
    = roped x2 x3 x5 (headK x0 x1 n ⟨c.val / 64, by omega⟩) n ⟨c.val % 64, by omega⟩ := by
  unfold val_main_v104
  refine (shapeCast_apply _ _ (ix2 n c) (ix4 ⟨n.val / 4096, by omega⟩ ⟨n.val % 4096, by omega⟩ ⟨c.val / 64, by omega⟩ ⟨c.val % 64, by omega⟩) ?_).trans ?_
  · rw [Shape.rowMajor_val_two, Shape.rowMajor_val_four]
    show ((n.val / 4096 * 4096 + n.val % 4096) * 2 + c.val / 64) * 64 + c.val % 64 = n.val * 128 + c.val
    omega
  · rw [key_turned, token_eq]

theorem keys_eq : val_main_v115 (F := Ideal) x0 x1 x2 x3 x5 = keys x0 x1 x2 x3 x5 := by
  funext i
  obtain ⟨n, c, rfl⟩ : ∃ (n : Fin 32768) (c : Fin 256), i = ix2 n c := ⟨i 0, i 1, eq_ix2 i⟩
  show val_main_v111 (F := Ideal) x0 x1 x2 x3 x5 (ix2 n c) = roped x2 x3 x5 (headK x0 x1 n ⟨c.val / 128, _⟩) n ⟨c.val % 64, _⟩
  have hc := c.isLt
  unfold val_main_v111
  have hq : c.val / 64 = 0 ∨ c.val / 64 = 1 ∨ c.val / 64 = 2 ∨ c.val / 64 = 3 := by omega
  rcases hq with h | h | h | h
  · refine Eq.trans (piece _ _ 0 (by show 0 < 4; decide) (val_main_v105 (F := Ideal) x0 x1 x2 x3 x5) rfl 0 rfl n ⟨c.val % 64, by omega⟩ c (by show 0 + c.val % 64 = c.val; omega)) ?_
    unfold val_main_v105
    refine (cut_apply _ 0 _ n _ ⟨0 + c.val % 64, by omega⟩ rfl).trans ((keyRows_apply x0 x1 x2 x3 x5 n _).trans ?_)
    refine congrArg₂ (fun (hd : Fin 2) (x : Fin 64) => roped x2 x3 x5 (headK x0 x1 n hd) n x) (Fin.ext ?_) (Fin.ext ?_)
    · show (0 + c.val % 64) / 64 = c.val / 128
      omega
    · show (0 + c.val % 64) % 64 = c.val % 64
      omega
  · refine Eq.trans (piece _ _ 1 (by show 1 < 4; decide) (val_main_v105 (F := Ideal) x0 x1 x2 x3 x5) rfl 64 rfl n ⟨c.val % 64, by omega⟩ c (by show 64 + c.val % 64 = c.val; omega)) ?_
    unfold val_main_v105
    refine (cut_apply _ 0 _ n _ ⟨0 + c.val % 64, by omega⟩ rfl).trans ((keyRows_apply x0 x1 x2 x3 x5 n _).trans ?_)
    refine congrArg₂ (fun (hd : Fin 2) (x : Fin 64) => roped x2 x3 x5 (headK x0 x1 n hd) n x) (Fin.ext ?_) (Fin.ext ?_)
    · show (0 + c.val % 64) / 64 = c.val / 128
      omega
    · show (0 + c.val % 64) % 64 = c.val % 64
      omega
  · refine Eq.trans (piece _ _ 2 (by show 2 < 4; decide) (val_main_v106 (F := Ideal) x0 x1 x2 x3 x5) rfl 128 rfl n ⟨c.val % 64, by omega⟩ c (by show 128 + c.val % 64 = c.val; omega)) ?_
    unfold val_main_v106
    refine (cut_apply _ 64 _ n _ ⟨64 + c.val % 64, by omega⟩ rfl).trans ((keyRows_apply x0 x1 x2 x3 x5 n _).trans ?_)
    refine congrArg₂ (fun (hd : Fin 2) (x : Fin 64) => roped x2 x3 x5 (headK x0 x1 n hd) n x) (Fin.ext ?_) (Fin.ext ?_)
    · show (64 + c.val % 64) / 64 = c.val / 128
      omega
    · show (64 + c.val % 64) % 64 = c.val % 64
      omega
  · refine Eq.trans (piece _ _ 3 (by show 3 < 4; decide) (val_main_v106 (F := Ideal) x0 x1 x2 x3 x5) rfl 192 rfl n ⟨c.val % 64, by omega⟩ c (by show 192 + c.val % 64 = c.val; omega)) ?_
    unfold val_main_v106
    refine (cut_apply _ 64 _ n _ ⟨64 + c.val % 64, by omega⟩ rfl).trans ((keyRows_apply x0 x1 x2 x3 x5 n _).trans ?_)
    refine congrArg₂ (fun (hd : Fin 2) (x : Fin 64) => roped x2 x3 x5 (headK x0 x1 n hd) n x) (Fin.ext ?_) (Fin.ext ?_)
    · show (64 + c.val % 64) / 64 = c.val / 128
      omega
    · show (64 + c.val % 64) % 64 = c.val % 64
      omega

theorem valueHalf0_apply (n : Fin 32768) (x : Fin 64) : val_main_v107 (F := Ideal) x0 x1 (ix2 n x) = headV x0 x1 n 0 x := by
  unfold val_main_v107
  refine (cut_apply _ 0 _ n x ⟨0 + x.val, by omega⟩ rfl).trans ((cols3_apply x0 x1 n _).trans (congrArg (proj x0 x1 n) (Fin.ext ?_)))
  show 640 + (0 + x.val) = 640 + 0 * 64 + x.val
  omega

theorem valueHalf1_apply (n : Fin 32768) (x : Fin 64) : val_main_v108 (F := Ideal) x0 x1 (ix2 n x) = headV x0 x1 n 1 x := by
  unfold val_main_v108
  refine (cut_apply _ 64 _ n x ⟨64 + x.val, by omega⟩ rfl).trans ((cols3_apply x0 x1 n _).trans (congrArg (proj x0 x1 n) (Fin.ext ?_)))
  show 640 + (64 + x.val) = 640 + 1 * 64 + x.val
  omega

theorem onesCol_apply (i : S32768x1.Idx) : val_main_v109 (F := Ideal) i = 1 := (val_main_v109_apply (F := Ideal) i).trans Ideal.ofBits_one_f32
theorem zeroCols_apply (i : S32768x63.Idx) : val_main_v110 (F := Ideal) i = 0 := (val_main_v110_apply (F := Ideal) i).trans Ideal.ofBits_zero_f32

set_option maxHeartbeats 1000000 in
theorem values_eq : val_main_v116 (F := Ideal) x0 x1 = values x0 x1 := by
  funext i
  obtain ⟨n, c, rfl⟩ : ∃ (n : Fin 32768) (c : Fin 512), i = ix2 n c := ⟨i 0, i 1, eq_ix2 i⟩
  show val_main_v112 (F := Ideal) x0 x1 (ix2 n c) = if c.val / 64 % 2 = c.val / 128 % 2 then headV x0 x1 n ⟨c.val / 256, _⟩ ⟨c.val % 64, _⟩
    else if c.val % 64 = 0 then 1 else 0
  have hc := c.isLt
  unfold val_main_v112
  by_cases h0 : c.val < 64
  · refine Eq.trans (piece _ _ 0 (by show 0 < 12; decide) (val_main_v107 (F := Ideal) x0 x1) rfl 0 rfl n ⟨c.val - 0, by omega⟩ c (by show 0 + (c.val - 0) = c.val; omega)) ?_
    rw [if_pos (by omega), valueHalf0_apply]
    refine congrArg₂ (headV x0 x1 n) (Fin.ext ?_) (Fin.ext ?_)
    · show 0 = c.val / 256
      omega
    · show c.val - 0 = c.val % 64
      omega
  by_cases h1 : c.val < 65
  · refine Eq.trans (piece _ _ 1 (by show 1 < 12; decide) (val_main_v109 (F := Ideal)) rfl 64 rfl n ⟨c.val - 64, by omega⟩ c (by show 64 + (c.val - 64) = c.val; omega)) ?_
    rw [if_neg (by omega), if_pos (by omega)]
    exact onesCol_apply _
  by_cases h2 : c.val < 128
  · refine Eq.trans (piece _ _ 2 (by show 2 < 12; decide) (val_main_v110 (F := Ideal)) rfl 65 rfl n ⟨c.val - 65, by omega⟩ c (by show 65 + (c.val - 65) = c.val; omega)) ?_
    rw [if_neg (by omega), if_neg (by omega)]
    exact zeroCols_apply _
  by_cases h3 : c.val < 129
  · refine Eq.trans (piece _ _ 3 (by show 3 < 12; decide) (val_main_v109 (F := Ideal)) rfl 128 rfl n ⟨c.val - 128, by omega⟩ c (by show 128 + (c.val - 128) = c.val; omega)) ?_
    rw [if_neg (by omega), if_pos (by omega)]
    exact onesCol_apply _
  by_cases h4 : c.val < 192
  · refine Eq.trans (piece _ _ 4 (by show 4 < 12; decide) (val_main_v110 (F := Ideal)) rfl 129 rfl n ⟨c.val - 129, by omega⟩ c (by show 129 + (c.val - 129) = c.val; omega)) ?_
    rw [if_neg (by omega), if_neg (by omega)]
    exact zeroCols_apply _
  by_cases h5 : c.val < 256
  · refine Eq.trans (piece _ _ 5 (by show 5 < 12; decide) (val_main_v107 (F := Ideal) x0 x1) rfl 192 rfl n ⟨c.val - 192, by omega⟩ c (by show 192 + (c.val - 192) = c.val; omega)) ?_
    rw [if_pos (by omega), valueHalf0_apply]
    refine congrArg₂ (headV x0 x1 n) (Fin.ext ?_) (Fin.ext ?_)
    · show 0 = c.val / 256
      omega
    · show c.val - 192 = c.val % 64
      omega
  by_cases h6 : c.val < 320
  · refine Eq.trans (piece _ _ 6 (by show 6 < 12; decide) (val_main_v108 (F := Ideal) x0 x1) rfl 256 rfl n ⟨c.val - 256, by omega⟩ c (by show 256 + (c.val - 256) = c.val; omega)) ?_
    rw [if_pos (by omega), valueHalf1_apply]
    refine congrArg₂ (headV x0 x1 n) (Fin.ext ?_) (Fin.ext ?_)
    · show 1 = c.val / 256
      omega
    · show c.val - 256 = c.val % 64
      omega
  by_cases h7 : c.val < 321
  · refine Eq.trans (piece _ _ 7 (by show 7 < 12; decide) (val_main_v109 (F := Ideal)) rfl 320 rfl n ⟨c.val - 320, by omega⟩ c (by show 320 + (c.val - 320) = c.val; omega)) ?_
    rw [if_neg (by omega), if_pos (by omega)]
    exact onesCol_apply _
  by_cases h8 : c.val < 384
  · refine Eq.trans (piece _ _ 8 (by show 8 < 12; decide) (val_main_v110 (F := Ideal)) rfl 321 rfl n ⟨c.val - 321, by omega⟩ c (by show 321 + (c.val - 321) = c.val; omega)) ?_
    rw [if_neg (by omega), if_neg (by omega)]
    exact zeroCols_apply _
  by_cases h9 : c.val < 385
  · refine Eq.trans (piece _ _ 9 (by show 9 < 12; decide) (val_main_v109 (F := Ideal)) rfl 384 rfl n ⟨c.val - 384, by omega⟩ c (by show 384 + (c.val - 384) = c.val; omega)) ?_
    rw [if_neg (by omega), if_pos (by omega)]
    exact onesCol_apply _
  by_cases h10 : c.val < 448
  · refine Eq.trans (piece _ _ 10 (by show 10 < 12; decide) (val_main_v110 (F := Ideal)) rfl 385 rfl n ⟨c.val - 385, by omega⟩ c (by show 385 + (c.val - 385) = c.val; omega)) ?_
    rw [if_neg (by omega), if_neg (by omega)]
    exact zeroCols_apply _
  · refine Eq.trans (piece _ _ 11 (by show 11 < 12; decide) (val_main_v108 (F := Ideal) x0 x1) rfl 448 rfl n ⟨c.val - 448, by omega⟩ c (by show 448 + (c.val - 448) = c.val; omega)) ?_
    rw [if_pos (by omega), valueHalf1_apply]
    refine congrArg₂ (headV x0 x1 n) (Fin.ext ?_) (Fin.ext ?_)
    · show 1 = c.val / 256
      omega
    · show c.val - 448 = c.val % 64
      omega

/-! ## The gated layer's results -/

theorem gateQ_eq : val_main_v119 (F := Ideal) x0 x1 = gateQ x0 x1 := by
  funext i
  obtain ⟨n, c, rfl⟩ : ∃ (n : Fin 32768) (c : Fin 128), i = ix2 n c := ⟨i 0, i 1, eq_ix2 i⟩
  exact congrArg (· * gqScale) (cols4_apply x0 x1 n c)

theorem gateK_eq : val_main_v120 (F := Ideal) x0 x1 = gateK x0 x1 := by
  funext i
  obtain ⟨n, c, rfl⟩ : ∃ (n : Fin 32768) (c : Fin 128), i = ix2 n c := ⟨i 0, i 1, eq_ix2 i⟩
  exact cols5_apply x0 x1 n c

theorem gateV_eq : val_main_v121 (F := Ideal) x0 x1 = gateV x0 x1 := by
  funext i
  obtain ⟨n, c, rfl⟩ : ∃ (n : Fin 32768) (c : Fin 256), i = ix2 n c := ⟨i 0, i 1, eq_ix2 i⟩
  exact cols6_apply x0 x1 n c

theorem gateR_eq : val_main_v122 (F := Ideal) x0 x1 = gateR x0 x1 := by
  funext i
  obtain ⟨n, c, rfl⟩ : ∃ (n : Fin 32768) (c : Fin 256), i = ix2 n c := ⟨i 0, i 1, eq_ix2 i⟩
  exact cols7_apply x0 x1 n c

theorem low_apply (n : Fin 32768) (a : Fin 2) (r : Fin 16) :
    val_main_v90 (F := Ideal) x0 x1 (ix3 n a r) = proj x0 x1 n ⟨1536 + a.val * 16 + r.val, by omega⟩ := by
  unfold val_main_v90
  refine (shapeCast_apply _ _ (ix3 n a r) (ix2 n ⟨a.val * 16 + r.val, by omega⟩) ?_).trans ?_
  · rw [Shape.rowMajor_val_two, Shape.rowMajor_val_three]
    show n.val * 32 + (a.val * 16 + r.val) = (n.val * 2 + a.val) * 16 + r.val
    omega
  · refine (cols8_apply x0 x1 n _).trans (congrArg (proj x0 x1 n) (Fin.ext ?_))
    show 1536 + (a.val * 16 + r.val) = 1536 + a.val * 16 + r.val
    omega

theorem arg_apply (n : Fin 32768) (a : Fin 2) (k : Fin 128) :
    val_main_v95 (F := Ideal) x0 x1 x6 x7 (ix3 n a k) = decayArg x0 x1 x6 x7 n a k := by
  show val_main_v92 (F := Ideal) x0 x1 x6 (ix3 n a k) + val_main_v94 (F := Ideal) x7 (ix3 n a k) = _
  refine congrArg₂ (· + ·) ?_ ?_
  · refine (val_main_v92_apply (F := Ideal) x0 x1 x6 _).trans ((val_main_v91_apply x0 x1 x6 _).trans (Finset.sum_congr rfl fun r _ => ?_))
    refine (mul_comm _ _).trans (congrArg₂ (· * ·) ?_ ?_)
    · refine (congrArg (val_main_v90 (F := Ideal) x0 x1) (funext fun i => ?_)).trans (low_apply x0 x1 n a r)
      match i with
      | ⟨0, _⟩ => rfl
      | ⟨1, _⟩ => rfl
      | ⟨2, _⟩ => rfl
    · refine congrArg x6 (funext fun i => ?_)
      match i with
      | ⟨0, _⟩ => rfl
      | ⟨1, _⟩ => rfl
      | ⟨2, _⟩ => rfl
  · refine (val_main_v94_apply (F := Ideal) x7 _).trans ((val_main_v93_apply (F := Ideal) x7 _).trans (congrArg x7 (funext fun i => ?_)))
    match i with
    | ⟨0, _⟩ => rfl
    | ⟨1, _⟩ => rfl

/-- The soft plus's test for what is no number never holds of an extended real. -/
theorem softplus_apply (i : S32768x2x128.Idx) :
    val_main_v96 (F := Ideal) x0 x1 x6 x7 i = logSig (val_main_v95 (F := Ideal) x0 x1 x6 x7 i) := by
  rw [← logSig_eq]
  have ez : (Ideal.ofBits .f32 0x00000000#32 : EReal) = 0 := Ideal.ofBits_zero_f32
  show -(Scalar.select (Ideal.cmp .une _ _) _ _ : EReal) = _
  have hsel : ∀ (v p q : EReal), Scalar.select (Ideal.cmp .une v v) p q = q := fun v p q => by
    simp [Ideal.cmp, Scalar.select]
  rw [hsel]
  refine Eq.trans (b := (fun z : EReal => -(max (-z) (Ideal.ofBits .f32 0x00000000#32)
    + Ideal.log1p (Ideal.exp (-(max (-z - Ideal.ofBits .f32 0x00000000#32) (-(-z - Ideal.ofBits .f32 0x00000000#32)))))))
    (val_main_v95 (F := Ideal) x0 x1 x6 x7 i)) rfl ?_
  beta_reduce
  rw [ez, sub_zero]

theorem decay_eq : val_main_v123 (F := Ideal) x0 x1 x6 x7 = decay x0 x1 x6 x7 := by
  funext i
  obtain ⟨n, c, rfl⟩ : ∃ (n : Fin 32768) (c : Fin 256), i = ix2 n c := ⟨i 0, i 1, eq_ix2 i⟩
  unfold val_main_v123
  refine (shapeCast_apply _ _ (ix2 n c) (ix3 n (⟨c.val / 128, by omega⟩ : Fin 2) (⟨c.val % 128, by omega⟩ : Fin 128)) ?_).trans ?_
  · rw [Shape.rowMajor_val_two, Shape.rowMajor_val_three]
    show (n.val * 2 + c.val / 128) * 128 + c.val % 128 = n.val * 256 + c.val
    omega
  · show Ideal.div (val_main_v96 (F := Ideal) x0 x1 x6 x7 _) (Ideal.ofBits .f32 0x41800000#32) = _
    rw [div_16, softplus_apply, arg_apply]
    rfl

/-! ## The channels -/

theorem feat_apply (b : Fin 8) (s : Fin 4096) (q : Fin 4) (x : Fin 64) :
    val_main_v99 (F := Ideal) x0 x1 (ix4 b s q x) = proj x0 x1 (token b s) ⟨1568 + q.val * 64 + x.val, by omega⟩ := by
  unfold val_main_v99
  refine (shapeCast_apply _ _ (ix4 b s q x) (ix2 (token b s) ⟨q.val * 64 + x.val, by omega⟩) ?_).trans ?_
  · rw [Shape.rowMajor_val_two, Shape.rowMajor_val_four]
    show (b.val * 4096 + s.val) * 256 + (q.val * 64 + x.val) = ((b.val * 4096 + s.val) * 4 + q.val) * 64 + x.val
    omega
  · refine (cols9_apply x0 x1 _ _).trans (congrArg (proj x0 x1 (token b s)) (Fin.ext ?_))
    show 1568 + (q.val * 64 + x.val) = 1568 + q.val * 64 + x.val
    omega

theorem channelsC_eq : val_main_v125 (F := Ideal) x0 x1 x8 = channels x0 x1 x8 := by
  funext i
  obtain ⟨s, c, rfl⟩ : ∃ (s : Fin 4096) (c : Fin 2048), i = ix2 s c := ⟨i 0, i 1, eq_ix2 i⟩
  show val_main_v124 (F := Ideal) x0 x1 x8 (ix2 s c) = _
  unfold val_main_v124
  refine (shapeCast_apply _ _ (ix2 s c) (ix4 s (⟨c.val / 256, by omega⟩ : Fin 8) (⟨c.val % 256 / 64, by omega⟩ : Fin 4) (⟨c.val % 64, by omega⟩ : Fin 64)) ?_).trans ?_
  · rw [Shape.rowMajor_val_two, Shape.rowMajor_val_four]
    show ((s.val * 8 + c.val / 256) * 4 + c.val % 256 / 64) * 64 + c.val % 64 = s.val * 2048 + c.val
    omega
  · refine (val_main_v101_apply (F := Ideal) x0 x1 x8 _).trans ((val_main_v100_apply x0 x1 x8 _).trans (Finset.sum_congr rfl fun z _ => ?_))
    refine (mul_comm _ _).trans (congrArg₂ (· * ·) ?_ ?_)
    · refine (congrArg (val_main_v99 (F := Ideal) x0 x1) (funext fun i => ?_)).trans
        (feat_apply x0 x1 ⟨c.val / 256, by omega⟩ s ⟨c.val % 256 / 64, by omega⟩ z)
      match i with
      | ⟨0, _⟩ => rfl
      | ⟨1, _⟩ => rfl
      | ⟨2, _⟩ => rfl
      | ⟨3, _⟩ => rfl
    · refine congrArg x8 (funext fun i => ?_)
      match i with
      | ⟨0, _⟩ => rfl
      | ⟨1, _⟩ => rfl

theorem channelsS_eq : val_main_v127 (F := Ideal) x0 x1 x9 = channels x0 x1 x9 := by
  funext i
  obtain ⟨s, c, rfl⟩ : ∃ (s : Fin 4096) (c : Fin 2048), i = ix2 s c := ⟨i 0, i 1, eq_ix2 i⟩
  show val_main_v126 (F := Ideal) x0 x1 x9 (ix2 s c) = _
  unfold val_main_v126
  refine (shapeCast_apply _ _ (ix2 s c) (ix4 s (⟨c.val / 256, by omega⟩ : Fin 8) (⟨c.val % 256 / 64, by omega⟩ : Fin 4) (⟨c.val % 64, by omega⟩ : Fin 64)) ?_).trans ?_
  · rw [Shape.rowMajor_val_two, Shape.rowMajor_val_four]
    show ((s.val * 8 + c.val / 256) * 4 + c.val % 256 / 64) * 64 + c.val % 64 = s.val * 2048 + c.val
    omega
  · refine (val_main_v103_apply (F := Ideal) x0 x1 x9 _).trans ((val_main_v102_apply x0 x1 x9 _).trans (Finset.sum_congr rfl fun z _ => ?_))
    refine (mul_comm _ _).trans (congrArg₂ (· * ·) ?_ ?_)
    · refine (congrArg (val_main_v99 (F := Ideal) x0 x1) (funext fun i => ?_)).trans
        (feat_apply x0 x1 ⟨c.val / 256, by omega⟩ s ⟨c.val % 256 / 64, by omega⟩ z)
      match i with
      | ⟨0, _⟩ => rfl
      | ⟨1, _⟩ => rfl
      | ⟨2, _⟩ => rfl
      | ⟨3, _⟩ => rfl
    · refine congrArg x9 (funext fun i => ?_)
      match i with
      | ⟨0, _⟩ => rfl
      | ⟨1, _⟩ => rfl

end Cert.ProjRefIdeal.Results

end
-- ==== Proof.ProjectionClaims.lean ====
/-
  The claims about the in-projection call: its runs leave the arguments and the counters as they were, and its ten results
  are the reference's.
-/
module

public import proofs.«01_k».proof.Defs
public import proofs.«01_k».proof.Proof.Gen.ProjRefIdeal.Run
public import proofs.«01_k».proof.Proof.ProjectionBitsLaunch
public import proofs.«01_k».proof.Proof.ProjectionKernel
public import proofs.«01_k».proof.Proof.ProjectionRef
public import Idealize.ShloMosaic.Lib.Quiescent

@[expose] public section

set_option maxRecDepth 16384

noncomputable section

namespace Cert.ProjectionClaims

open Idealize.ShloMosaic Idealize.ShloMosaic.TcCoe Idealize.SL.Sem
open Cert.Projection

theorem frame_kernel : Cert.quiescent_Proj := fun m ρ _ => Cert.Proj.Run.frame m ρ

theorem frame_ideal : Cert.quiescent_ProjIdeal := fun m ρ _ => Cert.ProjIdeal.Run.frame m ρ

theorem frame_ref : Cert.quiescent_ProjRefIdeal := fun m ρ _ =>
  (θ_run Cert.ProjRefIdeal.defs _ _).mono
    (fun r h => ⟨fun c => (h c).2.2.2.2.2.2.2.2.2.2, sem_eq_zero_of_no_sems (by decide) r.2⟩)
    (Cert.ProjRefIdeal.Value.run (F := Ideal) m ρ)

theorem preserves : Cert.preserves_Proj_ProjIdeal := trivial

/-- The kernel's ten results and the reference's are the same functions of the same arguments. -/
theorem algebraic : Cert.algebraic_ProjIdeal_ProjRefIdeal := by
  intro m ρ m' ρ' _ hagree
  refine ⟨fun c => Cert.ProjIdeal.Results.res12 m c, fun c => Cert.ProjIdeal.Results.res13 m c, fun c => Cert.ProjIdeal.Results.res14 m c,
    fun c => Cert.ProjIdeal.Results.res15 m c, fun c => Cert.ProjIdeal.Results.res16 m c, fun c => Cert.ProjIdeal.Results.res17 m c,
    fun c => Cert.ProjIdeal.Results.res18 m c, fun c => Cert.ProjIdeal.Results.res19 m c, fun c => Cert.ProjIdeal.Results.res20 m c,
    fun c => Cert.ProjIdeal.Results.res21 m c, Cert.ProjIdeal.Results.run m ρ, ?_⟩
  refine (θ_run Cert.ProjRefIdeal.defs _ _).mono (fun r h c => ?_) (Cert.ProjRefIdeal.Value.run (F := Ideal) m' ρ')
  obtain ⟨a0, a1, a2, a3, a4, a5, a6, a7, a8, a9⟩ := hagree c
  obtain ⟨r0, r1, r2, r3, r4, r5, r6, r7, r8, r9, kept⟩ := h c
  refine ⟨r0.trans ?_, r1.trans ?_, r2.trans ?_, r3.trans ?_, r4.trans ?_, r5.trans ?_, r6.trans ?_, r7.trans ?_, r8.trans ?_,
    r9.trans ?_, kept⟩
  · rw [Cert.ProjRefIdeal.Read.val_main_v114_eq (F := Ideal), a0, a1, a2, a3, a4]
    exact Cert.ProjRefIdeal.Results.queries_eq _ _ _ _ _
  · rw [Cert.ProjRefIdeal.Read.val_main_v115_eq (F := Ideal), a0, a1, a2, a3, a5]
    exact Cert.ProjRefIdeal.Results.keys_eq _ _ _ _ _
  · rw [a0, a1]
    refine (Cert.ProjRefIdeal.Read.val_main_v116_eq (F := Ideal) _ _).trans ?_
    exact Cert.ProjRefIdeal.Results.values_eq _ _
  · rw [a0, a1]
    refine (Cert.ProjRefIdeal.Read.val_main_v119_eq (F := Ideal) _ _).trans ?_
    exact Cert.ProjRefIdeal.Results.gateQ_eq _ _
  · rw [a0, a1]
    refine (Cert.ProjRefIdeal.Read.val_main_v120_eq (F := Ideal) _ _).trans ?_
    exact Cert.ProjRefIdeal.Results.gateK_eq _ _
  · rw [a0, a1]
    refine (Cert.ProjRefIdeal.Read.val_main_v121_eq (F := Ideal) _ _).trans ?_
    exact Cert.ProjRefIdeal.Results.gateV_eq _ _
  · rw [a0, a1]
    refine (Cert.ProjRefIdeal.Read.val_main_v122_eq (F := Ideal) _ _).trans ?_
    exact Cert.ProjRefIdeal.Results.gateR_eq _ _
  · rw [Cert.ProjRefIdeal.Read.val_main_v123_eq (F := Ideal), a0, a1, a6, a7]
    exact Cert.ProjRefIdeal.Results.decay_eq _ _ _ _
  · rw [a0, a1, a8]
    refine (Cert.ProjRefIdeal.Read.val_main_v125_eq (F := Ideal) _ _ _).trans ?_
    exact Cert.ProjRefIdeal.Results.channelsC_eq _ _ _
  · rw [a0, a1, a9]
    refine (Cert.ProjRefIdeal.Read.val_main_v127_eq (F := Ideal) _ _ _).trans ?_
    exact Cert.ProjRefIdeal.Results.channelsS_eq _ _ _

end Cert.ProjectionClaims

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnRefIdeal
public import proofs.«01_k».proof.Proof.Gen.Pre_scores_finite
public import proofs.«01_k».proof.Proof.Gen.Pre_tables_ok
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.AttentionClaims
public import proofs.«01_k».proof.Proof.ExpertsClaims
public import proofs.«01_k».proof.Proof.ProjectionClaims
public import Idealize.ShloMosaic.Adequacy
public import Idealize.ShloMosaic.Init

@[expose] public section

noncomputable section

namespace Cert.Proof

/-- The claims about the attention call, the expert call and the in-projection call. -/
theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.Proj.Gen.facts, Cert.ProjIdeal.Gen.facts, Cert.ProjRefIdeal.Gen.facts, Cert.Pre_scores_finite.Gen.facts, Cert.Pre_tables_ok.Gen.facts,
    AttentionClaims.frame_kernel, AttentionClaims.frame_ideal, AttentionClaims.frame_ideal_pre,
    AttentionClaims.frame_ref, AttentionClaims.frame_ref_pre,
    ExpertsClaims.frame_kernel, ExpertsClaims.frame_ideal, ExpertsClaims.frame_ref, ExpertsClaims.frame_ref_pre,
    ProjectionClaims.frame_kernel, ProjectionClaims.frame_ideal, ProjectionClaims.frame_ref,
    AttentionClaims.preserves, AttentionClaims.algebraic, ExpertsClaims.preserves, ExpertsClaims.algebraic,
    ProjectionClaims.preserves, ProjectionClaims.algebraic⟩

end Cert.Proof

end
